-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v106_0)) (v1 : (c : Dev Cert.KernelIdeal.nD) → Buf (Elt Ideal) ((c.tc : Thread Cert.KernelIdeal.nD Cert.KernelIdeal.τ).loc Cert.KernelIdeal.main_v106_1)) (v2 : (c : Dev Cert.KernelIdeal.nD) → Buf (Elt Ideal) ((c.tc : Thread Cert.KernelIdeal.nD Cert.KernelIdeal.τ).loc Cert.KernelIdeal.main_v106_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106_0) = v0 c
          ∧ r.2.mem ((c.tc : Thread Cert.KernelIdeal.nD Cert.KernelIdeal.τ).loc Cert.KernelIdeal.main_v106_1) = v1 c
          ∧ r.2.mem ((c.tc : Thread Cert.KernelIdeal.nD Cert.KernelIdeal.τ).loc Cert.KernelIdeal.main_v106_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite.lean ====
abbrev S2x2048x768 : Shape := ⟨3, ![2, 2048, 768]⟩
abbrev S2x2048x1024 : Shape := ⟨3, ![2, 2048, 1024]⟩
abbrev S2x2048x32 : Shape := ⟨3, ![2, 2048, 32]⟩
abbrev S2x2048x512 : Shape := ⟨3, ![2, 2048, 512]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S2x2048x32 : S_.BroadcastsInDim S2x2048x32 (![] : Fin 0 → Fin S2x2048x32.rank)
  reducesTo_S2x2048x32_S_d0_1_2 : S2x2048x32.ReducesTo [0, 1, 2] S_
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn_part1 {F : FTy → Type} [FloatOps F] (main_v13 : IVec S_ 1) (main_v16 : IVec S2x2048x512 1) : IVec S_ 1 :=
  let main_c_5 : IVec S_ 1 := constantI S_ 1 1#1
  let main_v17 : IVec S_ 1 := (fun x v => Host.reduce IntOp.andi x v reducesTo_S2x2048x512_S_d0_1_2 h_S_) main_v16 main_c_5
  let main_v18 : IVec S_ 1 := andi main_v13 main_v17
  main_v18

def fn {F : FTy → Type} [FloatOps F] (main_arg0 : FVec F S2x2048x768 .f32) (main_arg1 : FVec F S2x2048x1024 .f32) (main_arg2 : FVec F S2x2048x32 .f32) (main_arg3 : FVec F S2x2048x512 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x32 .f32 := Host.absf main_arg2
  let main_cst_2 : FVec F S_ .f32 := constant S_ .f32 0x7F800000#32
  let main_v10 : FVec F S2x2048x32 .f32 := broadcastInDim S2x2048x32 ![] bcast_S_S2x2048x32 main_cst_2
  let main_v11 : IVec S2x2048x32 1 := cmpf .olt main_v9 main_v10
  let main_c_3 : IVec S_ 1 := constantI S_ 1 1#1
  let main_v12 : IVec S_ 1 := (fun x v => Host.reduce IntOp.andi x v reducesTo_S2x2048x32_S_d0_1_2 h_S_) main_v11 main_c_3
  let main_v13 : IVec S_ 1 := andi main_v8 main_v12
  let main_v14 : FVec F S2x2048x512 .f32 := Host.absf main_arg3
  let main_cst_4 : FVec F S_ .f32 := constant S_ .f32 0x7F800000#32
  let main_v15 : FVec F S2x2048x512 .f32 := broadcastInDim S2x2048x512 ![] bcast_S_S2x2048x512 main_cst_4
  let main_v16 : IVec S2x2048x512 1 := cmpf .olt main_v14 main_v15
  fn_part1 (F := F) main_v13 main_v16
-- ==== Kernel.lean ====
abbrev S2x2048x768 : Shape := ⟨3, ![2, 2048, 768]⟩
abbrev S2x2048x1024 : Shape := ⟨3, ![2, 2048, 1024]⟩
abbrev S2x2048x32 : Shape := ⟨3, ![2, 2048, 32]⟩
abbrev S2x2048x512 : Shape := ⟨3, ![2, 2048, 512]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2x2048x8x96 : Shape := ⟨4, ![2, 2048, 8, 96]⟩
abbrev S2x2048x8x64 : Shape := ⟨4, ![2, 2048, 8, 64]⟩
abbrev S2x2048x8x32 : Shape := ⟨4, ![2, 2048, 8, 32]⟩
abbrev S2048x1x32 : Shape := ⟨3, ![2048, 1, 32]⟩
abbrev S2x2048x8x16 : Shape := ⟨4, ![2, 2048, 8, 16]⟩
abbrev S1x2048x1x32 : Shape := ⟨4, ![1, 2048, 1, 32]⟩
abbrev S2x2048x8x128 : Shape := ⟨4, ![2, 2048, 8, 128]⟩
abbrev S2x2048x16 : Shape := ⟨3, ![2, 2048, 16]⟩
abbrev S1x2048x32 : Shape := ⟨3, ![1, 2048, 32]⟩
abbrev S2x8x2048x2048 : Shape := ⟨4, ![2, 8, 2048, 2048]⟩
abbrev S2x2048x2048x8 : Shape := ⟨4, ![2, 2048, 2048, 8]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x4x2x2048x1 : Shape := ⟨5, ![2, 4, 2, 2048, 1]⟩
abbrev S2x4x2x2048x64 : Shape := ⟨5, ![2, 4, 2, 2048, 64]⟩
abbrev S2x4x2048x2x64 : Shape := ⟨5, ![2, 4, 2048, 2, 64]⟩
abbrev S2x4x2048x128 : Shape := ⟨4, ![2, 4, 2048, 128]⟩
abbrev S2x2048x128 : Shape := ⟨3, ![2, 2048, 128]⟩
abbrev S2048x64 : Shape := ⟨2, ![2048, 64]⟩
abbrev S2048x128 : Shape := ⟨2, ![2048, 128]⟩
abbrev S1x256x256 : Shape := ⟨3, ![1, 256, 256]⟩
abbrev S1x2048x256 : Shape := ⟨3, ![1, 2048, 256]⟩
abbrev S1x2048x128 : Shape := ⟨3, ![1, 2048, 128]⟩
abbrev S1x256x128 : Shape := ⟨3, ![1, 256, 128]⟩
abbrev S1x1x256x128 : Shape := ⟨4, ![1, 1, 256, 128]⟩
abbrev S2048x256 : Shape := ⟨2, ![2048, 256]⟩
abbrev S256x128 : Shape := ⟨2, ![256, 128]⟩
abbrev S256x2048 : Shape := ⟨2, ![256, 2048]⟩
abbrev S1x1x256x1 : Shape := ⟨4, ![1, 1, 256, 1]⟩
abbrev S256x1 : Shape := ⟨2, ![256, 1]⟩
abbrev S256 : Shape := ⟨1, ![256]⟩

abbrev nBuf : Space → Nat
  | .hbm => 135
  | .vmem => 24
  | .smem => 0
  | _ => 0

abbrev hbmTy0_0 (i : Nat) : BufTy := match i % 128 with
  | 0 => ⟨S2x2048x768, .f32⟩
  | 1 => ⟨S2x2048x1024, .f32⟩
  | 2 => ⟨S2x2048x32, .f32⟩
  | 3 => ⟨S2x2048x512, .f32⟩
  | 4 => ⟨S16, .f32⟩
  | 5 => ⟨S_, .f32⟩
  | 6 => ⟨S16, .f32⟩
  | 7 => ⟨S16, .f32⟩
  | 8 => ⟨S_, .f32⟩
  | 9 => ⟨S16, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S2048, .f32⟩
  | 19 => ⟨S2048x1, .f32⟩
  | 20 => ⟨S1x16, .f32⟩
  | 21 => ⟨S2048x16, .f32⟩
  | 22 => ⟨S2048x16, .f32⟩
  | 23 => ⟨S2048x16, .f32⟩
  | 24 => ⟨S2048x32, .f32⟩
  | 25 => ⟨S2048x32, .f32⟩
  | 26 => ⟨S2048x32, .f32⟩
  | 27 => ⟨S2x2048x8x96, .f32⟩
  | 28 => ⟨S2x2048x8x64, .f32⟩
  | 29 => ⟨S2x2048x8x32, .f32⟩
  | 30 => ⟨S2048x1x32, .f32⟩
  | 31 => ⟨S2048x1x32, .f32⟩
  | 32 => ⟨S2x2048x8x16, .f32⟩
  | 33 => ⟨S2x2048x8x16, .f32⟩
  | 34 => ⟨S2x2048x8x16, .f32⟩
  | 35 => ⟨S2x2048x8x32, .f32⟩
  | 36 => ⟨S1x2048x1x32, .f32⟩
  | 37 => ⟨S2x2048x8x32, .f32⟩
  | 38 => ⟨S2x2048x8x32, .f32⟩
  | 39 => ⟨S1x2048x1x32, .f32⟩
  | 40 => ⟨S2x2048x8x32, .f32⟩
  | 41 => ⟨S2x2048x8x32, .f32⟩
  | 42 => ⟨S2x2048x8x32, .f32⟩
  | 43 => ⟨S2x2048x8x128, .f32⟩
  | 44 => ⟨S2x2048x8x64, .f32⟩
  | 45 => ⟨S2x2048x8x64, .f32⟩
  | 46 => ⟨S2x2048x16, .f32⟩
  | 47 => ⟨S2x2048x16, .f32⟩
  | 48 => ⟨S2x2048x16, .f32⟩
  | 49 => ⟨S2x2048x32, .f32⟩
  | 50 => ⟨S1x2048x32, .f32⟩
  | 51 => ⟨S2x2048x32, .f32⟩
  | 52 => ⟨S2x2048x32, .f32⟩
  | 53 => ⟨S1x2048x32, .f32⟩
  | 54 => ⟨S2x2048x32, .f32⟩
  | 55 => ⟨S2x2048x32, .f32⟩
  | 56 => ⟨S2x2048x32, .f32⟩
  | 57 => ⟨S2x8x2048x2048, .f32⟩
  | 58 => ⟨S2x2048x2048x8, .f32⟩
  | 59 => ⟨S2x8x2048x2048, .f32⟩
  | 60 => ⟨S2x8x2048x2048, .f32⟩
  | 61 => ⟨S_, .f32⟩
  | 62 => ⟨S2x8x2048x2048, .f32⟩
  | 63 => ⟨S2x8x2048x2048, .f32⟩
  | 64 => ⟨S_, .f32⟩
  | 65 => ⟨S2x8x2048, .f32⟩
  | 66 => ⟨S2x8x2048x1, .f32⟩
  | 67 => ⟨S2x8x2048x2048, .f32⟩
  | 68 => ⟨S2x8x2048x2048, .f32⟩
  | 69 => ⟨S2x8x2048x2048, .f32⟩
  | 70 => ⟨S_, .f32⟩
  | 71 => ⟨S2x8x2048, .f32⟩
  | 72 => ⟨S2x8x2048x1, .f32⟩
  | 73 => ⟨S2x8x2048x2048, .f32⟩
  | 74 => ⟨S2x8x2048x2048, .f32⟩
  | 75 => ⟨S2x8x64x2048, .f32⟩
  | 76 => ⟨S2x2048x8x64, .f32⟩
  | 77 => ⟨S2x2048x512, .f32⟩
  | 78 => ⟨S2x8x2048x1, .f32⟩
  | 79 => ⟨S2x8x2048x1, .f32⟩
  | 80 => ⟨S2x4x2x2048x1, .f32⟩
  | 81 => ⟨S2x4x2x2048x64, .f32⟩
  | 82 => ⟨S2x4x2048x2x64, .f32⟩
  | 83 => ⟨S2x4x2048x128, .f32⟩
  | 84 => ⟨S2x2048x8x96, .f32⟩
  | 85 => ⟨S_, .i32⟩
  | 86 => ⟨S_, .f32⟩
  | 87 => ⟨S2x2048x8x128, .f32⟩
  | 88 => ⟨S2x2048x1024, .f32⟩
  | 89 => ⟨S_, .i32⟩
  | 90 => ⟨S_, .f32⟩
  | 91 => ⟨S2x2048x128, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S16, .f32⟩
  | 100 => ⟨S_, .f32⟩
  | 101 => ⟨S16, .f32⟩
  | 102 => ⟨S16, .f32⟩
  | 103 => ⟨S_, .f32⟩
  | 104 => ⟨S16, .f32⟩
  | 105 => ⟨S16, .f32⟩
  | 106 => ⟨S2048, .f32⟩
  | 107 => ⟨S2048x1, .f32⟩
  | 108 => ⟨S1x16, .f32⟩
  | 109 => ⟨S2048x16, .f32⟩
  | 110 => ⟨S2048x16, .f32⟩
  | 111 => ⟨S2048x16, .f32⟩
  | 112 => ⟨S2048x16, .f32⟩
  | 113 => ⟨S2048x16, .f32⟩
  | 114 => ⟨S_, .f32⟩
  | 115 => ⟨S2048x16, .f32⟩
  | 116 => ⟨S_, .f32⟩
  | 117 => ⟨S2048x64, .f32⟩
  | 118 => ⟨S_, .f32⟩
  | 119 => ⟨S2048x32, .f32⟩
  | 120 => ⟨S2048x128, .f32⟩
  | 121 => ⟨S_, .f32⟩
  | 122 => ⟨S2048x64, .f32⟩
  | 123 => ⟨S2048x16, .f32⟩
  | 124 => ⟨S_, .f32⟩
  | 125 => ⟨S2048x32, .f32⟩
  | 126 => ⟨S2048x128, .f32⟩
  | 127 => ⟨S_, .f32⟩
  | _ => ⟨S2x2048x768, .f32⟩

abbrev hbmTy0_1 (i : Nat) : BufTy := match i % 128 with
  | 0 => ⟨S2048x64, .f32⟩
  | 1 => ⟨S_, .f32⟩
  | 2 => ⟨S2048x32, .f32⟩
  | 3 => ⟨S2048x128, .f32⟩
  | 4 => ⟨S2x2048x1024, .f32⟩
  | 5 => ⟨S2x2048x1024, .f32⟩
  | 6 => ⟨S2x2048x128, .f32⟩
  | _ => ⟨S2x2048x768, .f32⟩

abbrev hbmTy (i : Nat) : BufTy := match i / 128 with
  | 0 => hbmTy0_0 i
  | 1 => hbmTy0_1 i
  | _ => ⟨S2x2048x768, .f32⟩

abbrev bufTy : (tb : Table) → Fin (tcTables nBuf tb) → BufTy
  | .hbm, ⟨i, _⟩ => hbmTy i
  | .local _ .vmem, ⟨0, _⟩ => ⟨S1x256x256, .f32⟩
  | .local _ .vmem, ⟨1, _⟩ => ⟨S1x256x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x128, .f32⟩
  | .local _ .vmem, ⟨5, _⟩ => ⟨S1x2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S1x256x128, .f32⟩
  | .local _ .vmem, ⟨10, _⟩ => ⟨S1x256x128, .f32⟩
  | .local _ .vmem, ⟨11, _⟩ => ⟨S1x1x256x128, .f32⟩
  | .local _ .vmem, ⟨12, _⟩ => ⟨S1x1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x256, .f32⟩
  | .local _ .vmem, ⟨16, _⟩ => ⟨S1x256x256, .f32⟩
  | .local _ .vmem, ⟨17, _⟩ => ⟨S1x2048x256, .f32⟩
  | .local _ .vmem, ⟨18, _⟩ => ⟨S1x2048x256, .f32⟩
  | .local _ .vmem, ⟨19, _⟩ => ⟨S1x2048x128, .f32⟩
  | .local _ .vmem, ⟨20, _⟩ => ⟨S1x2048x128, .f32⟩
  | .local _ .vmem, ⟨21, _⟩ => ⟨S2x2048x128, .bf16⟩
  | .local _ .vmem, ⟨22, _⟩ => ⟨S2048x256, .bf16⟩
  | .local _ .vmem, ⟨23, _⟩ => ⟨S2x2048x128, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_3 : Ref sig .tc := ⟨.hbm, 61, rfl⟩
abbrev main_v53 : Ref sig .tc := ⟨.hbm, 62, rfl⟩
abbrev main_v54 : Ref sig .tc := ⟨.hbm, 63, rfl⟩
abbrev main_cst_4 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_5 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_c : Ref sig .tc := ⟨.hbm, 85, rfl⟩
abbrev main_call0_v0 : Ref sig .tc := ⟨.hbm, 86, rfl⟩
abbrev main_v74 : Ref sig .tc := ⟨.hbm, 87, rfl⟩
abbrev main_v75 : Ref sig .tc := ⟨.hbm, 88, rfl⟩
abbrev main_c_6 : Ref sig .tc := ⟨.hbm, 89, rfl⟩
abbrev main_call1_v0 : Ref sig .tc := ⟨.hbm, 90, rfl⟩
abbrev main_v76 : Ref sig .tc := ⟨.hbm, 91, rfl⟩
abbrev main_v77 : Ref sig .tc := ⟨.hbm, 92, rfl⟩
abbrev main_cst_7 : Ref sig .tc := ⟨.hbm, 93, rfl⟩
abbrev main_v78 : Ref sig .tc := ⟨.hbm, 94, rfl⟩
abbrev main_v79 : Ref sig .tc := ⟨.hbm, 95, rfl⟩
abbrev main_cst_8 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_9 : Ref sig .tc := ⟨.hbm, 100, rfl⟩
abbrev main_v83 : Ref sig .tc := ⟨.hbm, 101, rfl⟩
abbrev main_v84 : Ref sig .tc := ⟨.hbm, 102, rfl⟩
abbrev main_cst_10 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_11 : Ref sig .tc := ⟨.hbm, 114, rfl⟩
abbrev main_v95 : Ref sig .tc := ⟨.hbm, 115, rfl⟩
abbrev main_cst_12 : Ref sig .tc := ⟨.hbm, 116, rfl⟩
abbrev main_v96 : Ref sig .tc := ⟨.hbm, 117, rfl⟩
abbrev main_cst_13 : Ref sig .tc := ⟨.hbm, 118, rfl⟩
abbrev main_v97 : Ref sig .tc := ⟨.hbm, 119, rfl⟩
abbrev main_v98 : Ref sig .tc := ⟨.hbm, 120, rfl⟩
abbrev main_cst_14 : Ref sig .tc := ⟨.hbm, 121, rfl⟩
abbrev main_v99 : Ref sig .tc := ⟨.hbm, 122, rfl⟩
abbrev main_v100 : Ref sig .tc := ⟨.hbm, 123, rfl⟩
abbrev main_cst_15 : Ref sig .tc := ⟨.hbm, 124, rfl⟩
abbrev main_v101 : Ref sig .tc := ⟨.hbm, 125, rfl⟩
abbrev main_v102 : Ref sig .tc := ⟨.hbm, 126, rfl⟩
abbrev main_cst_16 : Ref sig .tc := ⟨.hbm, 127, rfl⟩
abbrev main_v103 : Ref sig .tc := ⟨.hbm, 128, rfl⟩
abbrev main_cst_17 : Ref sig .tc := ⟨.hbm, 129, rfl⟩
abbrev main_v104 : Ref sig .tc := ⟨.hbm, 130, rfl⟩
abbrev main_v105 : Ref sig .tc := ⟨.hbm, 131, rfl⟩
abbrev main_v106_0 : Ref sig .tc := ⟨.hbm, 132, rfl⟩
abbrev main_v106_1 : Ref sig .tc := ⟨.hbm, 133, rfl⟩
abbrev main_v106_2 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c256_i32 : BitVec 32 := 256#32
  let v8 : BitVec 32 := Scalar.muli arg2 c256_i32
  v8
def k0_off1 (i : grid0.Coords) : Fin 2 → Nat :=
  let arg2 : BitVec 32 := BitVec.ofNat 32 (i 2).val
  let c256_i32 : BitVec 32 := 256#32
  let v8 : BitVec 32 := Scalar.muli arg2 c256_i32
  let v9 : BitVec 32 := v8
  let v17 : Index := Scalar.indexCast v9
  let c0_9 : Index := 0#32
  ![v17.toNat, 0]
def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg2 : BitVec 32 := BitVec.ofNat 32 (i 2).val
  let c7_i32 : BitVec 32 := 7#32
  let v165 : BitVec 1 := Scalar.cmpi .eq arg2 c7_i32
  let v166 : BitVec 32 := Scalar.extui v165
  let c0_i32_99 : BitVec 32 := 0#32
  let v167 : BitVec 1 := Scalar.cmpi .ne v166 c0_i32_99
  v167

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== ReferenceIdeal.lean ====
abbrev S2x2048x768 : Shape := ⟨3, ![2, 2048, 768]⟩
abbrev S2x2048x1024 : Shape := ⟨3, ![2, 2048, 1024]⟩
abbrev S2x2048x32 : Shape := ⟨3, ![2, 2048, 32]⟩
abbrev S2x2048x512 : Shape := ⟨3, ![2, 2048, 512]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2x2048x8x96 : Shape := ⟨4, ![2, 2048, 8, 96]⟩
abbrev S2x2048x8x64 : Shape := ⟨4, ![2, 2048, 8, 64]⟩
abbrev S2x2048x8x32 : Shape := ⟨4, ![2, 2048, 8, 32]⟩
abbrev S2048x1x32 : Shape := ⟨3, ![2048, 1, 32]⟩
abbrev S2x2048x8x16 : Shape := ⟨4, ![2, 2048, 8, 16]⟩
abbrev S1x2048x1x32 : Shape := ⟨4, ![1, 2048, 1, 32]⟩
abbrev S2x2048x8x128 : Shape := ⟨4, ![2, 2048, 8, 128]⟩
abbrev S2x2048x16 : Shape := ⟨3, ![2, 2048, 16]⟩
abbrev S1x2048x32 : Shape := ⟨3, ![1, 2048, 32]⟩
abbrev S2x8x2048x2048 : Shape := ⟨4, ![2, 8, 2048, 2048]⟩
abbrev S2x2048x2048x8 : Shape := ⟨4, ![2, 2048, 2048, 8]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x8x2048x64 : Shape := ⟨4, ![2, 8, 2048, 64]⟩
abbrev S2x2048x128 : Shape := ⟨3, ![2, 2048, 128]⟩

abbrev nBuf : Space → Nat
  | .hbm => 172
  | .vmem => 0
  | .smem => 0
  | _ => 0

abbrev hbmTy0_0 (i : Nat) : BufTy := match i % 128 with
  | 0 => ⟨S2x2048x768, .f32⟩
  | 1 => ⟨S2x2048x1024, .f32⟩
  | 2 => ⟨S2x2048x32, .f32⟩
  | 3 => ⟨S2x2048x512, .f32⟩
  | 4 => ⟨S16, .f32⟩
  | 5 => ⟨S_, .f32⟩
  | 6 => ⟨S16, .f32⟩
  | 7 => ⟨S16, .f32⟩
  | 8 => ⟨S_, .f32⟩
  | 9 => ⟨S16, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S2048, .f32⟩
  | 19 => ⟨S2048x1, .f32⟩
  | 20 => ⟨S1x16, .f32⟩
  | 21 => ⟨S2048x16, .f32⟩
  | 22 => ⟨S2048x16, .f32⟩
  | 23 => ⟨S2048x16, .f32⟩
  | 24 => ⟨S2048x32, .f32⟩
  | 25 => ⟨S2048x32, .f32⟩
  | 26 => ⟨S2048x32, .f32⟩
  | 27 => ⟨S2x2048x8x96, .f32⟩
  | 28 => ⟨S2x2048x8x64, .f32⟩
  | 29 => ⟨S2x2048x8x32, .f32⟩
  | 30 => ⟨S2048x1x32, .f32⟩
  | 31 => ⟨S2048x1x32, .f32⟩
  | 32 => ⟨S2x2048x8x16, .f32⟩
  | 33 => ⟨S2x2048x8x16, .f32⟩
  | 34 => ⟨S2x2048x8x16, .f32⟩
  | 35 => ⟨S2x2048x8x32, .f32⟩
  | 36 => ⟨S1x2048x1x32, .f32⟩
  | 37 => ⟨S2x2048x8x32, .f32⟩
  | 38 => ⟨S2x2048x8x32, .f32⟩
  | 39 => ⟨S1x2048x1x32, .f32⟩
  | 40 => ⟨S2x2048x8x32, .f32⟩
  | 41 => ⟨S2x2048x8x32, .f32⟩
  | 42 => ⟨S2x2048x8x32, .f32⟩
  | 43 => ⟨S2x2048x8x128, .f32⟩
  | 44 => ⟨S2x2048x8x64, .f32⟩
  | 45 => ⟨S2x2048x8x64, .f32⟩
  | 46 => ⟨S2x2048x16, .f32⟩
  | 47 => ⟨S2x2048x16, .f32⟩
  | 48 => ⟨S2x2048x16, .f32⟩
  | 49 => ⟨S2x2048x32, .f32⟩
  | 50 => ⟨S1x2048x32, .f32⟩
  | 51 => ⟨S2x2048x32, .f32⟩
  | 52 => ⟨S2x2048x32, .f32⟩
  | 53 => ⟨S1x2048x32, .f32⟩
  | 54 => ⟨S2x2048x32, .f32⟩
  | 55 => ⟨S2x2048x32, .f32⟩
  | 56 => ⟨S2x2048x32, .f32⟩
  | 57 => ⟨S2x8x2048x2048, .f32⟩
  | 58 => ⟨S2x2048x2048x8, .f32⟩
  | 59 => ⟨S2x8x2048x2048, .f32⟩
  | 60 => ⟨S2x8x2048x2048, .f32⟩
  | 61 => ⟨S_, .f32⟩
  | 62 => ⟨S2x8x2048x2048, .f32⟩
  | 63 => ⟨S2x8x2048x2048, .f32⟩
  | 64 => ⟨S_, .f32⟩
  | 65 => ⟨S2x8x2048, .f32⟩
  | 66 => ⟨S2x8x2048x1, .f32⟩
  | 67 => ⟨S2x8x2048x2048, .f32⟩
  | 68 => ⟨S2x8x2048x2048, .i1⟩
  | 69 => ⟨S2x8x2048x2048, .f32⟩
  | 70 => ⟨S_, .f32⟩
  | 71 => ⟨S2x8x2048, .f32⟩
  | 72 => ⟨S_, .f32⟩
  | 73 => ⟨S2x8x2048, .f32⟩
  | 74 => ⟨S2x8x2048, .f32⟩
  | 75 => ⟨S_, .f32⟩
  | 76 => ⟨S2x8x2048, .f32⟩
  | 77 => ⟨S2x8x2048, .i1⟩
  | 78 => ⟨S_, .f32⟩
  | 79 => ⟨S2x8x2048, .f32⟩
  | 80 => ⟨S2x8x2048, .i1⟩
  | 81 => ⟨S_, .f32⟩
  | 82 => ⟨S2x8x2048, .f32⟩
  | 83 => ⟨S_, .f32⟩
  | 84 => ⟨S2x8x2048, .f32⟩
  | 85 => ⟨S_, .f32⟩
  | 86 => ⟨S2x8x2048, .f32⟩
  | 87 => ⟨S2x8x2048, .f32⟩
  | 88 => ⟨S2x8x2048, .f32⟩
  | 89 => ⟨S2x8x2048x1, .f32⟩
  | 90 => ⟨S2x8x2048x2048, .f32⟩
  | 91 => ⟨S2x8x2048x2048, .f32⟩
  | 92 => ⟨S2x8x2048x2048, .f32⟩
  | 93 => ⟨S_, .f32⟩
  | 94 => ⟨S2x8x2048, .f32⟩
  | 95 => ⟨S2x8x2048x1, .f32⟩
  | 96 => ⟨S2x8x2048x2048, .f32⟩
  | 97 => ⟨S2x8x2048x2048, .f32⟩
  | 98 => ⟨S2x8x2048x1, .f32⟩
  | 99 => ⟨S_, .f32⟩
  | 100 => ⟨S2x8x2048x1, .f32⟩
  | 101 => ⟨S2x8x2048x1, .f32⟩
  | 102 => ⟨S2x8x64x2048, .f32⟩
  | 103 => ⟨S2x2048x8x64, .f32⟩
  | 104 => ⟨S2x2048x512, .f32⟩
  | 105 => ⟨S2x2048x8x64, .f32⟩
  | 106 => ⟨S2x8x64x2048, .f32⟩
  | 107 => ⟨S2x8x2048x2048, .f32⟩
  | 108 => ⟨S2x8x64x2048, .f32⟩
  | 109 => ⟨S2x2048x8x64, .f32⟩
  | 110 => ⟨S2x8x2048x2048, .f32⟩
  | 111 => ⟨S2x8x2048x2048, .f32⟩
  | 112 => ⟨S2x8x2048x2048, .f32⟩
  | 113 => ⟨S_, .f32⟩
  | 114 => ⟨S2x8x2048, .f32⟩
  | 115 => ⟨S2x8x2048x1, .f32⟩
  | 116 => ⟨S2x8x2048x1, .f32⟩
  | 117 => ⟨S2x8x2048x2048, .f32⟩
  | 118 => ⟨S2x8x2048x2048, .f32⟩
  | 119 => ⟨S_, .f32⟩
  | 120 => ⟨S2x8x2048, .f32⟩
  | 121 => ⟨S2x8x2048x2048, .f32⟩
  | 122 => ⟨S2x8x2048x2048, .f32⟩
  | 123 => ⟨S2x8x2048x2048, .f32⟩
  | 124 => ⟨S_, .f32⟩
  | 125 => ⟨S2x8x2048x2048, .f32⟩
  | 126 => ⟨S2x8x2048x2048, .f32⟩
  | 127 => ⟨S2x2048x2048x8, .f32⟩
  | _ => ⟨S2x2048x768, .f32⟩

abbrev hbmTy0_1 (i : Nat) : BufTy := match i % 128 with
  | 0 => ⟨S2x2048x8x32, .f32⟩
  | 1 => ⟨S2x2048x32, .f32⟩
  | 2 => ⟨S2x8x2048x64, .f32⟩
  | 3 => ⟨S2x2048x8x64, .f32⟩
  | 4 => ⟨S2x8x2048x64, .f32⟩
  | 5 => ⟨S2x2048x8x64, .f32⟩
  | 6 => ⟨S2x2048x32, .f32⟩
  | 7 => ⟨S2x2048x32, .f32⟩
  | 8 => ⟨S2x2048x32, .f32⟩
  | 9 => ⟨S2x2048x32, .f32⟩
  | 10 => ⟨S2x2048x16, .f32⟩
  | 11 => ⟨S2x2048x16, .f32⟩
  | 12 => ⟨S2x2048x16, .f32⟩
  | 13 => ⟨S2x2048x32, .f32⟩
  | 14 => ⟨S2x2048x32, .f32⟩
  | 15 => ⟨S_, .f32⟩
  | 16 => ⟨S2x2048x8x128, .f32⟩
  | 17 => ⟨S_, .f32⟩
  | 18 => ⟨S2x2048x8x128, .f32⟩
  | 19 => ⟨S2x2048x8x128, .f32⟩
  | 20 => ⟨S2x2048x1024, .f32⟩
  | 21 => ⟨S2x2048x8x32, .f32⟩
  | 22 => ⟨S2x2048x8x32, .f32⟩
  | 23 => ⟨S2x2048x8x32, .f32⟩
  | 24 => ⟨S2x2048x8x32, .f32⟩
  | 25 => ⟨S2x2048x8x16, .f32⟩
  | 26 => ⟨S2x2048x8x16, .f32⟩
  | 27 => ⟨S2x2048x8x16, .f32⟩
  | 28 => ⟨S2x2048x8x32, .f32⟩
  | 29 => ⟨S2x2048x8x32, .f32⟩
  | 30 => ⟨S_, .f32⟩
  | 31 => ⟨S2x2048x8x96, .f32⟩
  | 32 => ⟨S_, .f32⟩
  | 33 => ⟨S2x2048x8x96, .f32⟩
  | 34 => ⟨S2x2048x8x96, .f32⟩
  | 35 => ⟨S2x2048x768, .f32⟩
  | 36 => ⟨S2x2048x8x96, .f32⟩
  | 37 => ⟨S_, .i32⟩
  | 38 => ⟨S_, .f32⟩
  | 39 => ⟨S2x2048x8x128, .f32⟩
  | 40 => ⟨S2x2048x1024, .f32⟩
  | 41 => ⟨S_, .i32⟩
  | 42 => ⟨S_, .f32⟩
  | 43 => ⟨S2x2048x128, .f32⟩
  | _ => ⟨S2x2048x768, .f32⟩

abbrev hbmTy (i : Nat) : BufTy := match i / 128 with
  | 0 => hbmTy0_0 i
  | 1 => hbmTy0_1 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_3 : Ref sig .tc := ⟨.hbm, 61, rfl⟩
abbrev main_v53 : Ref sig .tc := ⟨.hbm, 62, rfl⟩
abbrev main_v54 : Ref sig .tc := ⟨.hbm, 63, rfl⟩
abbrev main_cst_4 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_5 : Ref sig .tc := ⟨.hbm, 70, rfl⟩
abbrev main_v60 : Ref sig .tc := ⟨.hbm, 71, rfl⟩
abbrev main_cst_6 : Ref sig .tc := ⟨.hbm, 72, rfl⟩
abbrev main_v61 : Ref sig .tc := ⟨.hbm, 73, rfl⟩
abbrev main_v62 : Ref sig .tc := ⟨.hbm, 74, rfl⟩
abbrev main_cst_7 : Ref sig .tc := ⟨.hbm, 75, rfl⟩
abbrev main_v63 : Ref sig .tc := ⟨.hbm, 76, rfl⟩
abbrev main_v64 : Ref sig .tc := ⟨.hbm, 77, rfl⟩
abbrev main_cst_8 : Ref sig .tc := ⟨.hbm, 78, rfl⟩
abbrev main_v65 : Ref sig .tc := ⟨.hbm, 79, rfl⟩
abbrev main_v66 : Ref sig .tc := ⟨.hbm, 80, rfl⟩
abbrev main_cst_9 : Ref sig .tc := ⟨.hbm, 81, rfl⟩
abbrev main_v67 : Ref sig .tc := ⟨.hbm, 82, rfl⟩
abbrev main_cst_10 : Ref sig .tc := ⟨.hbm, 83, rfl⟩
abbrev main_v68 : Ref sig .tc := ⟨.hbm, 84, rfl⟩
abbrev main_cst_11 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_12 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_13 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_14 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_15 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_16 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_cst_17 : Ref sig .tc := ⟨.hbm, 143, rfl⟩
abbrev main_v121 : Ref sig .tc := ⟨.hbm, 144, rfl⟩
abbrev main_cst_18 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_cst_19 : Ref sig .tc := ⟨.hbm, 158, rfl⟩
abbrev main_v134 : Ref sig .tc := ⟨.hbm, 159, rfl⟩
abbrev main_cst_20 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_c : Ref sig .tc := ⟨.hbm, 165, rfl⟩
abbrev main_call0_v0 : Ref sig .tc := ⟨.hbm, 166, rfl⟩
abbrev main_v139 : Ref sig .tc := ⟨.hbm, 167, rfl⟩
abbrev main_v140 : Ref sig .tc := ⟨.hbm, 168, rfl⟩
abbrev main_c_21 : Ref sig .tc := ⟨.hbm, 169, rfl⟩
abbrev main_call1_v0 : Ref sig .tc := ⟨.hbm, 170, rfl⟩
abbrev main_v141 : Ref sig .tc := ⟨.hbm, 171, rfl⟩

abbrev nD : Nat := 1
abbrev τ : Topo := Topo.v7x

variable {F : FTy → Type} [FloatOps F]
-- ==== Kernel2.lean ====
abbrev S4096x1024 : Shape := ⟨2, ![4096, 1024]⟩
abbrev S4096x2816 : Shape := ⟨2, ![4096, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S1024x2816, .bf16⟩
  | .local _ .vmem, ⟨0, _⟩ => ⟨S1024x1024, .f32⟩
  | .local _ .vmem, ⟨1, _⟩ => ⟨S1024x1024, .f32⟩
  | .local _ .vmem, ⟨2, _⟩ => ⟨S1024x1408, .f32⟩
  | .local _ .vmem, ⟨3, _⟩ => ⟨S1024x1408, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S1024x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x2816 : Shape := ⟨2, ![4096, 2816]⟩
abbrev S1024x2816 : Shape := ⟨2, ![1024, 2816]⟩
abbrev S4096x1024 : Shape := ⟨2, ![4096, 1024]⟩
abbrev S512x1408 : Shape := ⟨2, ![512, 1408]⟩
abbrev S1024x1408 : Shape := ⟨2, ![1024, 1408]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .f32⟩
  | .hbm, ⟨1, _⟩ => ⟨S1024x2816, .bf16⟩
  | .hbm, ⟨2, _⟩ => ⟨S4096x1024, .f32⟩
  | .hbm, ⟨3, _⟩ => ⟨S4096x1024, .f32⟩
  | .local _ .vmem, ⟨0, _⟩ => ⟨S512x1408, .f32⟩
  | .local _ .vmem, ⟨1, _⟩ => ⟨S512x1408, .f32⟩
  | .local _ .vmem, ⟨2, _⟩ => ⟨S1024x1408, .bf16⟩
  | .local _ .vmem, ⟨3, _⟩ => ⟨S1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x2816 : Shape := ⟨2, ![4096, 2816]⟩
abbrev S1024x2816 : Shape := ⟨2, ![1024, 2816]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S1024x2816, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x2816, .f32⟩
  | .hbm, ⟨6, _⟩ => ⟨S4096x2816, .f32⟩
  | .hbm, ⟨7, _⟩ => ⟨S4096x1024, .f32⟩
  | .hbm, ⟨8, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S4096x2816 : Shape := ⟨2, ![4096, 2816]⟩
abbrev S1024x2816 : Shape := ⟨2, ![1024, 2816]⟩
abbrev S4096x1024 : Shape := ⟨2, ![4096, 1024]⟩
abbrev S512x1408 : Shape := ⟨2, ![512, 1408]⟩
abbrev S1024x1408 : Shape := ⟨2, ![1024, 1408]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S1024x2816, .bf16⟩
  | .hbm, ⟨2, _⟩ => ⟨S4096x1024, .f32⟩
  | .local _ .vmem, ⟨0, _⟩ => ⟨S512x1408, .f32⟩
  | .local _ .vmem, ⟨1, _⟩ => ⟨S512x1408, .f32⟩
  | .local _ .vmem, ⟨2, _⟩ => ⟨S1024x1408, .bf16⟩
  | .local _ .vmem, ⟨3, _⟩ => ⟨S1024x1408, .bf16⟩
  | .local _ .vmem, ⟨4, _⟩ => ⟨S512x1024, .f32⟩
  | .local _ .vmem, ⟨5, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S1024x2816 : Shape := ⟨2, ![1024, 2816]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S1024x2816, .bf16⟩
  | .hbm, ⟨2, _⟩ => ⟨S_, .f32⟩
  | .hbm, ⟨3, _⟩ => ⟨S4096x1024, .f32⟩
  | .hbm, ⟨4, _⟩ => ⟨S1024x2816, .f32⟩
  | .hbm, ⟨5, _⟩ => ⟨S4096x2816, .f32⟩
  | .hbm, ⟨6, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S2816x1024, .bf16⟩
  | .local _ .vmem, ⟨0, _⟩ => ⟨S1024x1408, .f32⟩
  | .local _ .vmem, ⟨1, _⟩ => ⟨S1024x1408, .f32⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S1024x2816 : Shape := ⟨2, ![1024, 2816]⟩
abbrev S4096x2816 : Shape := ⟨2, ![4096, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2816, .bf16⟩
  | .hbm, ⟨2, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x2816 : Shape := ⟨2, ![1024, 2816]⟩
abbrev S4096x2816 : Shape := ⟨2, ![4096, 2816]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .bf16⟩
  | .hbm, ⟨2, _⟩ => ⟨S1024x2816, .f32⟩
  | .hbm, ⟨3, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x2816, .f32⟩
  | .local _ .vmem, ⟨1, _⟩ => ⟨S512x2816, .f32⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S4096x1024, .f32⟩
  | .hbm, ⟨5, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S4096x1024 : Shape := ⟨2, ![4096, 1024]⟩
abbrev S1024x1920 : Shape := ⟨2, ![1024, 1920]⟩
abbrev S4096x1920 : Shape := ⟨2, ![4096, 1920]⟩
abbrev S512x1024 : Shape := ⟨2, ![512, 1024]⟩
abbrev S1024x640 : Shape := ⟨2, ![1024, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1920, .bf16⟩
  | .hbm, ⟨2, _⟩ => ⟨S4096x1920, .f32⟩
  | .local _ .vmem, ⟨0, _⟩ => ⟨S512x1024, .f32⟩
  | .local _ .vmem, ⟨1, _⟩ => ⟨S512x1024, .f32⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1920 : Shape := ⟨2, ![1024, 1920]⟩
abbrev S4096x1920 : Shape := ⟨2, ![4096, 1920]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1920, .bf16⟩
  | .hbm, ⟨2, _⟩ => ⟨S1024x1920, .f32⟩
  | .hbm, ⟨3, _⟩ => ⟨S4096x1920, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S4096x1024 : Shape := ⟨2, ![4096, 1024]⟩
abbrev S4096x1920 : Shape := ⟨2, ![4096, 1920]⟩
abbrev S1024x1920 : Shape := ⟨2, ![1024, 1920]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1920, .f32⟩
  | .hbm, ⟨2, _⟩ => ⟨S1024x1920, .bf16⟩
  | .local _ .vmem, ⟨0, _⟩ => ⟨S1024x1024, .f32⟩
  | .local _ .vmem, ⟨1, _⟩ => ⟨S1024x1024, .f32⟩
  | .local _ .vmem, ⟨2, _⟩ => ⟨S1024x640, .f32⟩
  | .local _ .vmem, ⟨3, _⟩ => ⟨S1024x640, .f32⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S4096x1920 : Shape := ⟨2, ![4096, 1920]⟩
abbrev S_ : Shape := ⟨0, ![]⟩
abbrev S1024x1920 : Shape := ⟨2, ![1024, 1920]⟩
abbrev S1920x1024 : Shape := ⟨2, ![1920, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1920, .f32⟩
  | .hbm, ⟨2, _⟩ => ⟨S_, .f32⟩
  | .hbm, ⟨3, _⟩ => ⟨S1024x1920, .f32⟩
  | .hbm, ⟨4, _⟩ => ⟨S4096x1920, .f32⟩
  | .hbm, ⟨5, _⟩ => ⟨S1920x1024, .f32⟩
  | .hbm, ⟨6, _⟩ => ⟨S1024x1920, .f32⟩
  | .hbm, ⟨7, _⟩ => ⟨S1024x1920, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x1920 : Shape := ⟨2, ![4096, 1920]⟩
abbrev S1024x1920 : Shape := ⟨2, ![1024, 1920]⟩
abbrev S4096x1024 : Shape := ⟨2, ![4096, 1024]⟩
abbrev S512x640 : Shape := ⟨2, ![512, 640]⟩
abbrev S1024x640 : Shape := ⟨2, ![1024, 640]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1920, .f32⟩
  | .hbm, ⟨1, _⟩ => ⟨S1024x1920, .bf16⟩
  | .hbm, ⟨2, _⟩ => ⟨S4096x1024, .f32⟩
  | .local _ .vmem, ⟨0, _⟩ => ⟨S512x640, .f32⟩
  | .local _ .vmem, ⟨1, _⟩ => ⟨S512x640, .f32⟩
  | .local _ .vmem, ⟨2, _⟩ => ⟨S1024x640, .bf16⟩
  | .local _ .vmem, ⟨3, _⟩ => ⟨S1024x640, .bf16⟩
  | .local _ .vmem, ⟨4, _⟩ => ⟨S512x1024, .f32⟩
  | .local _ .vmem, ⟨5, _⟩ => ⟨S512x1024, .f32⟩
  | _, _ => ⟨S4096x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 3], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1920 : Shape := ⟨2, ![4096, 1920]⟩
abbrev S1024x1920 : Shape := ⟨2, ![1024, 1920]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1920, .f32⟩
  | .hbm, ⟨1, _⟩ => ⟨S1024x1920, .bf16⟩
  | .hbm, ⟨2, _⟩ => ⟨S_, .f32⟩
  | .hbm, ⟨3, _⟩ => ⟨S4096x1024, .f32⟩
  | .hbm, ⟨4, _⟩ => ⟨S1024x1920, .f32⟩
  | .hbm, ⟨5, _⟩ => ⟨S4096x1920, .f32⟩
  | .hbm, ⟨6, _⟩ => ⟨S4096x1024, .f32⟩
  | _, _ => ⟨S4096x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x512 : Shape := ⟨2, ![4096, 512]⟩
abbrev S512x1024 : Shape := ⟨2, ![512, 1024]⟩
abbrev S4096x1024 : Shape := ⟨2, ![4096, 1024]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x1024, .bf16⟩
  | .hbm, ⟨2, _⟩ => ⟨S4096x1024, .f32⟩
  | .hbm, ⟨3, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .bf16⟩
  | .hbm, ⟨2, _⟩ => ⟨S4096x1024, .f32⟩
  | .hbm, ⟨3, _⟩ => ⟨S512x1024, .f32⟩
  | .hbm, ⟨4, _⟩ => ⟨S4096x1024, .f32⟩
  | .hbm, ⟨5, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S4096x1024 : Shape := ⟨2, ![4096, 1024]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S512x1024, .bf16⟩
  | .hbm, ⟨2, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x1024, .bf16⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4096x1024 : Shape := ⟨2, ![4096, 1024]⟩
abbrev S1024x1152 : Shape := ⟨2, ![1024, 1152]⟩
abbrev S4096x1152 : Shape := ⟨2, ![4096, 1152]⟩
abbrev S512x1024 : Shape := ⟨2, ![512, 1024]⟩
abbrev S512x1152 : Shape := ⟨2, ![512, 1152]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1152, .bf16⟩
  | .hbm, ⟨2, _⟩ => ⟨S4096x1152, .f32⟩
  | .local _ .vmem, ⟨0, _⟩ => ⟨S512x1024, .f32⟩
  | .local _ .vmem, ⟨1, _⟩ => ⟨S512x1024, .f32⟩
  | .local _ .vmem, ⟨2, _⟩ => ⟨S1024x1152, .bf16⟩
  | .local _ .vmem, ⟨3, _⟩ => ⟨S512x1152, .f32⟩
  | .local _ .vmem, ⟨4, _⟩ => ⟨S512x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x1152 : Shape := ⟨2, ![1024, 1152]⟩
abbrev S4096x1152 : Shape := ⟨2, ![4096, 1152]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1152, .bf16⟩
  | .hbm, ⟨2, _⟩ => ⟨S1024x1152, .f32⟩
  | .hbm, ⟨3, _⟩ => ⟨S4096x1152, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S4096x1024 : Shape := ⟨2, ![4096, 1024]⟩
abbrev S4096x1152 : Shape := ⟨2, ![4096, 1152]⟩
abbrev S1024x1152 : Shape := ⟨2, ![1024, 1152]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1152, .f32⟩
  | .hbm, ⟨2, _⟩ => ⟨S1024x1152, .bf16⟩
  | .local _ .vmem, ⟨0, _⟩ => ⟨S1024x1024, .f32⟩
  | .local _ .vmem, ⟨1, _⟩ => ⟨S1024x1024, .f32⟩
  | .local _ .vmem, ⟨2, _⟩ => ⟨S1024x1152, .f32⟩
  | .local _ .vmem, ⟨3, _⟩ => ⟨S1024x1152, .f32⟩
  | .local _ .vmem, ⟨4, _⟩ => ⟨S1024x1152, .bf16⟩
  | .local _ .vmem, ⟨5, _⟩ => ⟨S1024x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S4096x1152 : Shape := ⟨2, ![4096, 1152]⟩
abbrev S_ : Shape := ⟨0, ![]⟩
abbrev S1024x1152 : Shape := ⟨2, ![1024, 1152]⟩
abbrev S1152x1024 : Shape := ⟨2, ![1152, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1152, .f32⟩
  | .hbm, ⟨2, _⟩ => ⟨S_, .f32⟩
  | .hbm, ⟨3, _⟩ => ⟨S1024x1152, .f32⟩
  | .hbm, ⟨4, _⟩ => ⟨S4096x1152, .f32⟩
  | .hbm, ⟨5, _⟩ => ⟨S1152x1024, .f32⟩
  | .hbm, ⟨6, _⟩ => ⟨S1024x1152, .f32⟩
  | .hbm, ⟨7, _⟩ => ⟨S1024x1152, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S4096x1152 : Shape := ⟨2, ![4096, 1152]⟩
abbrev S1024x1152 : Shape := ⟨2, ![1024, 1152]⟩
abbrev S4096x1024 : Shape := ⟨2, ![4096, 1024]⟩
abbrev S512x1152 : Shape := ⟨2, ![512, 1152]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1152, .f32⟩
  | .hbm, ⟨1, _⟩ => ⟨S1024x1152, .bf16⟩
  | .hbm, ⟨2, _⟩ => ⟨S4096x1024, .f32⟩
  | .hbm, ⟨3, _⟩ => ⟨S4096x1024, .f32⟩
  | .local _ .vmem, ⟨0, _⟩ => ⟨S512x1152, .f32⟩
  | .local _ .vmem, ⟨1, _⟩ => ⟨S512x1152, .f32⟩
  | .local _ .vmem, ⟨2, _⟩ => ⟨S1024x1152, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S4096x1152 : Shape := ⟨2, ![4096, 1152]⟩
abbrev S1024x1152 : Shape := ⟨2, ![1024, 1152]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1152, .f32⟩
  | .hbm, ⟨1, _⟩ => ⟨S1024x1152, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x1152, .f32⟩
  | .hbm, ⟨6, _⟩ => ⟨S4096x1152, .f32⟩
  | .hbm, ⟨7, _⟩ => ⟨S4096x1024, .f32⟩
  | .hbm, ⟨8, _⟩ => ⟨S4096x1024, .f32⟩
  | _, _ => ⟨S4096x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel18.lean ====
abbrev S4096x768 : Shape := ⟨2, ![4096, 768]⟩
abbrev S768x1024 : Shape := ⟨2, ![768, 1024]⟩
abbrev S4096x1024 : Shape := ⟨2, ![4096, 1024]⟩
abbrev S512x768 : Shape := ⟨2, ![512, 768]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x768, .f32⟩
  | .hbm, ⟨1, _⟩ => ⟨S768x1024, .bf16⟩
  | .hbm, ⟨2, _⟩ => ⟨S4096x1024, .f32⟩
  | .local _ .vmem, ⟨0, _⟩ => ⟨S512x768, .f32⟩
  | .local _ .vmem, ⟨1, _⟩ => ⟨S512x768, .f32⟩
  | .local _ .vmem, ⟨2, _⟩ => ⟨S768x1024, .bf16⟩
  | .local _ .vmem, ⟨3, _⟩ => ⟨S512x1024, .f32⟩
  | .local _ .vmem, ⟨4, _⟩ => ⟨S512x1024, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x768 : Shape := ⟨2, ![4096, 768]⟩
abbrev S768x1024 : Shape := ⟨2, ![768, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x1024, .bf16⟩
  | .hbm, ⟨2, _⟩ => ⟨S768x1024, .f32⟩
  | .hbm, ⟨3, _⟩ => ⟨S4096x1024, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S4096x1024 : Shape := ⟨2, ![4096, 1024]⟩
abbrev S768x1024 : Shape := ⟨2, ![768, 1024]⟩
abbrev S4096x768 : Shape := ⟨2, ![4096, 768]⟩
abbrev S512x1024 : Shape := ⟨2, ![512, 1024]⟩
abbrev S512x768 : Shape := ⟨2, ![512, 768]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S768x1024, .bf16⟩
  | .hbm, ⟨2, _⟩ => ⟨S4096x768, .f32⟩
  | .local _ .vmem, ⟨0, _⟩ => ⟨S512x1024, .f32⟩
  | .local _ .vmem, ⟨1, _⟩ => ⟨S512x1024, .f32⟩
  | .local _ .vmem, ⟨2, _⟩ => ⟨S768x1024, .bf16⟩
  | .local _ .vmem, ⟨3, _⟩ => ⟨S512x768, .f32⟩
  | .local _ .vmem, ⟨4, _⟩ => ⟨S512x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S768x1024 : Shape := ⟨2, ![768, 1024]⟩
abbrev S_ : Shape := ⟨0, ![]⟩
abbrev S4096x768 : Shape := ⟨2, ![4096, 768]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S768x1024, .bf16⟩
  | .hbm, ⟨2, _⟩ => ⟨S_, .f32⟩
  | .hbm, ⟨3, _⟩ => ⟨S4096x768, .f32⟩
  | .hbm, ⟨4, _⟩ => ⟨S768x1024, .f32⟩
  | .hbm, ⟨5, _⟩ => ⟨S4096x1024, .f32⟩
  | .hbm, ⟨6, _⟩ => ⟨S4096x768, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S4096x768 : Shape := ⟨2, ![4096, 768]⟩
abbrev S4096x1024 : Shape := ⟨2, ![4096, 1024]⟩
abbrev S768x1024 : Shape := ⟨2, ![768, 1024]⟩
abbrev S1024x768 : Shape := ⟨2, ![1024, 768]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x768, .f32⟩
  | .hbm, ⟨1, _⟩ => ⟨S4096x1024, .f32⟩
  | .hbm, ⟨2, _⟩ => ⟨S768x1024, .bf16⟩
  | .local _ .vmem, ⟨0, _⟩ => ⟨S1024x768, .f32⟩
  | .local _ .vmem, ⟨1, _⟩ => ⟨S1024x768, .f32⟩
  | .local _ .vmem, ⟨2, _⟩ => ⟨S1024x1024, .f32⟩
  | .local _ .vmem, ⟨3, _⟩ => ⟨S1024x1024, .f32⟩
  | .local _ .vmem, ⟨4, _⟩ => ⟨S768x1024, .bf16⟩
  | .local _ .vmem, ⟨5, _⟩ => ⟨S768x1024, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S4096x768 : Shape := ⟨2, ![4096, 768]⟩
abbrev S4096x1024 : Shape := ⟨2, ![4096, 1024]⟩
abbrev S_ : Shape := ⟨0, ![]⟩
abbrev S768x1024 : Shape := ⟨2, ![768, 1024]⟩
abbrev S1024x768 : Shape := ⟨2, ![1024, 768]⟩

abbrev nBuf : Space → Nat
  | .hbm => 8
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x1024, .f32⟩
  | .hbm, ⟨2, _⟩ => ⟨S_, .f32⟩
  | .hbm, ⟨3, _⟩ => ⟨S768x1024, .f32⟩
  | .hbm, ⟨4, _⟩ => ⟨S4096x1024, .f32⟩
  | .hbm, ⟨5, _⟩ => ⟨S1024x768, .f32⟩
  | .hbm, ⟨6, _⟩ => ⟨S768x1024, .f32⟩
  | .hbm, ⟨7, _⟩ => ⟨S768x1024, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S4096x256 : Shape := ⟨2, ![4096, 256]⟩
abbrev S256x1024 : Shape := ⟨2, ![256, 1024]⟩
abbrev S4096x1024 : Shape := ⟨2, ![4096, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S4096x1024, .f32⟩
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S256x1024, .f32⟩
  | .hbm, ⟨3, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel22.lean ====
abbrev S4096x1024 : Shape := ⟨2, ![4096, 1024]⟩
abbrev S256x1024 : Shape := ⟨2, ![256, 1024]⟩
abbrev S4096x256 : Shape := ⟨2, ![4096, 256]⟩
abbrev S512x1024 : Shape := ⟨2, ![512, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S256x1024, .bf16⟩
  | .hbm, ⟨2, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x1024 : Shape := ⟨2, ![4096, 1024]⟩
abbrev S256x1024 : Shape := ⟨2, ![256, 1024]⟩
abbrev S_ : Shape := ⟨0, ![]⟩
abbrev S4096x256 : Shape := ⟨2, ![4096, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .bf16⟩
  | .hbm, ⟨2, _⟩ => ⟨S_, .f32⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S256x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .f32⟩
  | .local _ .vmem, ⟨3, _⟩ => ⟨S1024x1024, .f32⟩
  | .local _ .vmem, ⟨4, _⟩ => ⟨S256x1024, .bf16⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Reals.lean ====
/- Extended reals that are real: sums, maxima, quotients, exponentials and logarithms of real numbers, read as
   extended reals, are the real ones; and an array of real entries read by natural indices. -/
module

public import Idealize.ShloMosaic.Lib.Pointwise
public import Idealize.ShloMosaic.PureOps.Ideal

@[expose] public section

noncomputable section

namespace Cert.AttnBwd

open Idealize.ShloMosaic

/-- A sum of real numbers, as an extended real, is the sum of the extended reals. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a real number. -/
theorem exp_coe (r : ℝ) : Ideal.exp (r : EReal) = ((Real.exp r : ℝ) : EReal) := rfl

/-- The cosine of a real number. -/
theorem cos_coe (r : ℝ) : Ideal.cos (r : EReal) = ((Real.cos r : ℝ) : EReal) := rfl

/-- The sine of a real number. -/
theorem sin_coe (r : ℝ) : Ideal.sin (r : EReal) = ((Real.sin r : ℝ) : EReal) := rfl

/-- The logarithm of a positive real number. -/
theorem log_coe {r : ℝ} (h : 0 < r) : Ideal.log (r : EReal) = ((Real.log r : ℝ) : EReal) := by
  show (if r ≤ 0 then (⊥ : EReal) else (Real.log r : EReal)) = _
  rw [if_neg (not_le.mpr h)]

/-- The quotient of two real numbers, the divisor not zero. -/
theorem div_coe (a : ℝ) {b : ℝ} (h : b ≠ 0) : Ideal.div (a : EReal) (b : EReal) = ((a / b : ℝ) : EReal) := by
  have hb : (b : EReal) ≠ 0 := by exact_mod_cast h
  simp only [Ideal.div, hb, if_false]
  rw [← EReal.coe_inv, ← EReal.coe_mul, div_eq_mul_inv]

/-- The greatest of finitely many real numbers, at least one, is a real number. -/
theorem fold_max_real {n : ℕ} (f : Fin (n + 1) → ℝ) :
    ∃ r : ℝ, Finset.univ.fold max (⊥ : EReal) (fun k => (f k : EReal)) = (r : EReal) := by
  classical
  suffices H : ∀ s : Finset (Fin (n + 1)), s.Nonempty →
      ∃ r : ℝ, s.fold max (⊥ : EReal) (fun k => (f k : EReal)) = (r : EReal) from H _ Finset.univ_nonempty
  intro s hs
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max).symm⟩

/-- A 32-bit pattern whose exponent field is not all ones denotes a real number. -/
theorem ofBits_real (w : BitVec 32) (h : (w.extractLsb' 23 8).toNat ≠ 255) :
    ∃ r : ℝ, (Ideal.ofBits .f32 w : EReal) = (r : EReal) := by
  show ∃ r : ℝ, Ideal.ieee 8 23 w = (r : EReal)
  unfold Ideal.ieee
  simp only
  rw [if_neg (by simpa using h)]
  split
  · exact ⟨_, rfl⟩
  · exact ⟨_, rfl⟩

/-- An array of three axes read by natural indices, as real numbers: zero outside the array. -/
def reals3 {a b c : ℕ} (x : (⟨3, ![a, b, c]⟩ : Shape).Idx → EReal) (i j k : ℕ) : ℝ :=
  if h : i < a ∧ j < b ∧ k < c then (x (ix3 ⟨i, h.1⟩ ⟨j, h.2.1⟩ ⟨k, h.2.2⟩)).toReal else 0

/-- Where every entry is a real number, an entry is the real number read. -/
theorem reals3_apply {a b c : ℕ} {x : (⟨3, ![a, b, c]⟩ : Shape).Idx → EReal} (hx : ∀ j, x j ≠ ⊤ ∧ x j ≠ ⊥)
    (i : Fin a) (j : Fin b) (k : Fin c) : x (ix3 i j k) = (reals3 x i j k : EReal) := by
  have h : (i : ℕ) < a ∧ (j : ℕ) < b ∧ (k : ℕ) < c := ⟨i.isLt, j.isLt, k.isLt⟩
  rw [reals3, dif_pos h, EReal.coe_toReal (hx _).1 (hx _).2]

end Cert.AttnBwd

end
-- ==== Proof.Finite.lean ====
/- The precondition: every entry of the four arguments is a real number. -/
module

public import proofs.«01_k».proof.Pre_finite
public import Idealize.ShloMosaic.Lib.ReduceAll
public import proofs.«01_k».proof.Proof.Reals

@[expose] public section

set_option maxRecDepth 16384

noncomputable section

namespace Cert.Pre_finite

open Idealize.ShloMosaic

/-- The predicate's side conditions. -/
instance facts : Facts where
  bcast_S_S2x2048x768 := by decide
  reducesTo_S2x2048x768_S_d0_1_2 := by decide
  h_S_ := by decide
  bcast_S_S2x2048x1024 := by decide
  reducesTo_S2x2048x1024_S_d0_1_2 := by decide
  bcast_S_S2x2048x32 := by decide
  reducesTo_S2x2048x32_S_d0_1_2 := by decide
  bcast_S_S2x2048x512 := by decide
  reducesTo_S2x2048x512_S_d0_1_2 := by decide

instance : Subsingleton S_.Idx := ⟨fun a b => funext fun i => i.elim0⟩

/-- An entry whose magnitude is below infinity is a real number. -/
theorem finite_of_olt (x : EReal) (h : Ideal.cmp .olt (max x (-x)) (Ideal.ofBits .f32 0x7F800000#32) = 1#1) :
    x ≠ ⊤ ∧ x ≠ ⊥ := by
  have htop : Ideal.ofBits .f32 0x7F800000#32 = ⊤ := by simp [Ideal.ofBits, Ideal.ieee]
  rw [htop] at h
  constructor
  · rintro rfl
    simp [Ideal.cmp] at h
  · rintro rfl
    simp [Ideal.cmp] at h

/-- An array all of whose entries' magnitudes are below infinity. -/
theorem finite_of_all {s : Shape} (x : FVec Ideal s .f32) (hb : S_.BroadcastsInDim s (![] : Fin 0 → Fin s.rank))
    {axes : List (Fin s.rank)} (hr : s.ReducesTo axes S_) (h0 : 0 < S_.numel) (j : S_.Idx)
    (e : Host.reduce IntOp.andi (cmpf .olt (Host.absf x) (broadcastInDim s ![] hb (constant S_ .f32 0x7F800000#32)))
      (constantI S_ 1 1#1) hr h0 j = 1#1) (i : s.Idx) : (x i : EReal) ≠ ⊤ ∧ (x i : EReal) ≠ ⊥ :=
  finite_of_olt (x i) (Host.reduce_andi_all _ _ hr h0 j e i)

theorem and_eq_one (a b : BitVec 1) (h : IntOp.andi a b = 1#1) : a = 1#1 ∧ b = 1#1 := by
  revert a b
  decide

/-- The predicate's meaning. -/
theorem finite (a : FVec Ideal S2x2048x768 .f32) (b : FVec Ideal S2x2048x1024 .f32) (c : FVec Ideal S2x2048x32 .f32)
    (d : FVec Ideal S2x2048x512 .f32) (h : fn (F := Ideal) a b c d = fun _ => 1#1) :
    (∀ i, (a i : EReal) ≠ ⊤ ∧ (a i : EReal) ≠ ⊥) ∧ (∀ i, (b i : EReal) ≠ ⊤ ∧ (b i : EReal) ≠ ⊥)
      ∧ (∀ i, (c i : EReal) ≠ ⊤ ∧ (c i : EReal) ≠ ⊥) ∧ (∀ i, (d i : EReal) ≠ ⊤ ∧ (d i : EReal) ≠ ⊥) := by
  let j : S_.Idx := fun i => i.elim0
  have e := congrFun h j
  obtain ⟨e, hd⟩ := and_eq_one _ _ e
  obtain ⟨e, hc⟩ := and_eq_one _ _ e
  obtain ⟨ha, hb⟩ := and_eq_one _ _ e
  exact ⟨finite_of_all a _ _ _ j ha, finite_of_all b _ _ _ j hb, finite_of_all c _ _ _ j hc, finite_of_all d _ _ _ j hd⟩

end Cert.Pre_finite

end
-- ==== Proof.Spec.lean ====
/- The gradient of the attention in real numbers, one batch element and one head at a time.

   Eight heads of 64 plain and 32 rotated lanes; the rotated lanes of the keys are common to the heads. A row `i` of
   the queries scores a row `k` of the keys by `X`; the scores' exponentials `E` (less the row's greatest score),
   their row sums `L` and the weights `P = E / L` are the softmax; `dp` is the gradient in the weights and `ds` the
   gradient in the scores. -/
module

public import proofs.«01_k».proof.Proof.Reals

@[expose] public section

noncomputable section

namespace Cert.AttnBwd

open Idealize.ShloMosaic

/-- The scale of the scores, the constant of the text. -/
def sc : ℝ := (Ideal.ofBits .f32 0x3DD105EC#32 : EReal).toReal

theorem ofBits_sc : (Ideal.ofBits .f32 0x3DD105EC#32 : EReal) = (sc : EReal) := by
  obtain ⟨r, hr⟩ := ofBits_real 0x3DD105EC#32 (by decide)
  rw [sc, hr, EReal.toReal_coe]

/-- The angle by which row `t` turns the lane pair `r`, as the programs compute it. -/
def ang (t r : ℕ) : EReal :=
  FloatOps.sitofp (F := Ideal) FTy.f32 (BitVec.ofNat 32 t) *
      Ideal.pow (Ideal.ofBits FTy.f32 0x461C4000#32)
        (Ideal.div (-(Ideal.ofBits FTy.f32 0x40000000#32 * FloatOps.sitofp (F := Ideal) FTy.f32 (BitVec.ofNat 32 r)))
          (Ideal.ofBits FTy.f32 0x42000000#32))

theorem ang_real (t r : ℕ) : ∃ x : ℝ, ang t r = (x : EReal) := by
  obtain ⟨a, ha⟩ := ofBits_real 0x461C4000#32 (by decide)
  obtain ⟨b, hb⟩ := ofBits_real 0x40000000#32 (by decide)
  have hc : (Ideal.ofBits FTy.f32 0x42000000#32 : EReal) = ((32 : ℝ) : EReal) := by
    simp [Ideal.ofBits, Ideal.ieee]
    norm_cast
    norm_num
  have hs (n : ℕ) : FloatOps.sitofp (F := Ideal) FTy.f32 (BitVec.ofNat 32 n)
      = ((((BitVec.ofNat 32 n).toInt : ℝ)) : EReal) := rfl
  unfold ang
  rw [ha, hb, hc, hs, hs, ← EReal.coe_mul, ← EReal.coe_neg, div_coe _ (by norm_num)]
  exact ⟨_, (EReal.coe_mul _ _).symm⟩

/-- Its cosine and its sine. -/
def co (t r : ℕ) : ℝ := Real.cos (ang t r).toReal
def si (t r : ℕ) : ℝ := Real.sin (ang t r).toReal

theorem cos_ang (t r : ℕ) : Ideal.cos (ang t r) = (co t r : EReal) := by
  obtain ⟨x, hx⟩ := ang_real t r
  rw [co, hx, cos_coe, EReal.toReal_coe]

theorem sin_ang (t r : ℕ) : Ideal.sin (ang t r) = (si t r : EReal) := by
  obtain ⟨x, hx⟩ := ang_real t r
  rw [si, hx, sin_coe, EReal.toReal_coe]

/-- The four arguments as real numbers: queries, keys and values, the keys' rotated lanes, and the gradient of the
    attention's output. -/
structure Args where
  q : ℕ → ℕ → ℕ → ℝ
  kv : ℕ → ℕ → ℕ → ℝ
  kr : ℕ → ℕ → ℕ → ℝ
  dO : ℕ → ℕ → ℕ → ℝ

/-- The rotation of 32 lanes by row `t`'s angles. -/
def rot (t : ℕ) (x : ℕ → ℝ) (r : ℕ) : ℝ :=
  x r * co t (r % 16) + (if r < 16 then -x (16 + r) else x (r - 16)) * si t (r % 16)

/-- Its transpose. -/
def rotT (t : ℕ) (x : ℕ → ℝ) (r : ℕ) : ℝ :=
  x r * co t (r % 16) + (if r < 16 then x (16 + r) * si t ((16 + r) % 16) else -(x (r - 16) * si t ((r - 16) % 16)))

variable (A : Args) (b h i k d t r : ℕ)

namespace Args

/-- Plain and rotated lanes of head `h`'s queries and keys, its values and its output's gradient. -/
def qn : ℝ := A.q b t (96 * h + d)
def qe : ℝ := rot t (fun r => A.q b t (96 * h + (64 + r))) r
def kn : ℝ := A.kv b t (128 * h + d)
def vv : ℝ := A.kv b t (128 * h + (64 + d))
def ke : ℝ := rot t (fun r => A.kr b t r) r
def dd : ℝ := A.dO b t (64 * h + d)

/-- The score of the query row `i` and the key row `k`. -/
def X : ℝ :=
  (∑ d : Fin 64, A.qn b h d i * A.kn b h d k + ∑ r : Fin 32, A.ke b k r * A.qe b h i r) * sc

/-- The row's greatest score. -/
def M : ℝ := (Finset.univ.fold max (⊥ : EReal) (fun k : Fin 2048 => (A.X b h i k : EReal))).toReal

theorem fold_X : Finset.univ.fold max (⊥ : EReal) (fun k : Fin 2048 => (A.X b h i k : EReal)) = (A.M b h i : EReal) := by
  obtain ⟨r, hr⟩ := fold_max_real (n := 2047) (fun k => A.X b h i k)
  rw [M, hr, EReal.toReal_coe]

def E : ℝ := Real.exp (A.X b h i k - A.M b h i)
def L : ℝ := ∑ k : Fin 2048, A.E b h i k

theorem E_pos : 0 < A.E b h i k := Real.exp_pos _

theorem L_pos : 0 < A.L b h i := Finset.sum_pos (fun k _ => A.E_pos b h i k) Finset.univ_nonempty

/-- The weights, the gradient in the weights, and the gradient in the scores. -/
def P : ℝ := A.E b h i k / A.L b h i
def dp : ℝ := ∑ d : Fin 64, A.dd b h d i * A.vv b h d k
def ds : ℝ := A.P b h i k * (A.dp b h i k - ∑ k' : Fin 2048, A.P b h i k' * A.dp b h i k')

/-- The gradients, head by head: of the queries' plain and rotated lanes, the keys' plain lanes, the values, and of the
    keys' rotated lanes, those summed over the heads. -/
def dqn : ℝ := ∑ k : Fin 2048, A.ds b h i k * sc * A.kn b h d k
def dqe : ℝ := ∑ k : Fin 2048, A.ds b h i k * sc * A.ke b k r
def dkn : ℝ := ∑ i : Fin 2048, A.ds b h i k * sc * A.qn b h d i
def dvv : ℝ := ∑ i : Fin 2048, A.P b h i k * A.dd b h d i
def dkh : ℝ := ∑ i : Fin 2048, A.ds b h i k * sc * A.qe b h i r

/-- The three results, with their lanes as the arrays have them. -/
def DQ (j : ℕ) : ℝ :=
  if j % 128 < 64 then A.dqn b (j / 128) i (j % 128)
  else if j % 128 < 96 then rotT i (fun r => A.dqe b (j / 128) i r) (j % 128 - 64) else 0
def DKV (j : ℕ) : ℝ :=
  if j % 128 < 64 then A.dkn b (j / 128) k (j % 128) else A.dvv b (j / 128) k (j % 128 - 64)
def DKR (l : ℕ) : ℝ :=
  if 64 ≤ l ∧ l < 96 then rotT k (fun r => ∑ h : Fin 8, A.dkh b h k r) (l - 64) else 0

end Args

end Cert.AttnBwd

end
-- ==== Proof.RefScores.lean ====
/- What the reference computes, entry by entry, in real numbers: the rotated queries and
   keys, the scores and their rows' greatest. -/
module

public import proofs.«01_k».proof.Proof.Spec
public import proofs.«01_k».proof.Proof.Gen.ReferenceIdeal.Run
public import Idealize.ShloMosaic.Lib.Tactic.CleanTypes

@[expose] public section

set_option maxRecDepth 16384

noncomputable section

namespace Cert.AttnBwd.Ref

open Idealize.ShloMosaic Idealize.ShloMosaic.TcCoe
open Cert.ReferenceIdeal Cert.ReferenceIdeal.Value

variable (V0 : Valuation Cert.ReferenceIdeal.τ Cert.ReferenceIdeal.sig (Elt Ideal)) (A : Args)

/-- The arguments hold the real numbers `A`. -/
structure Holds : Prop where
  q : ∀ (b : Fin 2) (t : Fin 2048) (j : Fin 768), (V0 (Proc.devRef .tc main_arg0) (ix3 b t j) : EReal) = (A.q b t j : EReal)
  kv : ∀ (b : Fin 2) (t : Fin 2048) (j : Fin 1024), (V0 (Proc.devRef .tc main_arg1) (ix3 b t j) : EReal) = (A.kv b t j : EReal)
  kr : ∀ (b : Fin 2) (t : Fin 2048) (j : Fin 32), (V0 (Proc.devRef .tc main_arg2) (ix3 b t j) : EReal) = (A.kr b t j : EReal)
  dO : ∀ (b : Fin 2) (t : Fin 2048) (j : Fin 512), (V0 (Proc.devRef .tc main_arg3) (ix3 b t j) : EReal) = (A.dO b t j : EReal)

theorem r15 (t : Fin 2048) (r : Fin 16) : (res_main_v15 V0 (ix2 t r) : EReal) = ang t r := by
  unfold res_main_v15
  clean_types
  pointwise
  rfl

theorem r16 (t : Fin 2048) (r : Fin 32) : (res_main_v16 V0 (ix2 t r) : EReal) = ang t (r % 16) := by
  unfold res_main_v16
  clean_types
  pointwise
  split
  · rw [r15]
    congr 1
    simp only
    omega
  · rw [r15]
    congr 1
    simp only
    omega

theorem r17 (t : Fin 2048) (r : Fin 32) : (res_main_v17 V0 (ix2 t r) : EReal) = (co t (r % 16) : EReal) := by
  unfold res_main_v17
  clean_types
  pointwise
  rw [r16, cos_ang]

theorem r18 (t : Fin 2048) (r : Fin 32) : (res_main_v18 V0 (ix2 t r) : EReal) = (si t (r % 16) : EReal) := by
  unfold res_main_v18
  clean_types
  pointwise
  rw [r16, sin_ang]

theorem r28 (t : Fin 2048) (r : Fin 32) : (res_main_v28 V0 (ix4 0 t 0 r) : EReal) = (co t (r % 16) : EReal) := by
  unfold res_main_v28
  clean_types
  pointwise
  rw [r17]

theorem r31 (t : Fin 2048) (r : Fin 32) : (res_main_v31 V0 (ix4 0 t 0 r) : EReal) = (si t (r % 16) : EReal) := by
  unfold res_main_v31
  clean_types
  pointwise
  rw [r18]

theorem r42 (t : Fin 2048) (r : Fin 32) : (res_main_v42 V0 (ix3 0 t r) : EReal) = (co t (r % 16) : EReal) := by
  unfold res_main_v42
  clean_types
  pointwise
  rw [r17]

theorem r45 (t : Fin 2048) (r : Fin 32) : (res_main_v45 V0 (ix3 0 t r) : EReal) = (si t (r % 16) : EReal) := by
  unfold res_main_v45
  clean_types
  pointwise
  rw [r18]

variable {V0 A} (H : Holds V0 A)
include H

theorem r20 (b : Fin 2) (t : Fin 2048) (h : Fin 8) (d : Fin 64) :
    (res_main_v20 V0 (ix4 b t h d) : EReal) = (A.qn b h d t : EReal) := by
  unfold res_main_v20 res_main_v19
  clean_types
  pointwise
  rw [H.q]
  simp only [Args.qn]
  congr 2
  omega

theorem r21 (b : Fin 2) (t : Fin 2048) (h : Fin 8) (r : Fin 32) :
    (res_main_v21 V0 (ix4 b t h r) : EReal) = (A.q b t (96 * h + (64 + r)) : EReal) := by
  unfold res_main_v21 res_main_v19
  clean_types
  pointwise
  rw [H.q]
  congr 2
  simp only
  omega

theorem r34 (b : Fin 2) (t : Fin 2048) (h : Fin 8) (r : Fin 32) :
    (res_main_v34 V0 (ix4 b t h r) : EReal) = (A.qe b h t r : EReal) := by
  unfold res_main_v34
  clean_types
  pointwise
  simp only [r28, r31, r21 H, Args.qe, rot]
  split
  · norm_cast
  · norm_cast

theorem r36 (b : Fin 2) (t : Fin 2048) (h : Fin 8) (d : Fin 64) :
    (res_main_v36 V0 (ix4 b t h d) : EReal) = (A.kn b h d t : EReal) := by
  unfold res_main_v36 res_main_v35
  clean_types
  pointwise
  rw [H.kv]
  simp only [Args.kn]
  congr 2
  omega

theorem r37 (b : Fin 2) (t : Fin 2048) (h : Fin 8) (d : Fin 64) :
    (res_main_v37 V0 (ix4 b t h d) : EReal) = (A.vv b h d t : EReal) := by
  unfold res_main_v37 res_main_v35
  clean_types
  pointwise
  rw [H.kv]
  simp only [Args.vv]
  congr 2
  omega

theorem r48 (b : Fin 2) (t : Fin 2048) (r : Fin 32) :
    (res_main_v48 V0 (ix3 b t r) : EReal) = (A.ke b t r : EReal) := by
  unfold res_main_v48
  clean_types
  pointwise
  simp only [r42, r45, H.kr, Args.ke, rot]
  split
  · norm_cast
  · norm_cast

theorem r54 (b : Fin 2) (h : Fin 8) (i k : Fin 2048) :
    (res_main_v54 V0 (ix4 b h i k) : EReal) = (A.X b h i k : EReal) := by
  unfold res_main_v54
  clean_types
  pointwise
  simp only [r20 H, r36 H, r48 H, r34 H, ofBits_sc, Args.X, EReal.coe_mul, EReal.coe_add, coe_sum]

theorem r55 (b : Fin 2) (h : Fin 8) (i : Fin 2048) :
    (res_main_v55 V0 (ix3 b h i) : EReal) = (A.M b h i : EReal) := by
  unfold res_main_v55
  clean_types
  pointwise
  have hb : (Ideal.ofBits FTy.f32 0xFF800000#32 : EReal) = ⊥ := by simp [Ideal.ofBits, Ideal.ieee]
  simp only [r54 H]
  rw [hb, A.fold_X]

end Cert.AttnBwd.Ref

end
-- ==== Proof.RefSoftmax.lean ====
/- The reference's softmax and its gradient in the scores, entry by entry, in real numbers. -/
module

public import proofs.«01_k».proof.Proof.RefScores

@[expose] public section

set_option maxRecDepth 16384

noncomputable section

namespace Cert.AttnBwd.Ref

open Idealize.ShloMosaic Idealize.ShloMosaic.TcCoe
open Cert.ReferenceIdeal Cert.ReferenceIdeal.Gen Cert.ReferenceIdeal.Value

variable {V0 : Valuation Cert.ReferenceIdeal.τ Cert.ReferenceIdeal.sig (Elt Ideal)} {A : Args} (H : Holds V0 A)
include H

omit H in
theorem exp_shifted (y : FVec Ideal S2x8x2048x2048 .f32) (x : FVec Ideal S2x8x2048 .f32)
    (b : Fin 2) (h : Fin 8) (i k : Fin 2048) :
    (Host.exp (subf y (broadcastInDim S2x8x2048x2048 ![0, 1, 2, 3] bcast_S2x8x2048x1_S2x8x2048x2048_0_1_2_3
      (broadcastInDim S2x8x2048x1 ![0, 1, 2] bcast_S2x8x2048_S2x8x2048x1_0_1_2
        (maximumf (broadcastInDim S2x8x2048 ![] bcast_S_S2x8x2048 (constant S_ .f32 0xFF800000#32)) x))))
        (ix4 b h i k) : EReal)
      = Ideal.exp (y (ix4 b h i k) - max (Ideal.ofBits .f32 0xFF800000#32) (x (ix3 b h i))) := by
  pointwise

theorem r75 (b : Fin 2) (h : Fin 8) (i k : Fin 2048) :
    (res_main_v75 V0 (ix4 b h i k) : EReal) = (A.E b h i k : EReal) := by
  have hb : (Ideal.ofBits FTy.f32 0xFF800000#32 : EReal) = ⊥ := by simp [Ideal.ofBits, Ideal.ieee]
  refine (exp_shifted (res_main_v54 V0) (res_main_v55 V0) b h i k).trans ?_
  rw [r54 H, r55 H, hb, max_eq_right bot_le, ← EReal.coe_sub, exp_coe]
  rfl

theorem r77 (b : Fin 2) (h : Fin 8) (i : Fin 2048) :
    (res_main_v77 V0 (ix4 b h i 0) : EReal) = (A.L b h i : EReal) := by
  unfold res_main_v77
  clean_types
  pointwise
  simp only [r75 H, Args.L, coe_sum]

theorem r79 (b : Fin 2) (h : Fin 8) (i k : Fin 2048) :
    (res_main_v79 V0 (ix4 b h i k) : EReal) = (A.P b h i k : EReal) := by
  unfold res_main_v79
  clean_types
  pointwise
  rw [r75 H, r77 H, div_coe _ (A.L_pos b h i).ne']
  rfl

theorem r87 (b : Fin 2) (h : Fin 8) (d : Fin 64) (i : Fin 2048) :
    (res_main_v87 V0 (ix4 b h d i) : EReal) = (A.dd b h d i : EReal) := by
  unfold res_main_v87
  clean_types
  pointwise
  rw [H.dO]
  simp only [Args.dd]
  congr 2
  omega

theorem r88 (b : Fin 2) (h : Fin 8) (i k : Fin 2048) :
    (res_main_v88 V0 (ix4 b h i k) : EReal) = (A.dp b h i k : EReal) := by
  unfold res_main_v88
  clean_types
  pointwise
  simp only [r87 H, r37 H, Args.dp, EReal.coe_mul, coe_sum]

/-- The gradient in the scores, times the scale. -/
theorem r104 (b : Fin 2) (h : Fin 8) (i k : Fin 2048) :
    (res_main_v104 V0 (ix4 b h i k) : EReal) = ((A.ds b h i k * sc : ℝ) : EReal) := by
  unfold res_main_v104
  clean_types
  pointwise
  have hL := (A.L_pos b h i).ne'
  have h1 : (1 : EReal) = ((1 : ℝ) : EReal) := rfl
  simp only [r88 H, r77 H, r75 H, ofBits_sc, div_coe _ hL]
  rw [← EReal.coe_mul, h1, div_coe _ (mul_ne_zero hL hL)]
  simp only [← EReal.coe_mul, ← coe_sum, ← EReal.coe_neg, ← EReal.coe_add]
  congr 2
  simp only [Args.ds, Args.P, Finset.univ_unique, Finset.sum_singleton, sub_eq_add_neg, mul_add, Finset.mul_sum,
    ← Finset.sum_neg_distrib, add_mul, Finset.sum_mul]
  congr 1
  · field_simp
  · refine Finset.sum_congr rfl fun x _ => ?_
    field_simp

end Cert.AttnBwd.Ref

end
-- ==== Proof.RefResults.lean ====
/- The reference's three results, entry by entry, are the gradients in real numbers. -/
module

public import proofs.«01_k».proof.Proof.RefSoftmax

@[expose] public section

set_option maxRecDepth 16384

noncomputable section

namespace Cert.AttnBwd.Ref

open Idealize.ShloMosaic Idealize.ShloMosaic.TcCoe
open Cert.ReferenceIdeal Cert.ReferenceIdeal.Gen Cert.ReferenceIdeal.Value

variable {V0 : Valuation Cert.ReferenceIdeal.τ Cert.ReferenceIdeal.sig (Elt Ideal)} {A : Args} (H : Holds V0 A)
include H

theorem r106 (b : Fin 2) (h : Fin 8) (i : Fin 2048) (r : Fin 32) :
    (res_main_v106 V0 (ix4 b i h r) : EReal) = (A.dqe b h i r : EReal) := by
  unfold res_main_v106 res_main_v105
  clean_types
  pointwise
  simp only [r104 H, r48 H, Args.dqe, coe_sum, EReal.coe_mul]

theorem r126 (b : Fin 2) (h : Fin 8) (i : Fin 2048) (r : Fin 32) :
    (res_main_v126 V0 (ix4 b i h r) : EReal) = ((A.dqe b h i r * si i (r % 16) : ℝ) : EReal) := by
  unfold res_main_v126
  clean_types
  pointwise
  rw [r106 H, r31, EReal.coe_mul]

theorem r107 (b : Fin 2) (k : Fin 2048) (r : Fin 32) :
    (res_main_v107 V0 (ix3 b k r) : EReal) = ((∑ h : Fin 8, A.dkh b h k r : ℝ) : EReal) := by
  unfold res_main_v107 res_main_v105
  clean_types
  pointwise
  simp only [r104 H, r34 H, Args.dkh, coe_sum, EReal.coe_mul]
  rw [Finset.sum_comm]

theorem r113 (b : Fin 2) (k : Fin 2048) (r : Fin 32) :
    (res_main_v113 V0 (ix3 b k r) : EReal) = (((∑ h : Fin 8, A.dkh b h k r) * si k (r % 16) : ℝ) : EReal) := by
  unfold res_main_v113
  clean_types
  pointwise
  rw [r107 H, r45, EReal.coe_mul]

omit H in
theorem sitofp_zero : FloatOps.sitofp (F := Ideal) FTy.f32 0#32 = (0 : EReal) := by
  show (((0#32).toInt : ℝ) : EReal) = 0
  simp

theorem dq (b : Fin 2) (i : Fin 2048) (j : Fin 1024) :
    (val3 V0 (Proc.devRef .tc main_v140) (ix3 b i j) : EReal) = (A.DQ b i j : EReal) := by
  rw [val3_main_v140]
  clean_types
  pointwise
  have hj := j.isLt
  have h8 : (j : ℕ) / 128 < 8 := by omega
  simp only [r106 H, r28, r126 H, r104 H, r36 H, sitofp_zero, Args.DQ]
  by_cases h64 : (j : ℕ) % 128 < 64
  · rw [dif_pos ⟨h8, by omega⟩, dif_neg (by omega), dif_pos ⟨h8, h64⟩, if_pos h64, zero_add]
    simp only [Args.dqn, coe_sum, EReal.coe_mul]
  · by_cases h96 : (j : ℕ) % 128 < 96
    · rw [dif_pos ⟨h8, h96⟩, dif_pos ⟨h8, by omega, by omega⟩,
        dif_neg (show ¬((j : ℕ) / 128 < 8 ∧ (j : ℕ) % 128 < 64) by omega), if_neg h64, if_pos h96, add_zero, rotT]
      by_cases h16 : (j : ℕ) % 128 - 64 < 16
      · rw [dif_pos h16, if_pos h16]
        norm_cast
      · rw [dif_neg h16, if_neg h16]
        norm_cast
    · rw [dif_neg (by omega), if_neg h64, if_neg h96, EReal.coe_zero]

theorem dkv (b : Fin 2) (k : Fin 2048) (j : Fin 1024) :
    (val3 V0 (Proc.devRef .tc main_v124) (ix3 b k j) : EReal) = (A.DKV b k j : EReal) := by
  rw [val3_main_v124]
  clean_types
  pointwise
  have hj := j.isLt
  have h8 : (j : ℕ) / 128 < 8 := by omega
  simp only [r87 H, r79 H, r104 H, r20 H, Args.DKV]
  by_cases h64 : (j : ℕ) % 128 < 64
  · rw [dif_neg (by omega), dif_pos ⟨h8, h64⟩, if_pos h64, zero_add]
    simp only [Args.dkn, coe_sum, EReal.coe_mul]
  · rw [dif_pos ⟨h8, by omega, by omega⟩, dif_neg (by omega), if_neg h64, add_zero]
    simp only [Args.dvv, coe_sum, EReal.coe_mul, mul_comm]

theorem dkr (b : Fin 2) (k : Fin 2048) (l : Fin 128) :
    (val3 V0 (Proc.devRef .tc main_v141) (ix3 b k l) : EReal) = (A.DKR b k l : EReal) := by
  rw [val3_main_v141]
  clean_types
  pointwise
  have hl := l.isLt
  simp only [r107 H, r42, r113 H, sitofp_zero, Args.DKR]
  by_cases h : 64 ≤ (l : ℕ) ∧ (l : ℕ) < 96
  · rw [dif_pos ⟨h.1, by omega⟩, if_pos h, rotT]
    by_cases h16 : (l : ℕ) - 64 < 16
    · rw [dif_pos h16, if_pos h16]
      norm_cast
    · rw [dif_neg h16, if_neg h16]
      norm_cast
  · rw [dif_neg (by omega), if_neg h, EReal.coe_zero]

end Cert.AttnBwd.Ref

end
-- ==== Proof.Block.lean ====
/- What one step of the kernel computes from the blocks it loads, in real numbers: one head's rows of a block of
   256 queries against all 2048 keys. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.AttnBwd.Ker

open Idealize.ShloMosaic Idealize.ShloMosaic.TcCoe
open Cert.KernelIdeal Cert.KernelIdeal.Gen

/-- The rotation of the lanes as the kernel does it: two rolls by sixteen lanes against three tables. -/
def rope (C S1 S2 x : ℕ → ℕ → ℝ) (r l : ℕ) : ℝ :=
  x r l * C r l + x r ((l + 128 - 112) % 128) * S1 r l + x r ((l + 128 - 16) % 128) * S2 r l

/-- The gradient of `rope` in `x`. -/
def ropeT (C S1 S2 g : ℕ → ℕ → ℝ) (r l : ℕ) : ℝ :=
  g r l * C r l + g r ((l + 128 - 16) % 128) * S1 r ((l + 128 - 16) % 128)
    + g r ((l + 128 - 112) % 128) * S2 r ((l + 128 - 112) % 128)

/-- One head's blocks in real numbers: the tables of its rows, the queries, the rotated keys, the saved
    logarithms, the values, the gradient's and the output's rows (two heads side by side). -/
structure Head where
  C : ℕ → ℕ → ℝ
  S1 : ℕ → ℕ → ℝ
  S2 : ℕ → ℕ → ℝ
  q : ℕ → ℕ → ℝ
  k : ℕ → ℕ → ℝ
  lse : ℕ → ℝ
  v : ℕ → ℕ → ℝ
  D : ℕ → ℕ → ℝ
  O : ℕ → ℕ → ℝ

namespace Head

variable (B : Head)

/-- The rotated and scaled queries. -/
def Q (r l : ℕ) : ℝ := rope B.C B.S1 B.S2 B.q r l * sc
/-- The softmax's weights. -/
def p (r k : ℕ) : ℝ := Real.exp ((∑ l : Fin 128, B.Q r l * B.k k l) - B.lse r)
/-- The output's gradient on the value lanes: the first head's rows lie in the lower lanes. -/
def D0 (r l : ℕ) : ℝ := if 64 ≤ l then B.D r ((l + 128 - 64) % 128) else 0
/-- The same of the second head, whose rows lie in the upper lanes. -/
def D1 (r l : ℕ) : ℝ := if 64 ≤ l then B.D r l else 0
def del0 (r : ℕ) : ℝ := ∑ l : Fin 128, if 64 ≤ (l : ℕ) then 0 else B.D r l * B.O r l
def del1 (r : ℕ) : ℝ := ∑ l : Fin 128, if 64 ≤ (l : ℕ) then B.D r l * B.O r l else 0
/-- The scores' gradient, for the output's gradient `Dm` and its product `δ` with the output. -/
def ds (Dm : ℕ → ℕ → ℝ) (δ : ℕ → ℝ) (r k : ℕ) : ℝ := B.p r k * ((∑ l : Fin 128, Dm r l * B.v k l) - δ r)
def dq0 (Dm : ℕ → ℕ → ℝ) (δ : ℕ → ℝ) (r l : ℕ) : ℝ := (∑ k : Fin 2048, B.ds Dm δ r k * B.k k l) * sc
/-- The queries' gradient. -/
def dq (Dm : ℕ → ℕ → ℝ) (δ : ℕ → ℝ) (r l : ℕ) : ℝ := ropeT B.C B.S1 B.S2 (B.dq0 Dm δ) r l
/-- What the block adds to the rotated keys' gradient. -/
def dk (Dm : ℕ → ℕ → ℝ) (δ : ℕ → ℝ) (k l : ℕ) : ℝ := ∑ r : Fin 256, B.ds Dm δ r k * B.Q r l
/-- What the block adds to the values' gradient. -/
def dv (Dm : ℕ → ℕ → ℝ) (k l : ℕ) : ℝ := ∑ r : Fin 256, B.p r k * Dm r l

end Head

/-- The blocks read as the real numbers `B`. -/
structure Reads (cc s1 s2 : FVec Ideal S256x128 .f32) (q : FVec Ideal S1x256x128 .f32)
    (k : FVec Ideal S1x2048x128 .bf16) (lse : FVec Ideal S1x1x256x1 .f32) (v : FVec Ideal S2048x128 .bf16)
    (d o : FVec Ideal S1x256x128 .f32) (B : Head) : Prop where
  cc : ∀ (r : Fin 256) (l : Fin 128), (cc (ix2 r l) : EReal) = (B.C r l : EReal)
  s1 : ∀ (r : Fin 256) (l : Fin 128), (s1 (ix2 r l) : EReal) = (B.S1 r l : EReal)
  s2 : ∀ (r : Fin 256) (l : Fin 128), (s2 (ix2 r l) : EReal) = (B.S2 r l : EReal)
  q : ∀ (r : Fin 256) (l : Fin 128), (q (ix3 0 r l) : EReal) = (B.q r l : EReal)
  k : ∀ (r : Fin 2048) (l : Fin 128), (k (ix3 0 r l) : EReal) = (B.k r l : EReal)
  lse : ∀ r : Fin 256, (lse (ix4 0 0 r 0) : EReal) = (B.lse r : EReal)
  v : ∀ (r : Fin 2048) (l : Fin 128), (v (ix2 r l) : EReal) = (B.v r l : EReal)
  d : ∀ (r : Fin 256) (l : Fin 128), (d (ix3 0 r l) : EReal) = (B.D r l : EReal)
  o : ∀ (r : Fin 256) (l : Fin 128), (o (ix3 0 r l) : EReal) = (B.O r l : EReal)

theorem sge64 : ∀ l : Fin 128, IntOp.cmpi CmpIPredicate.sge (BitVec.ofNat 32 l) 64#32
    = if 64 ≤ (l : ℕ) then 1#1 else 0#1 := by decide

theorem slt64 : ∀ l : Fin 128, IntOp.cmpi CmpIPredicate.slt (BitVec.ofNat 32 l) 64#32
    = if 64 ≤ (l : ℕ) then 0#1 else 1#1 := by decide

theorem mask (r : Fin 256) (l : Fin 128) : k0_pay23 (ix2 r l) = if 64 ≤ (l : ℕ) then 1#1 else 0#1 := by
  unfold k0_pay23
  pointwise
  exact sge64 l

theorem ite_coe (c : Prop) [Decidable c] (a b : ℝ) : (if c then (a : EReal) else (b : EReal)) = ((if c then a else b : ℝ) : EReal) := by
  split <;> rfl

theorem select_ge (c : Prop) [Decidable c] (a b : EReal) : Scalar.select (if c then 1#1 else 0#1) a b = if c then a else b := by
  by_cases h : c <;> simp [h, Scalar.select]

theorem select_lt (c : Prop) [Decidable c] (a b : EReal) : Scalar.select (if c then 0#1 else 1#1) a b = if c then b else a := by
  by_cases h : c <;> simp [h, Scalar.select]

theorem xori_one (c : Prop) [Decidable c] : IntOp.xori (if c then 1#1 else 0#1) 1#1 = if c then 0#1 else 1#1 := by
  by_cases h : c <;> simp [h] <;> decide

section

variable {cc s1 s2 : FVec Ideal S256x128 .f32} {q : FVec Ideal S1x256x128 .f32}
  {k : FVec Ideal S1x2048x128 .bf16} {lse : FVec Ideal S1x1x256x1 .f32} {v : FVec Ideal S2048x128 .bf16}
  {d o : FVec Ideal S1x256x128 .f32} {B : Head} (H : Reads cc s1 s2 q k lse v d o B)
include H

theorem pay30 (r : Fin 256) (l : Fin 128) :
    (k0_pay30 (F := Ideal) (k0_pay28 cc s1 q) (k0_pay29 s2 q) (ix2 r l) : EReal) = (B.Q r l : EReal) := by
  unfold k0_pay30 k0_pay28 k0_pay29 k0_pay27 k0_pay24 k0_pay25 k0_pay26
  pointwise
  simp only [H.cc, H.s1, H.s2, H.q, ofBits_sc, Head.Q, rope]
  norm_cast

theorem pay44 (r : Fin 256) (l : Fin 128) :
    (k0_pay44 (F := Ideal) (k0_pay40 s1) (k0_pay41 s2) (k0_pay42 q) (k0_pay43 cc q) (ix2 r l) : EReal) = (B.Q r l : EReal) := by
  unfold k0_pay44 k0_pay40 k0_pay41 k0_pay42 k0_pay43 k0_pay39 k0_pay42
  pointwise
  simp only [H.cc, H.s1, H.s2, H.q, ofBits_sc, Head.Q, rope]
  norm_cast

theorem pay31 (r : Fin 256) (m : Fin 2048) :
    (k0_pay31 (F := Ideal) (k0_pay28 cc s1 q) (k0_pay29 s2 q) k lse (ix2 r m) : EReal) = (B.p r m : EReal) := by
  unfold k0_pay31
  pointwise
  simp only [pay30 H, H.k, H.lse, Head.p]
  simp only [← EReal.coe_mul, ← coe_sum, ← EReal.coe_sub, exp_coe]

theorem pay45 (r : Fin 256) (m : Fin 2048) :
    (k0_pay45 (F := Ideal) (k0_pay40 s1) (k0_pay41 s2) (k0_pay42 q) (k0_pay43 cc q) k lse (ix2 r m) : EReal) = (B.p r m : EReal) := by
  unfold k0_pay45
  pointwise
  simp only [pay44 H, H.k, H.lse, Head.p]
  simp only [← EReal.coe_mul, ← coe_sum, ← EReal.coe_sub, exp_coe]

theorem pay32 (r : Fin 256) (l : Fin 128) :
    (k0_pay32 (F := Ideal) (k0_pay21 d) k0_pay23 (ix2 r l) : EReal) = (B.D0 r l : EReal) := by
  unfold k0_pay32 k0_pay21
  pointwise
  simp only [mask, H.d, Head.D0]
  exact (select_ge _ _ _).trans (ite_coe _ _ 0)

theorem pay46 (r : Fin 256) (l : Fin 128) :
    (k0_pay46 (F := Ideal) (k0_pay21 d) k0_pay23 (ix2 r l) : EReal) = (B.D1 r l : EReal) := by
  unfold k0_pay46 k0_pay21
  pointwise
  simp only [mask, H.d, Head.D1]
  exact (select_ge _ _ _).trans (ite_coe _ _ 0)

theorem sel0 (r : Fin 256) (l : Fin 128) :
    (Scalar.select (IntOp.xori (k0_pay23 (ix2 r l)) 1#1)
      ((k0_pay21 (F := Ideal) d (ix2 r l) : EReal) * (k0_pay22 (F := Ideal) o (ix2 r l) : EReal)) 0 : EReal)
      = ((if 64 ≤ (l : ℕ) then 0 else B.D r l * B.O r l : ℝ) : EReal) := by
  unfold k0_pay21 k0_pay22
  pointwise
  simp only [mask, xori_one, H.d, H.o, ← EReal.coe_mul]
  exact (select_lt _ _ _).trans (ite_coe _ 0 _)

theorem sel1 (r : Fin 256) (l : Fin 128) :
    (Scalar.select (k0_pay23 (ix2 r l))
      ((k0_pay21 (F := Ideal) d (ix2 r l) : EReal) * (k0_pay22 (F := Ideal) o (ix2 r l) : EReal)) 0 : EReal)
      = ((if 64 ≤ (l : ℕ) then B.D r l * B.O r l else 0 : ℝ) : EReal) := by
  unfold k0_pay21 k0_pay22
  pointwise
  simp only [mask, H.d, H.o, ← EReal.coe_mul]
  exact (select_ge _ _ _).trans (ite_coe _ _ 0)

theorem pay33 (r : Fin 256) (m : Fin 2048) :
    (k0_pay33 (F := Ideal) (k0_pay21 d) (k0_pay22 o) k0_pay23 (k0_pay28 cc s1 q) (k0_pay29 s2 q) k lse v (ix2 r m) : EReal)
      = (B.ds B.D0 B.del0 r m : EReal) := by
  unfold k0_pay33
  pointwise
  simp only [pay31 H, pay32 H, H.v, sel0 H, Head.ds, Head.del0]
  simp only [← EReal.coe_mul, ← coe_sum, ← EReal.coe_sub]

theorem pay47 (r : Fin 256) (m : Fin 2048) :
    (k0_pay47 (F := Ideal) (k0_pay21 d) (k0_pay22 o) k0_pay23 (k0_pay40 s1) (k0_pay41 s2) (k0_pay42 q) (k0_pay43 cc q) k lse v (ix2 r m) : EReal)
      = (B.ds B.D1 B.del1 r m : EReal) := by
  unfold k0_pay47
  pointwise
  simp only [pay45 H, pay46 H, H.v, sel1 H, Head.ds, Head.del1]
  simp only [← EReal.coe_mul, ← coe_sum, ← EReal.coe_sub]

theorem pay34 (r : Fin 256) (l : Fin 128) :
    (k0_pay34 (F := Ideal) (k0_pay21 d) (k0_pay22 o) k0_pay23 (k0_pay28 cc s1 q) (k0_pay29 s2 q) k lse v k (ix2 r l) : EReal)
      = (B.dq0 B.D0 B.del0 r l : EReal) := by
  unfold k0_pay34
  pointwise
  simp only [pay33 H, H.k, ofBits_sc, Head.dq0]
  simp only [← EReal.coe_mul, ← coe_sum]

theorem pay48 (r : Fin 256) (l : Fin 128) :
    (k0_pay48 (F := Ideal) (k0_pay21 d) (k0_pay22 o) k0_pay23 (k0_pay40 s1) (k0_pay41 s2) (k0_pay42 q) (k0_pay43 cc q) k lse v k (ix2 r l) : EReal)
      = (B.dq0 B.D1 B.del1 r l : EReal) := by
  unfold k0_pay48
  pointwise
  simp only [pay47 H, H.k, ofBits_sc, Head.dq0]
  simp only [← EReal.coe_mul, ← coe_sum]

/-- The first head's gradient of the queries. -/
theorem dq_head0 (r : Fin 256) (l : Fin 128) :
    (k0_pay36 (F := Ideal) (k0_pay26 s2)
      (k0_pay34 (k0_pay21 d) (k0_pay22 o) k0_pay23 (k0_pay28 cc s1 q) (k0_pay29 s2 q) k lse v k)
      (k0_pay35 (k0_pay21 d) (k0_pay22 o) k0_pay23 (k0_pay24 cc) (k0_pay25 s1) (k0_pay28 cc s1 q) (k0_pay29 s2 q) k lse v k)
      (ix3 0 r l) : EReal) = (B.dq B.D0 B.del0 r l : EReal) := by
  unfold k0_pay36 k0_pay35 k0_pay24 k0_pay25 k0_pay26
  pointwise
  simp only [pay34 H, H.cc, H.s1, H.s2, Head.dq, ropeT]
  simp only [← EReal.coe_mul, ← EReal.coe_add]

/-- The second head's gradient of the queries. -/
theorem dq_head1 (r : Fin 256) (l : Fin 128) :
    (k0_pay1 (F := Ideal) (k0_pay41 s2)
      (k0_pay48 (k0_pay21 d) (k0_pay22 o) k0_pay23 (k0_pay40 s1) (k0_pay41 s2) (k0_pay42 q) (k0_pay43 cc q) k lse v k)
      (k0_pay49 (k0_pay21 d) (k0_pay22 o) k0_pay23 (k0_pay39 cc) (k0_pay40 s1) (k0_pay41 s2) (k0_pay42 q) (k0_pay43 cc q) k lse v k)
      (k0_pay50 (k0_pay21 d) (k0_pay22 o) k0_pay23 (k0_pay40 s1) (k0_pay41 s2) (k0_pay42 q) (k0_pay43 cc q) k lse v k)
      (ix3 0 r l) : EReal) = (B.dq B.D1 B.del1 r l : EReal) := by
  unfold k0_pay1 k0_pay49 k0_pay50
  pointwise
  simp only [pay48 H]
  unfold k0_pay39 k0_pay40 k0_pay41
  pointwise
  simp only [H.cc, H.s1, H.s2, Head.dq, ropeT]
  simp only [← EReal.coe_mul, ← EReal.coe_add]

theorem dk_head0 (acc : FVec Ideal S1x2048x128 .f32) (m : Fin 2048) (l : Fin 128) (a : ℝ) (ha : (acc (ix3 0 m l) : EReal) = (a : EReal)) :
    (k0_pay37 (F := Ideal) (k0_pay30 (k0_pay28 cc s1 q) (k0_pay29 s2 q))
      (k0_pay33 (k0_pay21 d) (k0_pay22 o) k0_pay23 (k0_pay28 cc s1 q) (k0_pay29 s2 q) k lse v) acc (ix3 0 m l) : EReal)
      = ((a + B.dk B.D0 B.del0 m l : ℝ) : EReal) := by
  unfold k0_pay37
  pointwise
  simp only [pay30 H, pay33 H, ha, Head.dk]
  simp only [← EReal.coe_mul, ← coe_sum, ← EReal.coe_add]

theorem dk_head1 (acc : FVec Ideal S1x2048x128 .f32) (m : Fin 2048) (l : Fin 128) (a : ℝ) (ha : (acc (ix3 0 m l) : EReal) = (a : EReal)) :
    (k0_pay2 (F := Ideal) (k0_pay44 (k0_pay40 s1) (k0_pay41 s2) (k0_pay42 q) (k0_pay43 cc q))
      (k0_pay47 (k0_pay21 d) (k0_pay22 o) k0_pay23 (k0_pay40 s1) (k0_pay41 s2) (k0_pay42 q) (k0_pay43 cc q) k lse v) acc (ix3 0 m l) : EReal)
      = ((a + B.dk B.D1 B.del1 m l : ℝ) : EReal) := by
  unfold k0_pay2
  pointwise
  simp only [pay44 H, pay47 H, ha, Head.dk]
  simp only [← EReal.coe_mul, ← coe_sum, ← EReal.coe_add]

theorem dv_head0 (acc : FVec Ideal S1x2048x128 .f32) (m : Fin 2048) (l : Fin 128) (a : ℝ) (ha : (acc (ix3 0 m l) : EReal) = (a : EReal)) :
    (k0_pay38 (F := Ideal) (k0_pay31 (k0_pay28 cc s1 q) (k0_pay29 s2 q) k lse) (k0_pay32 (k0_pay21 d) k0_pay23) acc (ix3 0 m l) : EReal)
      = ((a + B.dv B.D0 m l : ℝ) : EReal) := by
  unfold k0_pay38
  pointwise
  simp only [pay31 H, pay32 H, ha, Head.dv]
  simp only [← EReal.coe_mul, ← coe_sum, ← EReal.coe_add]

theorem dv_head1 (acc : FVec Ideal S1x2048x128 .f32) (m : Fin 2048) (l : Fin 128) (a : ℝ) (ha : (acc (ix3 0 m l) : EReal) = (a : EReal)) :
    (k0_pay3 (F := Ideal) (k0_pay45 (k0_pay40 s1) (k0_pay41 s2) (k0_pay42 q) (k0_pay43 cc q) k lse) (k0_pay46 (k0_pay21 d) k0_pay23) acc (ix3 0 m l) : EReal)
      = ((a + B.dv B.D1 m l : ℝ) : EReal) := by
  unfold k0_pay3
  pointwise
  simp only [pay45 H, pay46 H, ha, Head.dv]
  simp only [← EReal.coe_mul, ← coe_sum, ← EReal.coe_add]

end

/-- The key-side blocks read as real numbers: the tables of all rows. -/
structure Tables (cc s1 s2 : FVec Ideal S2048x128 .f32) (C S1 S2 : ℕ → ℕ → ℝ) : Prop where
  cc : ∀ (r : Fin 2048) (l : Fin 128), (cc (ix2 r l) : EReal) = (C r l : EReal)
  s1 : ∀ (r : Fin 2048) (l : Fin 128), (s1 (ix2 r l) : EReal) = (S1 r l : EReal)
  s2 : ∀ (r : Fin 2048) (l : Fin 128), (s2 (ix2 r l) : EReal) = (S2 r l : EReal)

section

variable {cc s1 s2 : FVec Ideal S2048x128 .f32} {C S1 S2 : ℕ → ℕ → ℝ} (T : Tables cc s1 s2 C S1 S2)
include T

theorem pay8 (kr : FVec Ideal S1x2048x128 .f32) (x : ℕ → ℕ → ℝ)
    (hx : ∀ (r : Fin 2048) (l : Fin 128), (kr (ix3 0 r l) : EReal) = (x r l : EReal)) (r : Fin 2048) (l : Fin 128) :
    (k0_pay8 (F := Ideal) cc s1 s2 kr (ix2 r l) : EReal) = (rope C S1 S2 x r l : EReal) := by
  unfold k0_pay8
  pointwise
  simp only [T.cc, T.s1, T.s2, hx, rope]
  norm_cast

/-- The keys a head is multiplied with: its own in the lower lanes, the shared rotated ones in the upper. -/
theorem k2_head0 (kr kv : FVec Ideal S1x2048x128 .f32) (x y : ℕ → ℕ → ℝ)
    (hx : ∀ (r : Fin 2048) (l : Fin 128), (kr (ix3 0 r l) : EReal) = (x r l : EReal))
    (hy : ∀ (r : Fin 2048) (l : Fin 128), (kv (ix3 0 r l) : EReal) = (y r l : EReal)) (r : Fin 2048) (l : Fin 128) :
    (k0_pay10 (F := Ideal) cc s1 s2 kr kv (ix3 0 r l) : EReal)
      = ((if 64 ≤ (l : ℕ) then rope C S1 S2 x r l else y r l : ℝ) : EReal) := by
  unfold k0_pay10
  pointwise
  simp only [slt64, pay8 T kr x hx, hy]
  exact (select_lt _ _ _).trans (ite_coe _ _ _)

theorem k2_head1 (kr kv : FVec Ideal S1x2048x128 .f32) (x y : ℕ → ℕ → ℝ)
    (hx : ∀ (r : Fin 2048) (l : Fin 128), (kr (ix3 0 r l) : EReal) = (x r l : EReal))
    (hy : ∀ (r : Fin 2048) (l : Fin 128), (kv (ix3 0 r l) : EReal) = (y r l : EReal)) (r : Fin 2048) (l : Fin 128) :
    (k0_pay17 (F := Ideal) (k0_pay8 cc s1 s2 kr) kv (ix3 0 r l) : EReal)
      = ((if 64 ≤ (l : ℕ) then rope C S1 S2 x r l else y r l : ℝ) : EReal) := by
  unfold k0_pay17
  pointwise
  simp only [slt64, pay8 T kr x hx, hy]
  exact (select_lt _ _ _).trans (ite_coe _ _ _)

omit T in
theorem keep_ge (l : ℕ) (hl : l < 128) (x : ℝ) :
    Scalar.select (IntOp.cmpi CmpIPredicate.sge (BitVec.ofNat 32 l) 64#32) (x : EReal) 0
      = ((if 64 ≤ l then x else 0 : ℝ) : EReal) := by
  rw [sge64 ⟨l, hl⟩]
  exact (select_ge _ _ _).trans (ite_coe _ _ 0)

/-- What a head adds to the shared keys' gradient. -/
theorem dkr_head0 (g acc : FVec Ideal S1x2048x128 .f32) (x y : ℕ → ℕ → ℝ)
    (hx : ∀ (r : Fin 2048) (l : Fin 128), (g (ix3 0 r l) : EReal) = (x r l : EReal))
    (hy : ∀ (r : Fin 2048) (l : Fin 128), (acc (ix3 0 r l) : EReal) = (y r l : EReal)) (r : Fin 2048) (l : Fin 128) :
    (k0_pay4 (F := Ideal) (k0_pay16 cc s1 s2 g acc) (ix3 0 r l) : EReal)
      = ((y r l + ropeT C S1 S2 (fun r l => if 64 ≤ l then x r l else 0) r l : ℝ) : EReal) := by
  unfold k0_pay4 k0_pay16 k0_pay11 k0_pay12 k0_pay13 k0_pay14
  pointwise
  simp only [T.cc, T.s1, T.s2, hx, hy, ← EReal.coe_mul]
  rw [keep_ge l l.isLt, keep_ge _ (Nat.mod_lt _ (by decide)), keep_ge _ (Nat.mod_lt _ (by decide))]
  simp only [ropeT, ite_mul, zero_mul, ← EReal.coe_add]

theorem dkr_head1 (g acc : FVec Ideal S1x2048x128 .f32) (x y : ℕ → ℕ → ℝ)
    (hx : ∀ (r : Fin 2048) (l : Fin 128), (g (ix3 0 r l) : EReal) = (x r l : EReal))
    (hy : ∀ (r : Fin 2048) (l : Fin 128), (acc (ix3 0 r l) : EReal) = (y r l : EReal)) (r : Fin 2048) (l : Fin 128) :
    (k0_pay7 (F := Ideal) (k0_pay11 cc) (k0_pay12 s1) (k0_pay13 s2) g acc (ix3 0 r l) : EReal)
      = ((y r l + ropeT C S1 S2 (fun r l => if 64 ≤ l then x r l else 0) r l : ℝ) : EReal) := by
  unfold k0_pay7 k0_pay11 k0_pay12 k0_pay13 k0_pay5
  pointwise
  simp only [T.cc, T.s1, T.s2, hx, hy, ← EReal.coe_mul]
  rw [keep_ge l l.isLt, keep_ge _ (Nat.mod_lt _ (by decide)), keep_ge _ (Nat.mod_lt _ (by decide))]
  simp only [ropeT, ite_mul, zero_mul, ← EReal.coe_add]

end

theorem dkv_head0 (g acc : FVec Ideal S1x2048x128 .f32) (r : Fin 2048) (l : Fin 128) (x y : ℝ)
    (hx : (g (ix3 0 r l) : EReal) = (x : EReal)) (hy : (acc (ix3 0 r l) : EReal) = (y : EReal)) :
    (k0_pay15 (F := Ideal) g acc (ix3 0 r l) : EReal) = ((y + if 64 ≤ (l : ℕ) then 0 else x : ℝ) : EReal) := by
  unfold k0_pay15 k0_pay14
  pointwise
  rw [hx, hy, slt64, EReal.coe_add]
  exact congrArg _ ((select_lt _ _ _).trans (ite_coe _ 0 _))

theorem dkv_head1 (g acc : FVec Ideal S1x2048x128 .f32) (r : Fin 2048) (l : Fin 128) (x y : ℝ)
    (hx : (g (ix3 0 r l) : EReal) = (x : EReal)) (hy : (acc (ix3 0 r l) : EReal) = (y : EReal)) :
    (k0_pay6 (F := Ideal) g acc (ix3 0 r l) : EReal) = ((y + if 64 ≤ (l : ℕ) then 0 else x : ℝ) : EReal) := by
  unfold k0_pay6 k0_pay5
  pointwise
  rw [hx, hy, slt64, EReal.coe_add]
  exact congrArg _ ((select_lt _ _ _).trans (ite_coe _ 0 _))

end Cert.AttnBwd.Ker

end
-- ==== Proof.Point.lean ====
/- The kernel's arrays in real numbers, the blocks it sees at one point of its grid (a batch entry `b`, a pair of
   heads `p`, a block `i` of 256 queries), and how a buffer written piece by piece is read. -/
module

public import proofs.«01_k».proof.Proof.Block
public import Idealize.ShloMosaic.Lib.Pipeline.Value

@[expose] public section

set_option maxRecDepth 16384

noncomputable section

namespace Cert.AttnBwd.Ker

open Idealize.ShloMosaic Idealize.ShloMosaic.TcCoe
open Cert.KernelIdeal Cert.KernelIdeal.Gen

/-- The table multiplying a lane itself. -/
def Ct (t l : ℕ) : ℝ := if 64 ≤ l ∧ l < 96 then co t ((l - 64) % 16) else 1
/-- The table multiplying the lane sixteen above. -/
def S1t (t l : ℕ) : ℝ := if 64 ≤ l ∧ l < 80 then -si t (l - 64) else 0
/-- The table multiplying the lane sixteen below. -/
def S2t (t l : ℕ) : ℝ := if 80 ≤ l ∧ l < 96 then si t (l - 80) else 0

variable (A : Args) (b p i hh : ℕ)

/-- The queries, 96 lanes a head padded to 128. -/
def qp (t j : ℕ) : ℝ := if j % 128 < 96 then A.q b t (96 * (j / 128) + j % 128) else 0
/-- The shared keys in lanes 64 to 95. -/
def krp (t l : ℕ) : ℝ := if 64 ≤ l ∧ l < 96 then A.kr b t (l - 64) else 0
/-- The forward output. -/
def ob (t j : ℕ) : ℝ := ∑ k : Fin 2048, A.P b (j / 64) t k * A.vv b (j / 64) (j % 64) k
/-- The logarithm of the softmax's sum. -/
def lseb (h t : ℕ) : ℝ := A.M b h t + Real.log (A.L b h t)
/-- The keys the kernel multiplies with, rotated. -/
def K2 (k l : ℕ) : ℝ := if 64 ≤ l then rope Ct S1t S2t (krp A b) k l else A.kv b k (256 * p + 128 * hh + l)

/-- The blocks of head `2 p + hh` at the point. -/
def head : Head where
  C r l := Ct (256 * i + r) l
  S1 r l := S1t (256 * i + r) l
  S2 r l := S2t (256 * i + r) l
  q r l := qp A b (256 * i + r) (256 * p + (128 * hh + l))
  k := K2 A b p hh
  lse r := lseb A b (2 * p + hh) (256 * i + r)
  v k l := A.kv b k (256 * p + (128 * hh + l))
  D r l := A.dO b (256 * i + r) (128 * p + l)
  O r l := ob A b (256 * i + r) (128 * p + l)

def Dm : ℕ → ℕ → ℝ := if hh = 0 then (head A b p i hh).D0 else (head A b p i hh).D1
def del : ℕ → ℝ := if hh = 0 then (head A b p i hh).del0 else (head A b p i hh).del1
/-- The block's gradient of the queries. -/
def dqB (r l : ℕ) : ℝ := (head A b p i hh).dq (Dm A b p i hh) (del A b p i hh) r l
/-- What the block adds to the gradient of the rotated keys. -/
def dkB (k l : ℕ) : ℝ := (head A b p i hh).dk (Dm A b p i hh) (del A b p i hh) k l
/-- What the block adds to the gradient of the values. -/
def dvB (k l : ℕ) : ℝ := (head A b p i hh).dv (Dm A b p i hh) k l

/-- The input blocks of the point read as the real arrays. -/
structure In (x0 : FVec Ideal S1x256x256 .f32) (x1 : FVec Ideal S1x2048x256 .f32) (x2 : FVec Ideal S1x2048x128 .f32)
    (x3 x4 x5 : FVec Ideal S2048x128 .f32) (x6 : FVec Ideal S1x256x128 .f32) (x7 : FVec Ideal S1x1x256x128 .f32)
    (x8 : FVec Ideal S1x256x128 .f32) : Prop where
  x0 : ∀ (r : Fin 256) (j : Fin 256), (x0 (ix3 0 r j) : EReal) = (qp A b (256 * i + r) (256 * p + j) : EReal)
  x1 : ∀ (t : Fin 2048) (j : Fin 256), (x1 (ix3 0 t j) : EReal) = (A.kv b t (256 * p + j) : EReal)
  x2 : ∀ (t : Fin 2048) (l : Fin 128), (x2 (ix3 0 t l) : EReal) = (krp A b t l : EReal)
  x3 : ∀ (t : Fin 2048) (l : Fin 128), (x3 (ix2 t l) : EReal) = (Ct t l : EReal)
  x4 : ∀ (t : Fin 2048) (l : Fin 128), (x4 (ix2 t l) : EReal) = (S1t t l : EReal)
  x5 : ∀ (t : Fin 2048) (l : Fin 128), (x5 (ix2 t l) : EReal) = (S2t t l : EReal)
  x6 : ∀ (r : Fin 256) (l : Fin 128), (x6 (ix3 0 r l) : EReal) = (ob A b (256 * i + r) (128 * p + l) : EReal)
  x7 : ∀ (r : Fin 256) (l : Fin 128), (x7 (ix4 0 0 r l) : EReal) = (lseb A b (2 * p + l / 64) (256 * i + r) : EReal)
  x8 : ∀ (r : Fin 256) (l : Fin 128), (x8 (ix3 0 r l) : EReal) = (A.dO b (256 * i + r) (128 * p + l) : EReal)

/-- The scratch keys read as the real ones. -/
def Keys (xs0 : FVec Ideal S2x2048x128 .bf16) : Prop :=
  ∀ (hh : Fin 2) (t : Fin 2048) (l : Fin 128), (xs0 (ix3 hh t l) : EReal) = (K2 A b p hh t l : EReal)

/-- The scratch values read as the real ones. -/
def Vals (xs1 : FVec Ideal S2048x256 .bf16) : Prop :=
  ∀ (t : Fin 2048) (j : Fin 256), (xs1 (ix2 t j) : EReal) = (A.kv b t (256 * p + j) : EReal)

/-- A buffer of rank three at an index, after its last write. -/
theorem canon3 {Val : EltTy → Type} [∀ e, Nonempty (Val e)] {e : EltTy} {n0 n1 n2 o0 o1 o2 z0 z1 z2 : ℕ}
    (inb : ∀ a, (![o0, o1, o2] : Fin 3 → ℕ) a + (![z0, z1, z2] : Fin 3 → ℕ) a ≤ (⟨3, ![n0, n1, n2]⟩ : Shape).size a)
    (w : (Rect.unit (s := ⟨3, ![n0, n1, n2]⟩) ![o0, o1, o2] ![z0, z1, z2] inb).shape.Idx → Val e)
    (L : List (View.Piece Val ⟨3, ![n0, n1, n2]⟩ e)) (x : Fin n0) (y : Fin n1) (z : Fin n2) :
    View.canon (⟨Rect.unit (s := ⟨3, ![n0, n1, n2]⟩) ![o0, o1, o2] ![z0, z1, z2] inb, w⟩ :: L) (ix3 x y z)
      = if h : (o0 ≤ x ∧ (x : ℕ) < o0 + z0) ∧ (o1 ≤ y ∧ (y : ℕ) < o1 + z1) ∧ (o2 ≤ z ∧ (z : ℕ) < o2 + z2) then
          w (ix3 ⟨x - o0, by omega⟩ ⟨y - o1, by omega⟩ ⟨z - o2, by omega⟩)
        else View.canon L (ix3 x y z) := by
  split
  next h =>
    have hi : (ix3 x y z : (⟨3, ![n0, n1, n2]⟩ : Shape).Idx)
        = (Rect.unit (s := ⟨3, ![n0, n1, n2]⟩) ![o0, o1, o2] ![z0, z1, z2] inb).emb
            (ix3 ⟨x - o0, by omega⟩ ⟨y - o1, by omega⟩ ⟨z - o2, by omega⟩) := by
      funext a
      apply Fin.ext
      fin_cases a
      · show (x : ℕ) = o0 + 1 * (x - o0); omega
      · show (y : ℕ) = o1 + 1 * (y - o1); omega
      · show (z : ℕ) = o2 + 1 * (z - o2); omega
    rw [hi, View.canon_cons_emb]
  next h =>
    refine View.canon_cons_of_not_mem _ _ fun hm => h ?_
    rw [Rect.mem_set_unit] at hm
    exact ⟨hm 0, hm 1, hm 2⟩

/-- The whole buffer is written. -/
theorem canon3_whole {Val : EltTy → Type} [∀ e, Nonempty (Val e)] {e : EltTy} {n0 n1 n2 : ℕ}
    (inb : ∀ a, (![0, 0, 0] : Fin 3 → ℕ) a + (![n0, n1, n2] : Fin 3 → ℕ) a ≤ (⟨3, ![n0, n1, n2]⟩ : Shape).size a)
    (w : (Rect.unit (s := ⟨3, ![n0, n1, n2]⟩) ![0, 0, 0] ![n0, n1, n2] inb).shape.Idx → Val e)
    (L : List (View.Piece Val ⟨3, ![n0, n1, n2]⟩ e)) (x : Fin n0) (y : Fin n1) (z : Fin n2) :
    View.canon (⟨Rect.unit (s := ⟨3, ![n0, n1, n2]⟩) ![0, 0, 0] ![n0, n1, n2] inb, w⟩ :: L) (ix3 x y z) = w (ix3 x y z) := by
  rw [canon3, dif_pos ⟨⟨Nat.zero_le _, by omega⟩, ⟨Nat.zero_le _, by omega⟩, ⟨Nat.zero_le _, by omega⟩⟩]
  rfl

/-- A load of what was written reads the writes. -/
theorem readCov_ld {Val : EltTy → Type} [∀ e, Nonempty (Val e)] {e : EltTy} {s : Shape} {sig : RefSig} {κ : Kind} {sp : Space}
    (v : View sig κ sp s e) (L : List (View.Piece Val s e)) (r : Rect s) :
    v.readCov L r.toLoadRect = View.ld (View.canon L) r := View.readCov_eq_canon' v L r.toLoadRect

/-- The offset of the block's rows, as the kernel counts it. -/
theorem row_off (n : ℕ) (hn : n < 8) :
    BitVec.toNat (Scalar.indexCast (Scalar.muli (BitVec.ofNat 32 n) 256#32)) = 256 * n := by
  interval_cases n <;> rfl

end Cert.AttnBwd.Ker

end
-- ==== Proof.KernelHost.lean ====
module

public import proofs.«01_k».proof.Proof.Point
public import proofs.«01_k».proof.Proof.RefSoftmax
public import proofs.«01_k».proof.Proof.Gen.KernelIdeal.Value
public import Idealize.ShloMosaic.Lib.StableHlo.ReadAt

/-!
What the host code in front of the call leaves in the arrays that the call reads, at an index.
-/

@[expose] public section

set_option maxRecDepth 16384

noncomputable section

namespace Cert.AttnBwd.Ker

open Idealize.ShloMosaic Idealize.ShloMosaic.TcCoe
open Cert.KernelIdeal Cert.KernelIdeal.Gen Cert.AttnBwd

variable (m : (ℓ : Loc nD τ sig) → ℓ.2.ty.Contents (Elt Ideal)) (c : Dev nD)

theorem V_c (t : Fin 2048) (l : Fin 128) : (V m c main_v98 (ix2 t l) : EReal) = (Ct t l : EReal) := by
  have hl := l.isLt
  after_reads_at
  after_reads_at
  unfold Ct
  by_cases h1 : l.val < 64
  · rw [dif_pos h1, if_neg (by omega), EReal.coe_one]
  · rw [dif_neg h1]
    by_cases h2 : l.val - 64 < 16
    · rw [dif_pos h2, if_pos (by omega), Nat.mod_eq_of_lt h2]
      exact cos_ang _ _
    · rw [dif_neg h2]
      by_cases h3 : l.val - 64 - 16 < 16
      · rw [dif_pos h3, if_pos (by omega), show (l.val - 64) % 16 = l.val - 64 - 16 by omega]
        exact cos_ang _ _
      · rw [dif_neg h3, if_neg (by omega), EReal.coe_one]

theorem V_s1 (t : Fin 2048) (l : Fin 128) : (V m c main_v102 (ix2 t l) : EReal) = (S1t t l : EReal) := by
  have hl := l.isLt
  after_reads_at
  after_reads_at
  unfold S1t
  by_cases h1 : l.val < 64
  · rw [dif_pos h1, if_neg (by omega), EReal.coe_zero]
  · rw [dif_neg h1]
    by_cases h2 : l.val - 64 < 16
    · rw [dif_pos h2, if_pos (by omega), EReal.coe_neg, ← sin_ang]
      rfl
    · rw [dif_neg h2]
      by_cases h3 : l.val - 64 - 16 < 16
      · rw [dif_pos h3, if_neg (by omega), EReal.coe_zero]
      · rw [dif_neg h3, if_neg (by omega), EReal.coe_zero]

theorem V_s2 (t : Fin 2048) (l : Fin 128) : (V m c main_v105 (ix2 t l) : EReal) = (S2t t l : EReal) := by
  have hl := l.isLt
  after_reads_at
  after_reads_at
  unfold S2t
  by_cases h1 : l.val < 64
  · rw [dif_pos h1, if_neg (by omega), EReal.coe_zero]
  · rw [dif_neg h1]
    by_cases h2 : l.val - 64 < 16
    · rw [dif_pos h2, if_neg (by omega), EReal.coe_zero]
    · rw [dif_neg h2]
      by_cases h3 : l.val - 64 - 16 < 16
      · rw [dif_pos h3, if_pos (by omega), ← sin_ang, show l.val - 80 = l.val - 64 - 16 by omega]
        rfl
      · rw [dif_neg h3, if_neg (by omega), EReal.coe_zero]

theorem sitofp_zero : FloatOps.sitofp (F := Ideal) FTy.f32 0#32 = (0 : EReal) := by
  show (((0#32).toInt : ℝ) : EReal) = 0
  simp

variable (A : Args)

theorem V_q (hq : ∀ (b : Fin 2) (t : Fin 2048) (j : Fin 768), (V m c main_arg0 (ix3 b t j) : EReal) = (A.q b t j : EReal))
    (b : Fin 2) (t : Fin 2048) (j : Fin 1024) : (V m c main_v75 (ix3 b t j) : EReal) = (qp A b t j : EReal) := by
  have hj := j.isLt
  have hq' : ∀ (b : Fin 2) (t : Fin 2048) (j : Fin 768), (m (c, Proc.devRef .tc main_arg0) (ix3 b t j) : EReal) = (A.q b t j : EReal) := by
    rw [V_main_arg0] at hq
    exact hq
  after_reads_at
  have h8 : j.val / 128 < 8 := by omega
  by_cases h : j.val % 128 < 96
  · have h0 : j.val / 128 < 8 ∧ j.val % 128 < 96 := ⟨h8, h⟩
    have hn : j.val / 128 * 96 + j.val % 128 < 768 := by omega
    have e : A.q b t (j.val / 128 * 96 + j.val % 128) = qp A b t j := by
      rw [qp, if_pos h, Nat.mul_comm]
    rw [dif_pos h0]
    exact (hq' b t ⟨_, hn⟩).trans (congrArg _ e)
  · have h0 : ¬ (j.val / 128 < 8 ∧ j.val % 128 < 96) := fun h' => h h'.2
    have e : (0 : ℝ) = qp A b t j := (if_neg h).symm
    rw [dif_neg h0]
    exact sitofp_zero.trans (EReal.coe_zero.symm.trans (congrArg _ e))

theorem V_kr (hkr : ∀ (b : Fin 2) (t : Fin 2048) (j : Fin 32), (V m c main_arg2 (ix3 b t j) : EReal) = (A.kr b t j : EReal))
    (b : Fin 2) (t : Fin 2048) (l : Fin 128) : (V m c main_v76 (ix3 b t l) : EReal) = (krp A b t l : EReal) := by
  have hl := l.isLt
  have hkr' : ∀ (b : Fin 2) (t : Fin 2048) (j : Fin 32), (m (c, Proc.devRef .tc main_arg2) (ix3 b t j) : EReal) = (A.kr b t j : EReal) := by
    rw [V_main_arg2] at hkr
    exact hkr
  after_reads_at
  unfold krp
  by_cases h : 64 ≤ l.val ∧ l.val < 96
  · rw [dif_pos ⟨h.1, by omega⟩, if_pos h, hkr']
  · rw [dif_neg (by omega), if_neg h, sitofp_zero, EReal.coe_zero]

theorem V_scores (V0 : Valuation Cert.ReferenceIdeal.τ Cert.ReferenceIdeal.sig (Elt Ideal))
    (h0 : (V0 (Proc.devRef .tc Cert.ReferenceIdeal.main_arg0) : FVec Ideal S2x2048x768 .f32) = V m c main_arg0)
    (h1 : (V0 (Proc.devRef .tc Cert.ReferenceIdeal.main_arg1) : FVec Ideal S2x2048x1024 .f32) = V m c main_arg1)
    (h2 : (V0 (Proc.devRef .tc Cert.ReferenceIdeal.main_arg2) : FVec Ideal S2x2048x32 .f32) = V m c main_arg2) :
    (V m c main_v54 : FVec Ideal S2x8x2048x2048 .f32) = Cert.ReferenceIdeal.Value.res_main_v54 V0 := by
  rw [V_main_arg0] at h0
  rw [V_main_arg1] at h1
  rw [V_main_arg2] at h2
  have e15 : @Eq (FVec Ideal S2048x16 .f32) (StableHlo.upto [hostOps0, hostOps0_1, hostOps0_2, hostOps0_3, hostOps0_4].flatten (fun b => m (c, b)) 20 (Proc.devRef .tc main_v15))
      (Cert.ReferenceIdeal.Value.res_main_v15 V0) := by
    after_reads_simp
    rfl
  have e40 : @Eq (FVec Ideal S2x2048x16 .f32) (StableHlo.upto [hostOps0, hostOps0_1, hostOps0_2, hostOps0_3, hostOps0_4].flatten (fun b => m (c, b)) 45 (Proc.devRef .tc main_v40))
      (Host.negf (extractStridedSlice S2x2048x16 ![0, 0, 16] (m (c, Proc.devRef .tc main_arg2)) slices_S2x2048x32_S2x2048x16_0_0_16)) := by
    after_reads_simp
  have e38 : @Eq (FVec Ideal S2x2048x16 .f32) (StableHlo.upto [hostOps0, hostOps0_1, hostOps0_2, hostOps0_3, hostOps0_4].flatten (fun b => m (c, b)) 45 (Proc.devRef .tc main_v38))
      (extractStridedSlice S2x2048x16 ![0, 0, 0] (m (c, Proc.devRef .tc main_arg2)) slices_S2x2048x32_S2x2048x16_0_0_0) := by
    after_reads_simp
  have e26 : @Eq (FVec Ideal S2x2048x8x16 .f32) (StableHlo.upto [hostOps0, hostOps0_1, hostOps0_2, hostOps0_3, hostOps0_4].flatten (fun b => m (c, b)) 31 (Proc.devRef .tc main_v26))
      (Host.negf (extractStridedSlice S2x2048x8x16 ![0, 0, 0, 16] (extractStridedSlice S2x2048x8x32 ![0, 0, 0, 64] (shapeCast S2x2048x8x96 (m (c, Proc.devRef .tc main_arg0)) shapeCasts_S2x2048x768_S2x2048x8x96) slices_S2x2048x8x96_S2x2048x8x32_0_0_0_64) slices_S2x2048x8x32_S2x2048x8x16_0_0_0_16)) := by
    after_reads_simp
    rfl
  have e24 : @Eq (FVec Ideal S2x2048x8x16 .f32) (StableHlo.upto [hostOps0, hostOps0_1, hostOps0_2, hostOps0_3, hostOps0_4].flatten (fun b => m (c, b)) 31 (Proc.devRef .tc main_v24))
      (extractStridedSlice S2x2048x8x16 ![0, 0, 0, 0] (extractStridedSlice S2x2048x8x32 ![0, 0, 0, 64] (shapeCast S2x2048x8x96 (m (c, Proc.devRef .tc main_arg0)) shapeCasts_S2x2048x768_S2x2048x8x96) slices_S2x2048x8x96_S2x2048x8x32_0_0_0_64) slices_S2x2048x8x32_S2x2048x8x16_0_0_0_0) := by
    after_reads_simp
    rfl
  after_reads_simp
  rw [e15, e40, e38, e26, e24]
  have h0' : @Eq (FVec Ideal S2x2048x768 .f32) (m (c, Proc.devRef .tc main_arg0)) (V0 (Proc.devRef .tc Cert.ReferenceIdeal.main_arg0)) := h0.symm
  have h1' : @Eq (FVec Ideal S2x2048x1024 .f32) (m (c, Proc.devRef .tc main_arg1)) (V0 (Proc.devRef .tc Cert.ReferenceIdeal.main_arg1)) := h1.symm
  have h2' : @Eq (FVec Ideal S2x2048x32 .f32) (m (c, Proc.devRef .tc main_arg2)) (V0 (Proc.devRef .tc Cert.ReferenceIdeal.main_arg2)) := h2.symm
  rw [h0', h1', h2']
  rfl

end Cert.AttnBwd.Ker

end
-- ==== Proof.KernelLse.lean ====
/- What the host code in front of the call leaves of the forward pass: the output and the softmax's log-sum. -/
module

public import proofs.«01_k».proof.Proof.KernelHost

@[expose] public section

set_option maxRecDepth 16384

noncomputable section

namespace Cert.AttnBwd.Ker

open Idealize.ShloMosaic Idealize.ShloMosaic.TcCoe
open Cert.KernelIdeal Cert.KernelIdeal.Gen Cert.AttnBwd

/-- The largest score of each row. -/
def rowMax (x : FVec Ideal S2x8x2048x2048 .f32) : FVec Ideal S2x8x2048x1 .f32 :=
  broadcastInDim S2x8x2048x1 ![0, 1, 2] bcast_S2x8x2048_S2x8x2048x1_0_1_2
    (Host.reduce FloatOps.maximumf x (constant S_ .f32 0xFF800000#32) reducesTo_S2x8x2048x2048_S2x8x2048_d3 h_S_)

/-- The exponentials of the shifted scores. -/
def rowExp (x : FVec Ideal S2x8x2048x2048 .f32) : FVec Ideal S2x8x2048x2048 .f32 :=
  Host.exp (subf x (broadcastInDim S2x8x2048x2048 ![0, 1, 2, 3] bcast_S2x8x2048x1_S2x8x2048x2048_0_1_2_3 (rowMax x)))

/-- Their sum over each row. -/
def rowSum (x : FVec Ideal S2x8x2048x2048 .f32) : FVec Ideal S2x8x2048x1 .f32 :=
  broadcastInDim S2x8x2048x1 ![0, 1, 2] bcast_S2x8x2048_S2x8x2048x1_0_1_2
    (Host.reduceAdd (rowExp x) (constant S_ .f32 0x00000000#32) reducesTo_S2x8x2048x2048_S2x8x2048_d3 h_S_)

/-- The attention's output of the scores and the values. -/
def outOf (x : FVec Ideal S2x8x2048x2048 .f32) (kv : FVec Ideal S2x2048x1024 .f32) : FVec Ideal S2x2048x512 .f32 :=
  shapeCast S2x2048x512 (transpose S2x2048x8x64 [0, 3, 1, 2]
    (Host.dotGeneral dot_S2x2048x8x64_S2x8x2048x2048_S2x8x64x2048_1_3_3_2_02_01 none
      (extractStridedSlice S2x2048x8x64 ![0, 0, 0, 64] (shapeCast S2x2048x8x128 kv shapeCasts_S2x2048x1024_S2x2048x8x128)
        slices_S2x2048x8x128_S2x2048x8x64_0_0_0_64)
      (Host.divf (rowExp x) (broadcastInDim S2x8x2048x2048 ![0, 1, 2, 3] bcast_S2x8x2048x1_S2x8x2048x2048_0_1_2_3 (rowSum x))))
    transposes_S2x8x64x2048_S2x2048x8x64_0_3_1_2) shapeCasts_S2x2048x8x64_S2x2048x512

/-- One number of each row and head, laid out as the call reads it. -/
def spread (y : FVec Ideal S2x8x2048x1 .f32) : FVec Ideal S2x4x2048x128 .f32 :=
  shapeCast S2x4x2048x128 (transpose S2x4x2048x2x64 [0, 1, 3, 2, 4]
    (broadcastInDim S2x4x2x2048x64 ![0, 1, 2, 3, 4] bcast_S2x4x2x2048x1_S2x4x2x2048x64_0_1_2_3_4
      (shapeCast S2x4x2x2048x1 y shapeCasts_S2x8x2048x1_S2x4x2x2048x1))
    transposes_S2x4x2x2048x64_S2x4x2048x2x64_0_1_3_2_4) shapeCasts_S2x4x2048x2x64_S2x4x2048x128

theorem spread_pair (y : FVec Ideal S2x8x2048x1 .f32) (b : Fin 2) (p : Fin 4) (hh : Fin 2) (t : Fin 2048) (l : Fin 64) :
    (broadcastInDim S2x4x2x2048x64 ![0, 1, 2, 3, 4] bcast_S2x4x2x2048x1_S2x4x2x2048x64_0_1_2_3_4
      (shapeCast S2x4x2x2048x1 y shapeCasts_S2x8x2048x1_S2x4x2x2048x1) (ix5 b p hh t l) : EReal)
      = y (ix4 b ⟨p * 2 + hh, by omega⟩ t 0) := by
  pointwise

theorem spread_lanes (y : FVec Ideal S2x4x2x2048x64 .f32) (b : Fin 2) (p : Fin 4) (t : Fin 2048) (l : Fin 128) :
    (shapeCast S2x4x2048x128 (transpose S2x4x2048x2x64 [0, 1, 3, 2, 4] y
      transposes_S2x4x2x2048x64_S2x4x2048x2x64_0_1_3_2_4) shapeCasts_S2x4x2048x2x64_S2x4x2048x128 (ix4 b p t l) : EReal)
      = y (ix5 b p ⟨l / 64, by omega⟩ t ⟨l % 64, by omega⟩) := by
  pointwise

theorem spread_apply (y : FVec Ideal S2x8x2048x1 .f32) (b : Fin 2) (p : Fin 4) (t : Fin 2048) (l : Fin 128) :
    (spread y (ix4 b p t l) : EReal) = y (ix4 b ⟨p * 2 + l / 64, by omega⟩ t 0) :=
  (spread_lanes _ b p t l).trans (spread_pair y b p _ t _)

theorem outOf_parts {x : FVec Ideal S2x8x2048x2048 .f32} {kv : FVec Ideal S2x2048x1024 .f32}
    {w37 : FVec Ideal S2x2048x8x64 .f32} {w63 : FVec Ideal S2x8x2048x2048 .f32} {w64 : FVec Ideal S2x8x64x2048 .f32}
    {w66 : FVec Ideal S2x2048x512 .f32}
    (h37 : w37 = extractStridedSlice S2x2048x8x64 ![0, 0, 0, 64] (shapeCast S2x2048x8x128 kv shapeCasts_S2x2048x1024_S2x2048x8x128)
      slices_S2x2048x8x128_S2x2048x8x64_0_0_0_64)
    (h63 : w63 = Host.divf (rowExp x) (broadcastInDim S2x8x2048x2048 ![0, 1, 2, 3] bcast_S2x8x2048x1_S2x8x2048x2048_0_1_2_3 (rowSum x)))
    (h64 : w64 = Host.dotGeneral (φ₁ := .f32) (φ₂ := .f32) dot_S2x2048x8x64_S2x8x2048x2048_S2x8x64x2048_1_3_3_2_02_01 none w37 w63)
    (h66 : w66 = shapeCast S2x2048x512 (transpose S2x2048x8x64 [0, 3, 1, 2] w64
      transposes_S2x8x64x2048_S2x2048x8x64_0_3_1_2) shapeCasts_S2x2048x8x64_S2x2048x512) :
    w66 = outOf x kv := by
  rw [h66, h64, h37, h63, outOf]

section
variable (m : (ℓ : Loc nD τ sig) → ℓ.2.ty.Contents (Elt Ideal)) (c : Dev nD)

theorem V_v37 : @Eq (FVec Ideal S2x2048x8x64 .f32) (V m c main_v37)
    (extractStridedSlice S2x2048x8x64 ![0, 0, 0, 64] (shapeCast S2x2048x8x128 (V m c main_arg1) shapeCasts_S2x2048x1024_S2x2048x8x128)
      slices_S2x2048x8x128_S2x2048x8x64_0_0_0_64) := by
  after_reads_simp
  rfl

theorem V_v63 : @Eq (FVec Ideal S2x8x2048x2048 .f32) (V m c main_v63)
    (Host.divf (rowExp (V m c main_v54))
      (broadcastInDim S2x8x2048x2048 ![0, 1, 2, 3] bcast_S2x8x2048x1_S2x8x2048x2048_0_1_2_3 (rowSum (V m c main_v54)))) := by
  unfold rowSum rowExp rowMax
  after_reads_simp

theorem V_v64 : @Eq (FVec Ideal S2x8x64x2048 .f32) (V m c main_v64)
    (Host.dotGeneral (φ₁ := .f32) (φ₂ := .f32) dot_S2x2048x8x64_S2x8x2048x2048_S2x8x64x2048_1_3_3_2_02_01 none
      (V m c main_v37) (V m c main_v63)) := by
  after_reads_simp

theorem V_v66 : @Eq (FVec Ideal S2x2048x512 .f32) (V m c main_v66)
    (shapeCast S2x2048x512 (transpose S2x2048x8x64 [0, 3, 1, 2] (V m c main_v64)
      transposes_S2x8x64x2048_S2x2048x8x64_0_3_1_2) shapeCasts_S2x2048x8x64_S2x2048x512) := by
  after_reads_simp
  rfl

theorem V_out : @Eq (FVec Ideal S2x2048x512 .f32) (V m c main_v66) (outOf (V m c main_v54) (V m c main_arg1)) :=
  outOf_parts (V_v37 m c) (V_v63 m c) (V_v64 m c) (V_v66 m c)

theorem V_spread : @Eq (FVec Ideal S2x4x2048x128 .f32) (V m c main_v72)
    (spread (addf (rowMax (V m c main_v54)) (Host.log (rowSum (V m c main_v54))))) := by
  unfold spread rowSum rowExp rowMax
  after_reads_simp
  rfl
end

section
variable (A : Args) (x : FVec Ideal S2x8x2048x2048 .f32)
  (hx : ∀ (b : Fin 2) (h : Fin 8) (i k : Fin 2048), (x (ix4 b h i k) : EReal) = (A.X b h i k : EReal))

include hx

theorem rowMax_eq (b : Fin 2) (h : Fin 8) (i : Fin 2048) : (rowMax x (ix4 b h i 0) : EReal) = (A.M b h i : EReal) := by
  unfold rowMax
  pointwise
  have hb : (Ideal.ofBits FTy.f32 0xFF800000#32 : EReal) = ⊥ := by simp [Ideal.ofBits, Ideal.ieee]
  simp only [hx]
  rw [hb, A.fold_X]

theorem rowExp_eq (b : Fin 2) (h : Fin 8) (i k : Fin 2048) : (rowExp x (ix4 b h i k) : EReal) = (A.E b h i k : EReal) := by
  unfold rowExp
  pointwise
  rw [hx, rowMax_eq A x hx, ← EReal.coe_sub, exp_coe]
  rfl

theorem rowSum_eq (b : Fin 2) (h : Fin 8) (i : Fin 2048) : (rowSum x (ix4 b h i 0) : EReal) = (A.L b h i : EReal) := by
  unfold rowSum
  pointwise
  simp only [rowExp_eq A x hx, Args.L, coe_sum]

theorem outOf_eq (kv : FVec Ideal S2x2048x1024 .f32)
    (hkv : ∀ (b : Fin 2) (t : Fin 2048) (j : Fin 1024), (kv (ix3 b t j) : EReal) = (A.kv b t j : EReal))
    (b : Fin 2) (t : Fin 2048) (j : Fin 512) : (outOf x kv (ix3 b t j) : EReal) = (ob A b t j : EReal) := by
  unfold outOf
  pointwise
  refine (Finset.sum_congr rfl fun k _ => ?_).trans (coe_sum _ _).symm
  rw [hkv, rowExp_eq A x hx, rowSum_eq A x hx, div_coe _ (A.L_pos _ _ _).ne', ← EReal.coe_mul, mul_comm]
  congr 2
  simp only [Args.vv]
  congr 1
  omega

omit hx in
theorem add_log (u v : FVec Ideal S2x8x2048x1 .f32) (j : S2x8x2048x1.Idx) :
    (addf u (Host.log v) j : EReal) = u j + Ideal.log (v j) := rfl

theorem lse_eq (b : Fin 2) (p : Fin 4) (t : Fin 2048) (l : Fin 128) :
    (spread (addf (rowMax x) (Host.log (rowSum x))) (ix4 b p t l) : EReal) = (lseb A b (2 * p + l / 64) t : EReal) := by
  have hm := rowMax_eq A x hx b ⟨p * 2 + l / 64, by omega⟩ t
  have hs := rowSum_eq A x hx b ⟨p * 2 + l / 64, by omega⟩ t
  rw [spread_apply, add_log, hm, hs, log_coe (A.L_pos _ _ _), ← EReal.coe_add, Nat.mul_comm 2]
  simp only [lseb]
end

end Cert.AttnBwd.Ker

end
-- ==== Proof.KernelBlocks.lean ====
/- The blocks that a point of the grid reads are the real arrays of its batch, pair of heads and block of rows. -/
module

public import proofs.«01_k».proof.Proof.KernelLse

@[expose] public section

set_option maxRecDepth 16384

noncomputable section

namespace Cert.AttnBwd.Ker

open Idealize.ShloMosaic Idealize.ShloMosaic.TcCoe
open Cert.KernelIdeal Cert.KernelIdeal.Gen Cert.AttnBwd

variable (m : (ℓ : Loc nD τ sig) → ℓ.2.ty.Contents (Elt Ideal)) (c : Dev nD)

theorem N_64 (t : Fin cfg0.N) : t.val < 64 := by
  have h : cfg0.N = 64 := N_0
  have := t.isLt
  omega

theorem coords_2 : ∀ t : Fin cfg0.N, ((grid0.coords t 2 : Fin _) : ℕ) = t.val % 8 :=
  (by decide +kernel : ∀ t : Fin grid0.N, ((grid0.coords t 2 : Fin _) : ℕ) = t.val % 8)

theorem idx_0 : ∀ t : Fin cfg0.N, win0_0.index t 0 = t.val / 32 ∧ win0_0.index t 1 = t.val % 8 ∧ win0_0.index t 2 = t.val / 8 % 4 :=
  (by decide +kernel : ∀ t : Fin grid0.N, win0_0.index t 0 = t.val / 32 ∧ win0_0.index t 1 = t.val % 8 ∧ win0_0.index t 2 = t.val / 8 % 4)

theorem idx_1 : ∀ t : Fin cfg0.N, win0_1.index t 0 = t.val / 32 ∧ win0_1.index t 1 = 0 ∧ win0_1.index t 2 = t.val / 8 % 4 :=
  (by decide +kernel : ∀ t : Fin grid0.N, win0_1.index t 0 = t.val / 32 ∧ win0_1.index t 1 = 0 ∧ win0_1.index t 2 = t.val / 8 % 4)

theorem idx_2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

theorem idx_3 : ∀ t : Fin cfg0.N, win0_3.index t 0 = 0 ∧ win0_3.index t 1 = 0 :=
  (by decide +kernel : ∀ t : Fin grid0.N, win0_3.index t 0 = 0 ∧ win0_3.index t 1 = 0)

theorem idx_4 : ∀ t : Fin cfg0.N, win0_4.index t 0 = 0 ∧ win0_4.index t 1 = 0 :=
  (by decide +kernel : ∀ t : Fin grid0.N, win0_4.index t 0 = 0 ∧ win0_4.index t 1 = 0)

theorem idx_5 : ∀ t : Fin cfg0.N, win0_5.index t 0 = 0 ∧ win0_5.index t 1 = 0 :=
  (by decide +kernel : ∀ t : Fin grid0.N, win0_5.index t 0 = 0 ∧ win0_5.index t 1 = 0)

theorem idx_6 : ∀ t : Fin cfg0.N, win0_6.index t 0 = t.val / 32 ∧ win0_6.index t 1 = t.val % 8 ∧ win0_6.index t 2 = t.val / 8 % 4 :=
  (by decide +kernel : ∀ t : Fin grid0.N, win0_6.index t 0 = t.val / 32 ∧ win0_6.index t 1 = t.val % 8 ∧ win0_6.index t 2 = t.val / 8 % 4)

theorem idx_7 : ∀ t : Fin cfg0.N, win0_7.index t 0 = t.val / 32 ∧ win0_7.index t 1 = t.val / 8 % 4 ∧ win0_7.index t 2 = t.val % 8 ∧ win0_7.index t 3 = 0 :=
  (by decide +kernel : ∀ t : Fin grid0.N, win0_7.index t 0 = t.val / 32 ∧ win0_7.index t 1 = t.val / 8 % 4 ∧ win0_7.index t 2 = t.val % 8 ∧ win0_7.index t 3 = 0)

theorem idx_8 : ∀ t : Fin cfg0.N, win0_8.index t 0 = t.val / 32 ∧ win0_8.index t 1 = t.val % 8 ∧ win0_8.index t 2 = t.val / 8 % 4 :=
  (by decide +kernel : ∀ t : Fin grid0.N, win0_8.index t 0 = t.val / 32 ∧ win0_8.index t 1 = t.val % 8 ∧ win0_8.index t 2 = t.val / 8 % 4)

theorem idx_9 : ∀ t : Fin cfg0.N, win0_9.index t 0 = t.val / 32 ∧ win0_9.index t 1 = t.val % 8 ∧ win0_9.index t 2 = t.val / 8 % 4 :=
  (by decide +kernel : ∀ t : Fin grid0.N, win0_9.index t 0 = t.val / 32 ∧ win0_9.index t 1 = t.val % 8 ∧ win0_9.index t 2 = t.val / 8 % 4)

theorem idx_10 : ∀ t : Fin cfg0.N, win0_10.index t 0 = t.val / 32 ∧ win0_10.index t 1 = 0 ∧ win0_10.index t 2 = t.val / 8 % 4 :=
  (by decide +kernel : ∀ t : Fin grid0.N, win0_10.index t 0 = t.val / 32 ∧ win0_10.index t 1 = 0 ∧ win0_10.index t 2 = t.val / 8 % 4)

theorem idx_11 : ∀ t : Fin cfg0.N, win0_11.index t 0 = t.val / 32 ∧ win0_11.index t 1 = 0 ∧ win0_11.index t 2 = 0 :=
  (by decide +kernel : ∀ t : Fin grid0.N, win0_11.index t 0 = t.val / 32 ∧ win0_11.index t 1 = 0 ∧ win0_11.index t 2 = 0)

section
variable (t : Fin cfg0.N)

theorem read_0 (W : FVec Ideal S2x2048x1024 .f32) (r : Fin 256) (j : Fin 256) :
    (((cfg0.win 0).blk t).view.read (Elt Ideal) W (ix3 0 r j) : EReal)
      = W (ix3 ⟨t.val / 32, by have := N_64 t; omega⟩ ⟨256 * (t.val % 8) + r, by omega⟩ ⟨256 * (t.val / 8 % 4) + j, by omega⟩) := by
  obtain ⟨h0, h1, h2⟩ := idx_0 t
  rw [View.read_apply]
  refine congrArg W ?_
  funext a
  apply Fin.ext
  match a with
  | ⟨0, _⟩ =>
    show win0_0.index t 0 * 1 + 1 * ((0 : Fin 1) : ℕ) = t.val / 32
    rw [h0]
    simp
  | ⟨1, _⟩ =>
    show win0_0.index t 1 * 256 + 1 * (r : ℕ) = 256 * (t.val % 8) + r
    rw [h1]
    omega
  | ⟨2, _⟩ =>
    show win0_0.index t 2 * 256 + 1 * (j : ℕ) = 256 * (t.val / 8 % 4) + j
    rw [h2]
    omega

theorem iblk_0 (r : Fin 256) (j : Fin 256) : (iblk m c 0 t (ix3 0 r j) : EReal)
      = V m c main_v75 (ix3 ⟨t.val / 32, by have := N_64 t; omega⟩ ⟨256 * (t.val % 8) + r, by omega⟩ ⟨256 * (t.val / 8 % 4) + j, by omega⟩) :=
  read_0 t (V m c main_v75) r j

theorem read_1 (W : FVec Ideal S2x2048x1024 .f32) (k : Fin 2048) (j : Fin 256) :
    (((cfg0.win 1).blk t).view.read (Elt Ideal) W (ix3 0 k j) : EReal)
      = W (ix3 ⟨t.val / 32, by have := N_64 t; omega⟩ k ⟨256 * (t.val / 8 % 4) + j, by omega⟩) := by
  obtain ⟨h0, h1, h2⟩ := idx_1 t
  rw [View.read_apply]
  refine congrArg W ?_
  funext a
  apply Fin.ext
  match a with
  | ⟨0, _⟩ =>
    show win0_1.index t 0 * 1 + 1 * ((0 : Fin 1) : ℕ) = t.val / 32
    rw [h0]
    simp
  | ⟨1, _⟩ =>
    show win0_1.index t 1 * 2048 + 1 * (k : ℕ) = k
    rw [h1]
    omega
  | ⟨2, _⟩ =>
    show win0_1.index t 2 * 256 + 1 * (j : ℕ) = 256 * (t.val / 8 % 4) + j
    rw [h2]
    omega

theorem iblk_1 (k : Fin 2048) (j : Fin 256) : (iblk m c 1 t (ix3 0 k j) : EReal)
      = V m c main_arg1 (ix3 ⟨t.val / 32, by have := N_64 t; omega⟩ k ⟨256 * (t.val / 8 % 4) + j, by omega⟩) :=
  read_1 t (V m c main_arg1) k j

theorem read_2 (W : FVec Ideal S2x2048x128 .f32) (k : Fin 2048) (l : Fin 128) :
    (((cfg0.win 2).blk t).view.read (Elt Ideal) W (ix3 0 k l) : EReal)
      = W (ix3 ⟨t.val / 32, by have := N_64 t; omega⟩ k l) := by
  obtain ⟨h0, h1, h2⟩ := idx_2 t
  rw [View.read_apply]
  refine congrArg W ?_
  funext a
  apply Fin.ext
  match a with
  | ⟨0, _⟩ =>
    show win0_2.index t 0 * 1 + 1 * ((0 : Fin 1) : ℕ) = t.val / 32
    rw [h0]
    simp
  | ⟨1, _⟩ =>
    show win0_2.index t 1 * 2048 + 1 * (k : ℕ) = k
    rw [h1]
    omega
  | ⟨2, _⟩ =>
    show win0_2.index t 2 * 128 + 1 * (l : ℕ) = l
    rw [h2]
    omega

theorem iblk_2 (k : Fin 2048) (l : Fin 128) : (iblk m c 2 t (ix3 0 k l) : EReal)
      = V m c main_v76 (ix3 ⟨t.val / 32, by have := N_64 t; omega⟩ k l) :=
  read_2 t (V m c main_v76) k l

theorem read_3 (W : FVec Ideal S2048x128 .f32) (k : Fin 2048) (l : Fin 128) :
    (((cfg0.win 3).blk t).view.read (Elt Ideal) W (ix2 k l) : EReal)
      = W (ix2 k l) := by
  obtain ⟨h0, h1⟩ := idx_3 t
  rw [View.read_apply]
  refine congrArg W ?_
  funext a
  apply Fin.ext
  match a with
  | ⟨0, _⟩ =>
    show win0_3.index t 0 * 2048 + 1 * (k : ℕ) = k
    rw [h0]
    omega
  | ⟨1, _⟩ =>
    show win0_3.index t 1 * 128 + 1 * (l : ℕ) = l
    rw [h1]
    omega

theorem iblk_3 (k : Fin 2048) (l : Fin 128) : (iblk m c 3 t (ix2 k l) : EReal)
      = V m c main_v98 (ix2 k l) :=
  read_3 t (V m c main_v98) k l

theorem read_4 (W : FVec Ideal S2048x128 .f32) (k : Fin 2048) (l : Fin 128) :
    (((cfg0.win 4).blk t).view.read (Elt Ideal) W (ix2 k l) : EReal)
      = W (ix2 k l) := by
  obtain ⟨h0, h1⟩ := idx_4 t
  rw [View.read_apply]
  refine congrArg W ?_
  funext a
  apply Fin.ext
  match a with
  | ⟨0, _⟩ =>
    show win0_4.index t 0 * 2048 + 1 * (k : ℕ) = k
    rw [h0]
    omega
  | ⟨1, _⟩ =>
    show win0_4.index t 1 * 128 + 1 * (l : ℕ) = l
    rw [h1]
    omega

theorem iblk_4 (k : Fin 2048) (l : Fin 128) : (iblk m c 4 t (ix2 k l) : EReal)
      = V m c main_v102 (ix2 k l) :=
  read_4 t (V m c main_v102) k l

theorem read_5 (W : FVec Ideal S2048x128 .f32) (k : Fin 2048) (l : Fin 128) :
    (((cfg0.win 5).blk t).view.read (Elt Ideal) W (ix2 k l) : EReal)
      = W (ix2 k l) := by
  obtain ⟨h0, h1⟩ := idx_5 t
  rw [View.read_apply]
  refine congrArg W ?_
  funext a
  apply Fin.ext
  match a with
  | ⟨0, _⟩ =>
    show win0_5.index t 0 * 2048 + 1 * (k : ℕ) = k
    rw [h0]
    omega
  | ⟨1, _⟩ =>
    show win0_5.index t 1 * 128 + 1 * (l : ℕ) = l
    rw [h1]
    omega

theorem iblk_5 (k : Fin 2048) (l : Fin 128) : (iblk m c 5 t (ix2 k l) : EReal)
      = V m c main_v105 (ix2 k l) :=
  read_5 t (V m c main_v105) k l

theorem read_6 (W : FVec Ideal S2x2048x512 .f32) (r : Fin 256) (l : Fin 128) :
    (((cfg0.win 6).blk t).view.read (Elt Ideal) W (ix3 0 r l) : EReal)
      = W (ix3 ⟨t.val / 32, by have := N_64 t; omega⟩ ⟨256 * (t.val % 8) + r, by omega⟩ ⟨128 * (t.val / 8 % 4) + l, by omega⟩) := by
  obtain ⟨h0, h1, h2⟩ := idx_6 t
  rw [View.read_apply]
  refine congrArg W ?_
  funext a
  apply Fin.ext
  match a with
  | ⟨0, _⟩ =>
    show win0_6.index t 0 * 1 + 1 * ((0 : Fin 1) : ℕ) = t.val / 32
    rw [h0]
    simp
  | ⟨1, _⟩ =>
    show win0_6.index t 1 * 256 + 1 * (r : ℕ) = 256 * (t.val % 8) + r
    rw [h1]
    omega
  | ⟨2, _⟩ =>
    show win0_6.index t 2 * 128 + 1 * (l : ℕ) = 128 * (t.val / 8 % 4) + l
    rw [h2]
    omega

theorem iblk_6 (r : Fin 256) (l : Fin 128) : (iblk m c 6 t (ix3 0 r l) : EReal)
      = V m c main_v66 (ix3 ⟨t.val / 32, by have := N_64 t; omega⟩ ⟨256 * (t.val % 8) + r, by omega⟩ ⟨128 * (t.val / 8 % 4) + l, by omega⟩) :=
  read_6 t (V m c main_v66) r l

theorem read_7 (W : FVec Ideal S2x4x2048x128 .f32) (r : Fin 256) (l : Fin 128) :
    (((cfg0.win 7).blk t).view.read (Elt Ideal) W (ix4 0 0 r l) : EReal)
      = W (ix4 ⟨t.val / 32, by have := N_64 t; omega⟩ ⟨t.val / 8 % 4, by omega⟩ ⟨256 * (t.val % 8) + r, by omega⟩ l) := by
  obtain ⟨h0, h1, h2, h3⟩ := idx_7 t
  rw [View.read_apply]
  refine congrArg W ?_
  funext a
  apply Fin.ext
  match a with
  | ⟨0, _⟩ =>
    show win0_7.index t 0 * 1 + 1 * ((0 : Fin 1) : ℕ) = t.val / 32
    rw [h0]
    simp
  | ⟨1, _⟩ =>
    show win0_7.index t 1 * 1 + 1 * ((0 : Fin 1) : ℕ) = t.val / 8 % 4
    rw [h1]
    simp
  | ⟨2, _⟩ =>
    show win0_7.index t 2 * 256 + 1 * (r : ℕ) = 256 * (t.val % 8) + r
    rw [h2]
    omega
  | ⟨3, _⟩ =>
    show win0_7.index t 3 * 128 + 1 * (l : ℕ) = l
    rw [h3]
    omega

theorem iblk_7 (r : Fin 256) (l : Fin 128) : (iblk m c 7 t (ix4 0 0 r l) : EReal)
      = V m c main_v72 (ix4 ⟨t.val / 32, by have := N_64 t; omega⟩ ⟨t.val / 8 % 4, by omega⟩ ⟨256 * (t.val % 8) + r, by omega⟩ l) :=
  read_7 t (V m c main_v72) r l

theorem read_8 (W : FVec Ideal S2x2048x512 .f32) (r : Fin 256) (l : Fin 128) :
    (((cfg0.win 8).blk t).view.read (Elt Ideal) W (ix3 0 r l) : EReal)
      = W (ix3 ⟨t.val / 32, by have := N_64 t; omega⟩ ⟨256 * (t.val % 8) + r, by omega⟩ ⟨128 * (t.val / 8 % 4) + l, by omega⟩) := by
  obtain ⟨h0, h1, h2⟩ := idx_8 t
  rw [View.read_apply]
  refine congrArg W ?_
  funext a
  apply Fin.ext
  match a with
  | ⟨0, _⟩ =>
    show win0_8.index t 0 * 1 + 1 * ((0 : Fin 1) : ℕ) = t.val / 32
    rw [h0]
    simp
  | ⟨1, _⟩ =>
    show win0_8.index t 1 * 256 + 1 * (r : ℕ) = 256 * (t.val % 8) + r
    rw [h1]
    omega
  | ⟨2, _⟩ =>
    show win0_8.index t 2 * 128 + 1 * (l : ℕ) = 128 * (t.val / 8 % 4) + l
    rw [h2]
    omega

theorem iblk_8 (r : Fin 256) (l : Fin 128) : (iblk m c 8 t (ix3 0 r l) : EReal)
      = V m c main_arg3 (ix3 ⟨t.val / 32, by have := N_64 t; omega⟩ ⟨256 * (t.val % 8) + r, by omega⟩ ⟨128 * (t.val / 8 % 4) + l, by omega⟩) :=
  read_8 t (V m c main_arg3) r l

theorem read_9 (W : FVec Ideal S2x2048x1024 .f32) (r : Fin 256) (j : Fin 256) :
    (((cfg0.win 9).blk t).view.read (Elt Ideal) W (ix3 0 r j) : EReal)
      = W (ix3 ⟨t.val / 32, by have := N_64 t; omega⟩ ⟨256 * (t.val % 8) + r, by omega⟩ ⟨256 * (t.val / 8 % 4) + j, by omega⟩) := by
  obtain ⟨h0, h1, h2⟩ := idx_9 t
  rw [View.read_apply]
  refine congrArg W ?_
  funext a
  apply Fin.ext
  match a with
  | ⟨0, _⟩ =>
    show win0_9.index t 0 * 1 + 1 * ((0 : Fin 1) : ℕ) = t.val / 32
    rw [h0]
    simp
  | ⟨1, _⟩ =>
    show win0_9.index t 1 * 256 + 1 * (r : ℕ) = 256 * (t.val % 8) + r
    rw [h1]
    omega
  | ⟨2, _⟩ =>
    show win0_9.index t 2 * 256 + 1 * (j : ℕ) = 256 * (t.val / 8 % 4) + j
    rw [h2]
    omega

theorem read_10 (W : FVec Ideal S2x2048x1024 .f32) (k : Fin 2048) (j : Fin 256) :
    (((cfg0.win 10).blk t).view.read (Elt Ideal) W (ix3 0 k j) : EReal)
      = W (ix3 ⟨t.val / 32, by have := N_64 t; omega⟩ k ⟨256 * (t.val / 8 % 4) + j, by omega⟩) := by
  obtain ⟨h0, h1, h2⟩ := idx_10 t
  rw [View.read_apply]
  refine congrArg W ?_
  funext a
  apply Fin.ext
  match a with
  | ⟨0, _⟩ =>
    show win0_10.index t 0 * 1 + 1 * ((0 : Fin 1) : ℕ) = t.val / 32
    rw [h0]
    simp
  | ⟨1, _⟩ =>
    show win0_10.index t 1 * 2048 + 1 * (k : ℕ) = k
    rw [h1]
    omega
  | ⟨2, _⟩ =>
    show win0_10.index t 2 * 256 + 1 * (j : ℕ) = 256 * (t.val / 8 % 4) + j
    rw [h2]
    omega

theorem read_11 (W : FVec Ideal S2x2048x128 .f32) (k : Fin 2048) (l : Fin 128) :
    (((cfg0.win 11).blk t).view.read (Elt Ideal) W (ix3 0 k l) : EReal)
      = W (ix3 ⟨t.val / 32, by have := N_64 t; omega⟩ k l) := by
  obtain ⟨h0, h1, h2⟩ := idx_11 t
  rw [View.read_apply]
  refine congrArg W ?_
  funext a
  apply Fin.ext
  match a with
  | ⟨0, _⟩ =>
    show win0_11.index t 0 * 1 + 1 * ((0 : Fin 1) : ℕ) = t.val / 32
    rw [h0]
    simp
  | ⟨1, _⟩ =>
    show win0_11.index t 1 * 2048 + 1 * (k : ℕ) = k
    rw [h1]
    omega
  | ⟨2, _⟩ =>
    show win0_11.index t 2 * 128 + 1 * (l : ℕ) = l
    rw [h2]
    omega

end

/-- The four arguments hold the real numbers `A`. -/
structure Args.At (A : Args) : Prop where
  q : ∀ (b : Fin 2) (t : Fin 2048) (j : Fin 768), (V m c main_arg0 (ix3 b t j) : EReal) = (A.q b t j : EReal)
  kv : ∀ (b : Fin 2) (t : Fin 2048) (j : Fin 1024), (V m c main_arg1 (ix3 b t j) : EReal) = (A.kv b t j : EReal)
  kr : ∀ (b : Fin 2) (t : Fin 2048) (j : Fin 32), (V m c main_arg2 (ix3 b t j) : EReal) = (A.kr b t j : EReal)
  dO : ∀ (b : Fin 2) (t : Fin 2048) (j : Fin 512), (V m c main_arg3 (ix3 b t j) : EReal) = (A.dO b t j : EReal)
  X : ∀ (b : Fin 2) (h : Fin 8) (i k : Fin 2048), (V m c main_v54 (ix4 b h i k) : EReal) = (A.X b h i k : EReal)

theorem V_o {A : Args} (H : Args.At m c A) (b : Fin 2) (t : Fin 2048) (j : Fin 512) :
    (V m c main_v66 (ix3 b t j) : EReal) = (ob A b t j : EReal) :=
  (congrFun (V_out m c) (ix3 b t j)).trans (outOf_eq A (V m c main_v54) H.X (V m c main_arg1) H.kv b t j)

theorem V_lse {A : Args} (H : Args.At m c A) (b : Fin 2) (p : Fin 4) (t : Fin 2048) (l : Fin 128) :
    (V m c main_v72 (ix4 b p t l) : EReal) = (lseb A b (2 * p + l / 64) t : EReal) :=
  (congrFun (V_spread m c) (ix4 b p t l)).trans (lse_eq A (V m c main_v54) H.X b p t l)

theorem blocks {A : Args} (H : Args.At m c A) (t : Fin cfg0.N) :
    In A (t.val / 32) (t.val / 8 % 4) (t.val % 8) (iblk m c 0 t) (iblk m c 1 t) (iblk m c 2 t) (iblk m c 3 t) (iblk m c 4 t)
      (iblk m c 5 t) (iblk m c 6 t) (iblk m c 7 t) (iblk m c 8 t) where
  x0 r j := (iblk_0 m c t r j).trans (V_q m c A H.q (⟨t.val / 32, by have := N_64 t; omega⟩ : Fin 2) (⟨256 * (t.val % 8) + r, by omega⟩ : Fin 2048) (⟨256 * (t.val / 8 % 4) + j, by omega⟩ : Fin 1024))
  x1 k j := (iblk_1 m c t k j).trans (H.kv (⟨t.val / 32, by have := N_64 t; omega⟩ : Fin 2) k (⟨256 * (t.val / 8 % 4) + j, by omega⟩ : Fin 1024))
  x2 k l := (iblk_2 m c t k l).trans (V_kr m c A H.kr (⟨t.val / 32, by have := N_64 t; omega⟩ : Fin 2) k l)
  x3 k l := (iblk_3 m c t k l).trans (V_c m c k l)
  x4 k l := (iblk_4 m c t k l).trans (V_s1 m c k l)
  x5 k l := (iblk_5 m c t k l).trans (V_s2 m c k l)
  x6 r l := (iblk_6 m c t r l).trans (V_o m c H (⟨t.val / 32, by have := N_64 t; omega⟩ : Fin 2) (⟨256 * (t.val % 8) + r, by omega⟩ : Fin 2048) (⟨128 * (t.val / 8 % 4) + l, by omega⟩ : Fin 512))
  x7 r l := (iblk_7 m c t r l).trans (V_lse m c H (⟨t.val / 32, by have := N_64 t; omega⟩ : Fin 2) ⟨t.val / 8 % 4, by omega⟩ (⟨256 * (t.val % 8) + r, by omega⟩ : Fin 2048) l)
  x8 r l := (iblk_8 m c t r l).trans (H.dO (⟨t.val / 32, by have := N_64 t; omega⟩ : Fin 2) (⟨256 * (t.val % 8) + r, by omega⟩ : Fin 2048) (⟨128 * (t.val / 8 % 4) + l, by omega⟩ : Fin 512))

end Cert.AttnBwd.Ker

end
-- ==== Proof.Algebra.lean ====
/- The equation: the kernel's blocks, whose lanes are padded to 128 and whose rotation is written with rolls and
   tables, sum to the gradient of the attention. -/
module

public import proofs.«01_k».proof.Proof.Point

@[expose] public section

set_option maxRecDepth 16384

noncomputable section

namespace Cert.AttnBwd.Ker

open Idealize.ShloMosaic
open Cert.AttnBwd

theorem sum128 (f : ℕ → ℝ) : ∑ l : Fin 128, f l = ∑ d : Fin 64, f d + ∑ d : Fin 64, f (64 + d) := by
  rw [Fin.sum_univ_eq_sum_range f 128, Fin.sum_univ_eq_sum_range f 64, Fin.sum_univ_eq_sum_range (fun d => f (64 + d)) 64]
  exact Finset.sum_range_add f 64 64

theorem sum64 (f : ℕ → ℝ) (h0 : ∀ l, 32 ≤ l → l < 64 → f l = 0) : ∑ l : Fin 64, f l = ∑ r : Fin 32, f r := by
  rw [Fin.sum_univ_eq_sum_range f 64, Fin.sum_univ_eq_sum_range f 32]
  refine (Finset.sum_range_add f 32 32).trans ?_
  rw [add_eq_left]
  refine Finset.sum_eq_zero fun x hx => h0 _ (by omega) ?_
  have := Finset.mem_range.mp hx
  omega

theorem sum_range_blocks (f : ℕ → ℝ) (n : ℕ) :
    ∑ i ∈ Finset.range n, ∑ r : Fin 256, f (256 * i + r) = ∑ t ∈ Finset.range (256 * n), f t := by
  induction n with
  | zero => simp
  | succ n ih =>
    rw [Finset.sum_range_succ, ih, Nat.mul_succ, Finset.sum_range_add, Fin.sum_univ_eq_sum_range (fun r => f (256 * n + r)) 256]

/-- The eight blocks of 256 rows are the 2048 rows. -/
theorem sum_blocks (f : ℕ → ℝ) :
    ∑ i ∈ Finset.range 8, ∑ r : Fin 256, f (256 * i + r) = ∑ t : Fin 2048, f t := by
  rw [sum_range_blocks, Fin.sum_univ_eq_sum_range f 2048]

section Rotation

variable (x : ℕ → ℕ → ℝ) (t l r : ℕ)

theorem rope_low (hl : l < 64) : rope Ct S1t S2t x t l = x t l := by
  simp only [rope, Ct, S1t, S2t]
  rw [if_neg (by omega), if_neg (by omega), if_neg (by omega)]
  ring

theorem rope_high (hl : 96 ≤ l) : rope Ct S1t S2t x t l = x t l := by
  simp only [rope, Ct, S1t, S2t]
  rw [if_neg (by omega), if_neg (by omega), if_neg (by omega)]
  ring

theorem rope_mid (hr : r < 32) : rope Ct S1t S2t x t (64 + r) = rot t (fun r => x t (64 + r)) r := by
  simp only [rope, Ct, S1t, S2t, rot]
  by_cases h : r < 16
  · rw [if_pos (by omega), if_pos (by omega), if_neg (by omega), if_pos h, show 64 + r - 64 = r by omega,
      show (64 + r + 128 - 112) % 128 = 64 + (16 + r) by omega, Nat.mod_eq_of_lt h]
    ring
  · rw [if_pos (by omega), if_neg (by omega), if_pos (by omega), if_neg h, show 64 + r - 64 = r by omega,
      show (64 + r + 128 - 16) % 128 = 64 + (r - 16) by omega, show 64 + r - 80 = r - 16 by omega,
      show r % 16 = r - 16 by omega]
    ring

theorem ropeT_low (hl : l < 64) : ropeT Ct S1t S2t x t l = x t l := by
  simp only [ropeT, Ct, S1t, S2t]
  rw [if_neg (by omega), if_neg (by omega), if_neg (by omega)]
  ring

theorem ropeT_high (hl : 96 ≤ l) (hl' : l < 128) : ropeT Ct S1t S2t x t l = x t l := by
  simp only [ropeT, Ct, S1t, S2t]
  rw [if_neg (by omega), if_neg (by omega), if_neg (by omega)]
  ring

theorem ropeT_mid (hr : r < 32) : ropeT Ct S1t S2t x t (64 + r) = rotT t (fun r => x t (64 + r)) r := by
  simp only [ropeT, Ct, S1t, S2t, rotT]
  by_cases h : r < 16
  · rw [if_pos (by omega), if_neg (by omega), if_pos (by omega), if_pos h, show 64 + r - 64 = r by omega,
      show (64 + r + 128 - 112) % 128 = 64 + (16 + r) by omega, show 64 + (16 + r) - 80 = r by omega,
      show (16 + r) % 16 = r by omega]
    ring
  · rw [if_pos (by omega), if_pos (by omega), if_neg (by omega), if_neg h, show 64 + r - 64 = r by omega,
      show (64 + r + 128 - 16) % 128 = 64 + (r - 16) by omega, show 64 + (r - 16) - 64 = r - 16 by omega,
      show (r - 16) % 16 = r - 16 by omega]
    ring

theorem rot_congr {x y : ℕ → ℝ} (h : ∀ r < 32, x r = y r) (hr : r < 32) : rot t x r = rot t y r := by
  unfold rot
  rw [h r hr]
  split
  · rw [h _ (by omega)]
  · rw [h _ (by omega)]

theorem rotT_congr {x y : ℕ → ℝ} (h : ∀ r < 32, x r = y r) (hr : r < 32) : rotT t x r = rotT t y r := by
  unfold rotT
  rw [h r hr]
  split
  · rw [h _ (by omega)]
  · rw [h _ (by omega)]

/-- The rotation's transpose of a sum. -/
theorem rotT_sum (f : ℕ → ℕ → ℝ) :
    rotT t (fun r => ∑ h : Fin 8, f h r) r = ∑ p ∈ Finset.range 4, (rotT t (f (2 * p + 0)) r + rotT t (f (2 * p + 1)) r) := by
  have e (r : ℕ) : ∑ h : Fin 8, f h r = ∑ h ∈ Finset.range 8, f h r := Fin.sum_univ_eq_sum_range (fun h => f h r) 8
  simp only [e, Finset.sum_range_succ, Finset.sum_range_zero, rotT]
  by_cases h : r < 16
  · simp only [if_pos h]
    ring_nf
  · simp only [if_neg h]
    ring_nf

end Rotation

variable (A : Args) (b p i hh : ℕ)

section Point

variable (r k l d : ℕ)

theorem qp_head (hl : l < 128) (t : ℕ) :
    qp A b t (256 * p + (128 * hh + l)) = if l < 96 then A.q b t (96 * (2 * p + hh) + l) else 0 := by
  rw [qp, show (256 * p + (128 * hh + l)) % 128 = l by omega, show (256 * p + (128 * hh + l)) / 128 = 2 * p + hh by omega]

theorem Q_eq : (head A b p i hh).Q r l
    = rope Ct S1t S2t (fun t l => qp A b t (256 * p + (128 * hh + l))) (256 * i + r) l * sc := rfl

theorem Q_low (hd : d < 64) : (head A b p i hh).Q r d = A.qn b (2 * p + hh) d (256 * i + r) * sc := by
  rw [Q_eq, rope_low _ _ _ hd, qp_head _ _ _ _ _ (by omega), if_pos (by omega), Args.qn]

theorem Q_mid (hd : d < 32) : (head A b p i hh).Q r (64 + d) = A.qe b (2 * p + hh) (256 * i + r) d * sc := by
  rw [Q_eq, rope_mid _ _ _ hd, Args.qe]
  congr 1
  refine rot_congr _ _ (fun r' hr => ?_) hd
  rw [qp_head _ _ _ _ _ (by omega), if_pos (by omega)]

theorem Q_high (hl : 96 ≤ l) (hl' : l < 128) : (head A b p i hh).Q r l = 0 := by
  rw [Q_eq, rope_high _ _ _ hl, qp_head _ _ _ _ _ hl', if_neg (by omega), zero_mul]

theorem K2_low (hd : d < 64) : K2 A b p hh k d = A.kn b (2 * p + hh) d k := by
  rw [K2, if_neg (by omega), Args.kn]
  congr 1
  omega

theorem K2_mid (hd : d < 32) : K2 A b p hh k (64 + d) = A.ke b k d := by
  rw [K2, if_pos (by omega), rope_mid _ _ _ hd, Args.ke]
  refine rot_congr _ _ (fun r' hr => ?_) hd
  rw [krp, if_pos (by omega)]
  congr 1
  omega

theorem K2_high (hl : 96 ≤ l) : K2 A b p hh k l = 0 := by
  rw [K2, if_pos (by omega), rope_high _ _ _ hl, krp, if_neg (by omega)]

/-- The block's scores. -/
theorem score : ∑ l : Fin 128, (head A b p i hh).Q r l * (head A b p i hh).k k l = A.X b (2 * p + hh) (256 * i + r) k := by
  rw [show (∑ l : Fin 128, (head A b p i hh).Q r l * (head A b p i hh).k k l)
      = ∑ l : Fin 128, (head A b p i hh).Q r l * K2 A b p hh k l from rfl,
    sum128 (fun l => (head A b p i hh).Q r l * K2 A b p hh k l),
    sum64 (fun d => (head A b p i hh).Q r (64 + d) * K2 A b p hh k (64 + d))
      (fun l h h' => by rw [K2_high _ _ _ _ _ _ (by omega), mul_zero]), Args.X, add_mul, Finset.sum_mul, Finset.sum_mul]
  congr 1
  · refine Finset.sum_congr rfl fun d _ => ?_
    rw [Q_low _ _ _ _ _ _ _ d.isLt, K2_low _ _ _ _ _ _ d.isLt]
    ring
  · refine Finset.sum_congr rfl fun d _ => ?_
    rw [Q_mid _ _ _ _ _ _ _ d.isLt, K2_mid _ _ _ _ _ _ d.isLt]
    ring

/-- The block's weights. -/
theorem p_eq : (head A b p i hh).p r k = A.P b (2 * p + hh) (256 * i + r) k := by
  rw [Head.p, score, show (head A b p i hh).lse r = lseb A b (2 * p + hh) (256 * i + r) from rfl, lseb, ← sub_sub,
    Real.exp_sub, Real.exp_log (A.L_pos ..), Args.P, Args.E]

theorem Dm_low (hd : d < 64) : Dm A b p i hh r d = 0 := by
  rw [Dm]
  split
  · rw [Head.D0, if_neg (by omega)]
  · rw [Head.D1, if_neg (by omega)]

theorem Dm_high (h : hh < 2) (hd : d < 64) : Dm A b p i hh r (64 + d) = A.dd b (2 * p + hh) d (256 * i + r) := by
  rw [Dm, Args.dd]
  split
  next h0 =>
    rw [Head.D0, if_pos (by omega), show (64 + d + 128 - 64) % 128 = d by omega, h0]
    show A.dO b (256 * i + r) (128 * p + d) = _
    congr 1
    omega
  next h0 =>
    rw [Head.D1, if_pos (by omega)]
    show A.dO b (256 * i + r) (128 * p + (64 + d)) = _
    congr 1
    omega

theorem ob_eq (h : hh < 2) (hd : d < 64) (t : ℕ) : ob A b t (128 * p + (64 * hh + d))
    = ∑ k : Fin 2048, A.P b (2 * p + hh) t k * A.vv b (2 * p + hh) d k := by
  rw [ob, show (128 * p + (64 * hh + d)) / 64 = 2 * p + hh by omega, show (128 * p + (64 * hh + d)) % 64 = d by omega]

/-- The row's sum of the gradient times the output, which the softmax's gradient takes away. -/
theorem del_eq (h : hh < 2) : del A b p i hh r
    = ∑ k : Fin 2048, A.P b (2 * p + hh) (256 * i + r) k * A.dp b (2 * p + hh) (256 * i + r) k := by
  have e : del A b p i hh r = ∑ d : Fin 64, A.dO b (256 * i + r) (128 * p + (64 * hh + d)) * ob A b (256 * i + r) (128 * p + (64 * hh + d)) := by
    rw [del]
    split
    next h0 =>
      subst h0
      rw [Head.del0, sum128 (fun l => if 64 ≤ l then 0 else (head A b p i 0).D r l * (head A b p i 0).O r l)]
      rw [Finset.sum_eq_zero (s := Finset.univ) (f := fun d : Fin 64 => if 64 ≤ 64 + (d : ℕ) then (0 : ℝ) else _)
        (fun d _ => if_pos (by omega)), add_zero]
      refine Finset.sum_congr rfl fun d _ => ?_
      rw [if_neg (by omega), mul_zero, zero_add]
      rfl
    next h0 =>
      obtain rfl : hh = 1 := by omega
      rw [Head.del1, sum128 (fun l => if 64 ≤ l then (head A b p i 1).D r l * (head A b p i 1).O r l else 0)]
      rw [Finset.sum_eq_zero (s := Finset.univ) (f := fun d : Fin 64 => if 64 ≤ (d : ℕ) then _ else (0 : ℝ))
        (fun d _ => if_neg (by omega)), zero_add]
      refine Finset.sum_congr rfl fun d _ => ?_
      rw [if_pos (by omega), mul_one]
      rfl
  rw [e]
  simp only [Args.dp, Finset.mul_sum]
  rw [Finset.sum_comm]
  refine Finset.sum_congr rfl fun d _ => ?_
  rw [ob_eq _ _ _ _ _ h d.isLt, Finset.mul_sum]
  refine Finset.sum_congr rfl fun k _ => ?_
  rw [Args.dd, show 64 * (2 * p + hh) + (d : ℕ) = 128 * p + (64 * hh + d) by omega]
  ring

/-- The block's gradient in the scores. -/
theorem ds_eq (h : hh < 2) : (head A b p i hh).ds (Dm A b p i hh) (del A b p i hh) r k
    = A.ds b (2 * p + hh) (256 * i + r) k := by
  rw [Head.ds, p_eq, del_eq _ _ _ _ _ _ h, Args.ds, sum128 (fun l => Dm A b p i hh r l * (head A b p i hh).v k l),
    Finset.sum_eq_zero (s := Finset.univ) (f := fun d : Fin 64 => Dm A b p i hh r d * (head A b p i hh).v k d)
      (fun d _ => by rw [Dm_low _ _ _ _ _ _ _ d.isLt, zero_mul]), zero_add]
  congr 2
  refine Finset.sum_congr rfl fun d _ => ?_
  rw [Dm_high _ _ _ _ _ _ _ h d.isLt]
  congr 1
  show A.kv b k (256 * p + (128 * hh + (64 + d))) = A.kv b k (128 * (2 * p + hh) + (64 + d))
  congr 1
  omega

theorem dq0_eq (h : hh < 2) : (head A b p i hh).dq0 (Dm A b p i hh) (del A b p i hh) r l
    = ∑ k : Fin 2048, A.ds b (2 * p + hh) (256 * i + r) k * sc * K2 A b p hh k l := by
  rw [Head.dq0, Finset.sum_mul]
  refine Finset.sum_congr rfl fun k _ => ?_
  rw [ds_eq _ _ _ _ _ _ _ h]
  show _ * K2 A b p hh k l * sc = _
  ring

end Point

/-- The queries' gradient. -/
theorem dqB_eq (h : hh < 2) (r l : ℕ) (hl : l < 128) :
    dqB A b p i hh r l = A.DQ b (256 * i + r) (256 * p + (128 * hh + l)) := by
  have e : dqB A b p i hh r l = ropeT Ct S1t S2t
      (fun t l => ∑ k : Fin 2048, A.ds b (2 * p + hh) t k * sc * K2 A b p hh k l) (256 * i + r) l := by
    rw [dqB, Head.dq]
    simp only [ropeT]
    rw [dq0_eq _ _ _ _ _ _ _ h, dq0_eq _ _ _ _ _ _ _ h, dq0_eq _ _ _ _ _ _ _ h]
    rfl
  rw [e, Args.DQ, show (256 * p + (128 * hh + l)) % 128 = l by omega, show (256 * p + (128 * hh + l)) / 128 = 2 * p + hh by omega]
  split
  next h0 =>
    rw [ropeT_low _ _ _ h0, Args.dqn]
    exact Finset.sum_congr rfl fun k _ => by rw [K2_low _ _ _ _ _ _ h0]
  next h0 =>
    split
    next h1 =>
      obtain ⟨d, rfl⟩ : ∃ d, l = 64 + d := ⟨l - 64, by omega⟩
      rw [ropeT_mid _ _ _ (by omega), show 64 + d - 64 = d by omega]
      refine rotT_congr _ _ (fun r' hr => ?_) (by omega)
      exact Finset.sum_congr rfl fun k _ => by rw [K2_mid _ _ _ _ _ _ hr]
    next h1 =>
      rw [ropeT_high _ _ _ (by omega) hl]
      exact Finset.sum_eq_zero fun k _ => by rw [K2_high _ _ _ _ _ _ (by omega), mul_zero]

/-- The keys' gradient of the blocks of rows before `n`. -/
def dkS (n hh k l : ℕ) : ℝ := ∑ i ∈ Finset.range n, dkB A b p i hh k l
/-- The values' gradient of the blocks of rows before `n`. -/
def dvS (n t j : ℕ) : ℝ := ∑ i ∈ Finset.range n, dvB A b p i (j / 128) t (j % 128)
/-- One head's gradient of the shared keys, rotated back. -/
def drH (hh t l : ℕ) : ℝ := ropeT Ct S1t S2t (fun t l => if 64 ≤ l then dkS A b p 8 hh t l else 0) t l

/-- The shared keys' gradient of the pairs of heads before `n`. -/
def drS (n t l : ℕ) : ℝ := ∑ p ∈ Finset.range n, (drH A b p 0 t l + drH A b p 1 t l)

/-- The keys' gradient of all blocks, on the plain lanes. -/
theorem dkS_low (h : hh < 2) (k d : ℕ) (hd : d < 64) : dkS A b p 8 hh k d = A.dkn b (2 * p + hh) k d := by
  rw [dkS, Args.dkn, ← sum_blocks (fun t => A.ds b (2 * p + hh) t k * sc * A.qn b (2 * p + hh) d t)]
  refine Finset.sum_congr rfl fun i _ => ?_
  rw [dkB, Head.dk]
  refine Finset.sum_congr rfl fun r _ => ?_
  rw [ds_eq _ _ _ _ _ _ _ h, Q_low _ _ _ _ _ _ _ hd]
  ring

/-- The same on the rotated lanes. -/
theorem dkS_mid (h : hh < 2) (k d : ℕ) (hd : d < 32) : dkS A b p 8 hh k (64 + d) = A.dkh b (2 * p + hh) k d := by
  rw [dkS, Args.dkh, ← sum_blocks (fun t => A.ds b (2 * p + hh) t k * sc * A.qe b (2 * p + hh) t d)]
  refine Finset.sum_congr rfl fun i _ => ?_
  rw [dkB, Head.dk]
  refine Finset.sum_congr rfl fun r _ => ?_
  rw [ds_eq _ _ _ _ _ _ _ h, Q_mid _ _ _ _ _ _ _ hd]
  ring

theorem dkS_high (k l : ℕ) (hl : 96 ≤ l) (hl' : l < 128) : dkS A b p 8 hh k l = 0 :=
  Finset.sum_eq_zero fun i _ => by
    rw [dkB, Head.dk]
    exact Finset.sum_eq_zero fun r _ => by rw [Q_high _ _ _ _ _ _ _ hl hl', mul_zero]

theorem dvS_low (t l : ℕ) (hl : l < 64) : dvS A b p 8 t (128 * hh + l) = 0 :=
  Finset.sum_eq_zero fun i _ => by
    rw [dvB, Head.dv, show (128 * hh + l) % 128 = l by omega]
    exact Finset.sum_eq_zero fun r _ => by rw [Dm_low _ _ _ _ _ _ _ hl, mul_zero]

/-- The values' gradient of all blocks. -/
theorem dvS_high (h : hh < 2) (t d : ℕ) (hd : d < 64) :
    dvS A b p 8 t (128 * hh + (64 + d)) = A.dvv b (2 * p + hh) t d := by
  rw [dvS, Args.dvv, ← sum_blocks (fun i => A.P b (2 * p + hh) i t * A.dd b (2 * p + hh) d i)]
  refine Finset.sum_congr rfl fun i _ => ?_
  rw [show (128 * hh + (64 + d)) / 128 = hh by omega, show (128 * hh + (64 + d)) % 128 = 64 + d by omega, dvB, Head.dv]
  refine Finset.sum_congr rfl fun r _ => ?_
  rw [p_eq, Dm_high _ _ _ _ _ _ _ h hd]

/-- The gradient of the keys and values of one pair of heads. -/
theorem dkv_eq (h : hh < 2) (t l : ℕ) (hl : l < 128) :
    dvS A b p 8 t (128 * hh + l) + (if 64 ≤ (128 * hh + l) % 128 then 0 else dkS A b p 8 ((128 * hh + l) / 128) t ((128 * hh + l) % 128))
      = A.DKV b t (256 * p + (128 * hh + l)) := by
  rw [show (128 * hh + l) % 128 = l by omega, show (128 * hh + l) / 128 = hh by omega, Args.DKV,
    show (256 * p + (128 * hh + l)) % 128 = l by omega, show (256 * p + (128 * hh + l)) / 128 = 2 * p + hh by omega]
  by_cases h0 : l < 64
  · rw [if_neg (by omega), if_pos h0, dvS_low _ _ _ _ _ _ h0, zero_add, dkS_low _ _ _ _ h _ _ h0]
  · obtain ⟨d, rfl⟩ : ∃ d, l = 64 + d := ⟨l - 64, by omega⟩
    rw [if_pos (by omega), if_neg h0, add_zero, dvS_high _ _ _ _ h _ _ (by omega), show 64 + d - 64 = d by omega]

theorem drH_low (t l : ℕ) (hl : l < 64) : drH A b p hh t l = 0 := by
  rw [drH, ropeT_low _ _ _ hl, if_neg (by omega)]

theorem drH_high (t l : ℕ) (hl : 96 ≤ l) (hl' : l < 128) : drH A b p hh t l = 0 := by
  rw [drH, ropeT_high _ _ _ hl hl', if_pos (by omega), dkS_high _ _ _ _ _ _ hl hl']

theorem drH_mid (h : hh < 2) (t r : ℕ) (hr : r < 32) :
    drH A b p hh t (64 + r) = rotT t (fun r => A.dkh b (2 * p + hh) t r) r := by
  rw [drH, ropeT_mid _ _ _ hr]
  refine rotT_congr _ _ (fun r' hr' => ?_) hr
  rw [if_pos (by omega), dkS_mid _ _ _ _ h _ _ hr']

/-- The gradient of the shared keys. -/
theorem dkr_eq (t l : ℕ) (hl : l < 128) : drS A b 4 t l = A.DKR b t l := by
  rw [drS, Args.DKR]
  split
  next h =>
    obtain ⟨r, rfl⟩ : ∃ r, l = 64 + r := ⟨l - 64, by omega⟩
    rw [show 64 + r - 64 = r by omega, rotT_sum t r (fun h r => A.dkh b h t r)]
    refine Finset.sum_congr rfl fun p _ => ?_
    rw [drH_mid _ _ _ _ (by omega) _ _ (by omega), drH_mid _ _ _ _ (by omega) _ _ (by omega)]
  next h =>
    refine Finset.sum_eq_zero fun p _ => ?_
    by_cases h0 : l < 64
    · rw [drH_low _ _ _ _ _ _ h0, drH_low _ _ _ _ _ _ h0, add_zero]
    · rw [drH_high _ _ _ _ _ _ (by omega) hl, drH_high _ _ _ _ _ _ (by omega) hl, add_zero]

end Cert.AttnBwd.Ker

end
-- ==== Proof.Loads.lean ====
/- The blocks a head loads at a point are the point's real arrays. -/
module

public import proofs.«01_k».proof.Proof.Point

@[expose] public section

set_option maxRecDepth 16384

noncomputable section

namespace Cert.AttnBwd.Ker

open Idealize.ShloMosaic Idealize.ShloMosaic.TcCoe
open Cert.KernelIdeal Cert.KernelIdeal.Gen

variable {A : Args} {b p i : ℕ}
  {x0 : FVec Ideal S1x256x256 .f32} {x1 : FVec Ideal S1x2048x256 .f32} {x2 : FVec Ideal S1x2048x128 .f32}
  {x3 x4 x5 : FVec Ideal S2048x128 .f32} {x6 : FVec Ideal S1x256x128 .f32} {x7 : FVec Ideal S1x1x256x128 .f32}
  {x8 : FVec Ideal S1x256x128 .f32} {xs0 : FVec Ideal S2x2048x128 .bf16} {xs1 : FVec Ideal S2048x256 .bf16}

/-- The rows of a table. -/
theorem ld_rows (x : FVec Ideal S2048x128 .f32) (f : ℕ → ℕ → ℝ)
    (hx : ∀ (t : Fin 2048) (l : Fin 128), (x (ix2 t l) : EReal) = (f t l : EReal))
    (R i : ℕ) (hR : R = 256 * i) (inb : ∀ a, (![R, 0] : Fin 2 → ℕ) a + (![256, 128] : Fin 2 → ℕ) a ≤ S2048x128.size a)
    (r : Fin 256) (l : Fin 128) :
    (View.ld (Val := Elt Ideal) (e' := .f32) x (Rect.unit (s := S2048x128) ![R, 0] ![256, 128] inb) (ix2 r l) : EReal) = (f (256 * i + r) l : EReal) := by
  subst hR
  have := inb 0
  have hi : 256 * i + 256 ≤ 2048 := this
  pointwise
  rw [hx]

section

variable (hx : In A b p i x0 x1 x2 x3 x4 x5 x6 x7 x8)
include hx

theorem reads0 (k : FVec Ideal S1x2048x128 .bf16) (v : FVec Ideal S2048x128 .bf16)
    (hk : ∀ (r : Fin 2048) (l : Fin 128), (k (ix3 0 r l) : EReal) = (K2 A b p 0 r l : EReal))
    (hv : ∀ (r : Fin 2048) (l : Fin 128), (v (ix2 r l) : EReal) = (A.kv b r (256 * p + (128 * 0 + l)) : EReal))
    (R : ℕ) (hR : R = 256 * i) (inb3 inb4 inb5 : ∀ a, (![R, 0] : Fin 2 → ℕ) a + (![256, 128] : Fin 2 → ℕ) a ≤ S2048x128.size a)
    (inb0 inb7 inb8 inb6) :
    Reads (View.ld (Val := Elt Ideal) (e' := .f32) x3 (Rect.unit (s := S2048x128) ![R, 0] ![256, 128] inb3))
      (View.ld (Val := Elt Ideal) (e' := .f32) x4 (Rect.unit (s := S2048x128) ![R, 0] ![256, 128] inb4))
      (View.ld (Val := Elt Ideal) (e' := .f32) x5 (Rect.unit (s := S2048x128) ![R, 0] ![256, 128] inb5))
      (View.ld (Val := Elt Ideal) (e' := .f32) x0 (Rect.unit (s := S1x256x256) ![0, 0, 0] ![1, 256, 128] inb0)) k
      (View.ld (Val := Elt Ideal) (e' := .f32) x7 (Rect.unit (s := S1x1x256x128) ![0, 0, 0, 0] ![1, 1, 256, 1] inb7)) v
      (View.ld (Val := Elt Ideal) (e' := .f32) x8 (Rect.unit (s := S1x256x128) ![0, 0, 0] ![1, 256, 128] inb8))
      (View.ld (Val := Elt Ideal) (e' := .f32) x6 (Rect.unit (s := S1x256x128) ![0, 0, 0] ![1, 256, 128] inb6)) (head A b p i 0) where
  cc := ld_rows x3 _ hx.x3 R i hR inb3
  s1 := ld_rows x4 _ hx.x4 R i hR inb4
  s2 := ld_rows x5 _ hx.x5 R i hR inb5
  q r l := by pointwise; rw [hx.x0]; simp only [head, mul_zero, zero_add]
  k := hk
  lse r := by pointwise; rw [hx.x7]; rfl
  v := hv
  d r l := by pointwise; rw [hx.x8]; rfl
  o r l := by pointwise; rw [hx.x6]; rfl

theorem reads1 (k : FVec Ideal S1x2048x128 .bf16) (v : FVec Ideal S2048x128 .bf16)
    (hk : ∀ (r : Fin 2048) (l : Fin 128), (k (ix3 0 r l) : EReal) = (K2 A b p 1 r l : EReal))
    (hv : ∀ (r : Fin 2048) (l : Fin 128), (v (ix2 r l) : EReal) = (A.kv b r (256 * p + (128 * 1 + l)) : EReal))
    (R : ℕ) (hR : R = 256 * i) (inb3 inb4 inb5 : ∀ a, (![R, 0] : Fin 2 → ℕ) a + (![256, 128] : Fin 2 → ℕ) a ≤ S2048x128.size a)
    (inb0 inb7 inb8 inb6) :
    Reads (View.ld (Val := Elt Ideal) (e' := .f32) x3 (Rect.unit (s := S2048x128) ![R, 0] ![256, 128] inb3))
      (View.ld (Val := Elt Ideal) (e' := .f32) x4 (Rect.unit (s := S2048x128) ![R, 0] ![256, 128] inb4))
      (View.ld (Val := Elt Ideal) (e' := .f32) x5 (Rect.unit (s := S2048x128) ![R, 0] ![256, 128] inb5))
      (View.ld (Val := Elt Ideal) (e' := .f32) x0 (Rect.unit (s := S1x256x256) ![0, 0, 128] ![1, 256, 128] inb0)) k
      (View.ld (Val := Elt Ideal) (e' := .f32) x7 (Rect.unit (s := S1x1x256x128) ![0, 0, 0, 64] ![1, 1, 256, 1] inb7)) v
      (View.ld (Val := Elt Ideal) (e' := .f32) x8 (Rect.unit (s := S1x256x128) ![0, 0, 0] ![1, 256, 128] inb8))
      (View.ld (Val := Elt Ideal) (e' := .f32) x6 (Rect.unit (s := S1x256x128) ![0, 0, 0] ![1, 256, 128] inb6)) (head A b p i 1) where
  cc := ld_rows x3 _ hx.x3 R i hR inb3
  s1 := ld_rows x4 _ hx.x4 R i hR inb4
  s2 := ld_rows x5 _ hx.x5 R i hR inb5
  q r l := by pointwise; rw [hx.x0]; simp only [head]
  k := hk
  lse r := by pointwise; rw [hx.x7]; rfl
  v := hv
  d r l := by pointwise; rw [hx.x8]; rfl
  o r l := by pointwise; rw [hx.x6]; rfl

end

theorem ld_k0 (hs : Keys A b p xs0) (inb) (r : Fin 2048) (l : Fin 128) :
    (View.ld (Val := Elt Ideal) (e' := .bf16) xs0 (Rect.unit (s := S2x2048x128) ![0, 0, 0] ![1, 2048, 128] inb) (ix3 0 r l) : EReal) = (K2 A b p 0 r l : EReal) := by
  pointwise; rw [hs]; rfl

theorem ld_k1 (hs : Keys A b p xs0) (inb) (r : Fin 2048) (l : Fin 128) :
    (View.ld (Val := Elt Ideal) (e' := .bf16) xs0 (Rect.unit (s := S2x2048x128) ![1, 0, 0] ![1, 2048, 128] inb) (ix3 0 r l) : EReal) = (K2 A b p 1 r l : EReal) := by
  pointwise; rw [hs]; rfl

theorem ld_v0 (hs : Vals A b p xs1) (inb) (r : Fin 2048) (l : Fin 128) :
    (View.ld (Val := Elt Ideal) (e' := .bf16) xs1 (Rect.unit (s := S2048x256) ![0, 0] ![2048, 128] inb) (ix2 r l) : EReal) = (A.kv b r (256 * p + (128 * 0 + l)) : EReal) := by
  pointwise; rw [hs]

theorem ld_v1 (hs : Vals A b p xs1) (inb) (r : Fin 2048) (l : Fin 128) :
    (View.ld (Val := Elt Ideal) (e' := .bf16) xs1 (Rect.unit (s := S2048x256) ![0, 128] ![2048, 128] inb) (ix2 r l) : EReal) = (A.kv b r (256 * p + (128 * 1 + l)) : EReal) := by
  pointwise; rw [hs]

section

variable (hx : In A b p i x0 x1 x2 x3 x4 x5 x6 x7 x8)
include hx

/-- The tables, loaded whole. -/
theorem tables (inb3 inb4 inb5) :
    Tables (View.ld (Val := Elt Ideal) (e' := .f32) x3 (Rect.unit (s := S2048x128) ![0, 0] ![2048, 128] inb3))
      (View.ld (Val := Elt Ideal) (e' := .f32) x4 (Rect.unit (s := S2048x128) ![0, 0] ![2048, 128] inb4))
      (View.ld (Val := Elt Ideal) (e' := .f32) x5 (Rect.unit (s := S2048x128) ![0, 0] ![2048, 128] inb5)) Ct S1t S2t where
  cc r l := by pointwise; rw [hx.x3]
  s1 r l := by pointwise; rw [hx.x4]
  s2 r l := by pointwise; rw [hx.x5]

theorem ld_kr (inb) (r : Fin 2048) (l : Fin 128) :
    (View.ld (Val := Elt Ideal) (e' := .f32) x2 (Rect.unit (s := S1x2048x128) ![0, 0, 0] ![1, 2048, 128] inb) (ix3 0 r l) : EReal) = (krp A b r l : EReal) := by
  pointwise
  rw [hx.x2]

theorem ld_kv0 (inb) (r : Fin 2048) (l : Fin 128) :
    (View.ld (Val := Elt Ideal) (e' := .f32) x1 (Rect.unit (s := S1x2048x256) ![0, 0, 0] ![1, 2048, 128] inb) (ix3 0 r l) : EReal)
      = (A.kv b r (256 * p + 128 * 0 + l) : EReal) := by
  pointwise
  rw [hx.x1]

theorem ld_kv1 (inb) (r : Fin 2048) (l : Fin 128) :
    (View.ld (Val := Elt Ideal) (e' := .f32) x1 (Rect.unit (s := S1x2048x256) ![0, 0, 128] ![1, 2048, 128] inb) (ix3 0 r l) : EReal)
      = (A.kv b r (256 * p + 128 * 1 + l) : EReal) := by
  pointwise
  rw [hx.x1, add_assoc]

/-- The keys as a pair's first point stores them. -/
theorem canon_keys (inb1 inb3 inb4 inb5 inb2 inbv1 inb0 inb3' inb4' inb5' inb2' inbv0) :
    Keys A b p (View.canon (Val := Elt Ideal) (s := S2x2048x128) (e := .bf16)
      [⟨Rect.unit (s := S2x2048x128) ![1, 0, 0] ![1, 2048, 128] inb1,
        k0_pay17 (k0_pay8 (View.ld (Val := Elt Ideal) (e' := .f32) x3 (Rect.unit (s := S2048x128) ![0, 0] ![2048, 128] inb3))
          (View.ld (Val := Elt Ideal) (e' := .f32) x4 (Rect.unit (s := S2048x128) ![0, 0] ![2048, 128] inb4))
          (View.ld (Val := Elt Ideal) (e' := .f32) x5 (Rect.unit (s := S2048x128) ![0, 0] ![2048, 128] inb5))
          (View.ld (Val := Elt Ideal) (e' := .f32) x2 (Rect.unit (s := S1x2048x128) ![0, 0, 0] ![1, 2048, 128] inb2)))
          (View.ld (Val := Elt Ideal) (e' := .f32) x1 (Rect.unit (s := S1x2048x256) ![0, 0, 128] ![1, 2048, 128] inbv1))⟩,
       ⟨Rect.unit (s := S2x2048x128) ![0, 0, 0] ![1, 2048, 128] inb0,
        k0_pay10 (View.ld (Val := Elt Ideal) (e' := .f32) x3 (Rect.unit (s := S2048x128) ![0, 0] ![2048, 128] inb3'))
          (View.ld (Val := Elt Ideal) (e' := .f32) x4 (Rect.unit (s := S2048x128) ![0, 0] ![2048, 128] inb4'))
          (View.ld (Val := Elt Ideal) (e' := .f32) x5 (Rect.unit (s := S2048x128) ![0, 0] ![2048, 128] inb5'))
          (View.ld (Val := Elt Ideal) (e' := .f32) x2 (Rect.unit (s := S1x2048x128) ![0, 0, 0] ![1, 2048, 128] inb2'))
          (View.ld (Val := Elt Ideal) (e' := .f32) x1 (Rect.unit (s := S1x2048x256) ![0, 0, 0] ![1, 2048, 128] inbv0))⟩]) := by
  intro hh t l
  rw [canon3]
  split
  next h =>
    obtain rfl : hh = 1 := Fin.ext (by show (hh : ℕ) = 1; omega)
    refine (k2_head1 (tables hx inb3 inb4 inb5) _ _ (krp A b) (fun r l => A.kv b r (256 * p + 128 * 1 + l)) ?_ ?_ _ _).trans ?_
    · exact ld_kr hx _
    · exact ld_kv1 hx _
    · rfl
  next h =>
    obtain rfl : hh = 0 := Fin.ext (by show (hh : ℕ) = 0; omega)
    rw [canon3, dif_pos (by omega)]
    refine (k2_head0 (tables hx inb3' inb4' inb5') _ _ (krp A b) (fun r l => A.kv b r (256 * p + 128 * 0 + l)) ?_ ?_ _ _).trans ?_
    · exact ld_kr hx _
    · exact ld_kv0 hx _
    · rfl

/-- The values as a pair's first point stores them. -/
theorem canon_vals (inb inb1) :
    Vals A b p (View.canon (Val := Elt Ideal) (s := S2048x256) (e := .bf16)
      [⟨Rect.unit (s := S2048x256) ![0, 0] ![2048, 256] inb,
        k0_pay9 (View.ld (Val := Elt Ideal) (e' := .f32) x1 (Rect.unit (s := S1x2048x256) ![0, 0, 0] ![1, 2048, 256] inb1))⟩]) := by
  intro t j
  rw [View.canon_unit_zero (by funext a; fin_cases a <;> rfl)]
  unfold k0_pay9
  pointwise
  rw [hx.x1]

end

theorem pay18_zero (hh : Fin 2) (t : Fin 2048) (l : Fin 128) : (k0_pay18 (F := Ideal) (ix3 hh t l) : EReal) = ((0 : ℝ) : EReal) := by
  unfold k0_pay18
  pointwise
  rfl

theorem pay19_zero (t : Fin 2048) (j : Fin 256) : (k0_pay19 (F := Ideal) (ix3 0 t j) : EReal) = ((0 : ℝ) : EReal) := by
  unfold k0_pay19
  pointwise
  rfl

theorem pay20_zero (t : Fin 2048) (l : Fin 128) : (k0_pay20 (F := Ideal) (ix3 0 t l) : EReal) = ((0 : ℝ) : EReal) := by
  unfold k0_pay20
  pointwise
  rfl

end Cert.AttnBwd.Ker

end
-- ==== Proof.CaseA.lean ====
/- The first point of a batch entry: it stores the pair's keys and values, and begins the three running sums. -/
module

public import proofs.«01_k».proof.Proof.Loads
public import proofs.«01_k».proof.Proof.Gen.KernelIdeal.Frame

@[expose] public section

set_option maxRecDepth 16384

noncomputable section

namespace Cert.AttnBwd.Ker

open Idealize.ShloMosaic Idealize.ShloMosaic.TcCoe Idealize.ShloMosaic.Tactic
open Cert.KernelIdeal Cert.KernelIdeal.Gen

variable {A : Args} {b p : ℕ}

variable (c : Dev nD) (i : grid0.Coords)
  (a3 : Memref sig .tc .vmem S1x256x256 .f32) (h3 : a3.IsWhole) (a4 : Memref sig .tc .vmem S1x2048x256 .f32) (h4 : a4.IsWhole) (a5 : Memref sig .tc .vmem S1x2048x128 .f32) (h5 : a5.IsWhole) (a6 : Memref sig .tc .vmem S2048x128 .f32) (h6 : a6.IsWhole) (a7 : Memref sig .tc .vmem S2048x128 .f32) (h7 : a7.IsWhole) (a8 : Memref sig .tc .vmem S2048x128 .f32) (h8 : a8.IsWhole) (a9 : Memref sig .tc .vmem S1x256x128 .f32) (h9 : a9.IsWhole) (a10 : Memref sig .tc .vmem S1x1x256x128 .f32) (h10 : a10.IsWhole) (a11 : Memref sig .tc .vmem S1x256x128 .f32) (h11 : a11.IsWhole) (a12 : Memref sig .tc .vmem S1x256x256 .f32) (h12 : a12.IsWhole) (a13 : Memref sig .tc .vmem S1x2048x256 .f32) (h13 : a13.IsWhole) (a14 : Memref sig .tc .vmem S1x2048x128 .f32) (h14 : a14.IsWhole) (a15 : Memref sig .tc .vmem S2x2048x128 .bf16) (h15 : a15.IsWhole) (a16 : Memref sig .tc .vmem S2048x256 .bf16) (h16 : a16.IsWhole) (a17 : Memref sig .tc .vmem S2x2048x128 .f32) (h17 : a17.IsWhole)
  (hc0 : cond0_0 i) (hc1 : cond0_1 i) (hc2 : ¬cond0_2 i)
  (x0 : FVec Ideal S1x256x256 .f32) (x1 : FVec Ideal S1x2048x256 .f32) (x2 : FVec Ideal S1x2048x128 .f32) (x3 : FVec Ideal S2048x128 .f32) (x4 : FVec Ideal S2048x128 .f32) (x5 : FVec Ideal S2048x128 .f32) (x6 : FVec Ideal S1x256x128 .f32) (x7 : FVec Ideal S1x1x256x128 .f32) (x8 : FVec Ideal S1x256x128 .f32)
  (hx : In A b p (i 2) x0 x1 x2 x3 x4 x5 x6 x7 x8)
include hx

/-- The gradient of the queries. -/
theorem outA_9 (r : Fin 256) (j : Fin 256) :
    (out0_A_9 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 (ix3 0 r j) : EReal)
      = (dqB A b p (i 2) (j / 128) r (j % 128) : EReal) := by
  unfold out0_A_9
  rw [View.read_writes_junk_eq_canon]
  unfold kernelRun0_A
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  rw [canon3]
  split
  next h =>
    refine (dq_head1 (reads1 hx _ _ (ld_k1 (canon_keys hx _ _ _ _ _ _ _ _ _ _ _ _) _) (ld_v1 (canon_vals hx _ _) _) _ (row_off _ (i 2).isLt) _ _ _ _ _ _ _) _ _).trans ?_
    have e1 : (j : ℕ) / 128 = 1 := by omega
    have e2 : (j : ℕ) % 128 = j - 128 := by omega
    rw [e1, e2]
    rfl
  next h =>
    rw [canon3, dif_pos (by omega)]
    refine (dq_head0 (reads0 hx _ _ (ld_k0 (canon_keys hx _ _ _ _ _ _ _ _ _ _ _ _) _) (ld_v0 (canon_vals hx _ _) _) _ (row_off _ (i 2).isLt) _ _ _ _ _ _ _) _ _).trans ?_
    have e1 : (j : ℕ) / 128 = 0 := by omega
    have e2 : (j : ℕ) % 128 = j - 0 := by omega
    rw [e1, e2]
    rfl

/-- The running sum of the values' gradient. -/
theorem outA_10 (t : Fin 2048) (j : Fin 256) :
    (out0_A_10 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 (ix3 0 t j) : EReal)
      = ((dvB A b p (i 2) (j / 128) t (j % 128) : ℝ) : EReal) := by
  unfold out0_A_10
  rw [View.read_writes_junk_eq_canon]
  unfold kernelRun0_A
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  rw [canon3]
  split
  next h =>
    refine (dv_head1 (reads1 hx _ _ (ld_k1 (canon_keys hx _ _ _ _ _ _ _ _ _ _ _ _) _) (ld_v1 (canon_vals hx inb_S2048x256_S2048x256_0_0 inb_S1x2048x256_S1x2048x256_0_0_0) inb_S2048x256_S2048x128_0_128) _ (row_off _ (i 2).isLt) _ _ _ _ _ _ inb_S1x256x128_S1x256x128_0_0_0) _ _ _ 0 ?_).trans ?_
    · pointwise
      rw [canon3, dif_neg (by simp only; omega), canon3_whole, pay19_zero]
    rw [zero_add]
    have e1 : (j : ℕ) / 128 = 1 := by omega
    have e2 : (j : ℕ) % 128 = j - 128 := by omega
    rw [e1, e2]
    rfl
  next h =>
    rw [canon3, dif_pos (by omega)]
    refine (dv_head0 (reads0 hx _ _ (ld_k0 (canon_keys hx _ _ _ _ _ _ _ _ _ _ _ _) _) (ld_v0 (canon_vals hx inb_S2048x256_S2048x256_0_0 inb_S1x2048x256_S1x2048x256_0_0_0) inb_S2048x256_S2048x128_0_0) _ (row_off _ (i 2).isLt) _ _ _ _ _ _ inb_S1x256x128_S1x256x128_0_0_0) _ _ _ 0 ?_).trans ?_
    · pointwise
      rw [canon3_whole, pay19_zero]
    rw [zero_add]
    have e1 : (j : ℕ) / 128 = 0 := by omega
    have e2 : (j : ℕ) % 128 = j - 0 := by omega
    rw [e1, e2]
    rfl

/-- The running sum of the rotated keys' gradient. -/
theorem soutA_2 (hh : Fin 2) (t : Fin 2048) (l : Fin 128) :
    (sout0_A_2 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 (ix3 hh t l) : EReal)
      = ((dkB A b p (i 2) hh t l : ℝ) : EReal) := by
  unfold sout0_A_2
  rw [View.read_writes_junk_eq_canon]
  unfold kernelRun0_A
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  rw [canon3]
  split
  next h =>
    obtain rfl : hh = 1 := Fin.ext (by show (hh : ℕ) = 1; omega)
    refine (dk_head1 (reads1 hx _ _ (ld_k1 (canon_keys hx _ _ _ _ _ _ _ _ _ _ _ _) _) (ld_v1 (canon_vals hx _ _) _) _ (row_off _ (i 2).isLt) _ _ _ _ _ _ _) _ _ _ 0 ?_).trans ?_
    · pointwise
      rw [canon3, dif_neg (by simp), canon3_whole, pay18_zero]
    rw [zero_add]
    rfl
  next h =>
    obtain rfl : hh = 0 := Fin.ext (by show (hh : ℕ) = 0; omega)
    rw [canon3, dif_pos (by omega)]
    refine (dk_head0 (reads0 hx _ _ (ld_k0 (canon_keys hx _ _ _ _ _ _ _ _ _ _ _ _) _) (ld_v0 (canon_vals hx _ _) _) _ (row_off _ (i 2).isLt) _ _ _ _ _ _ _) _ _ _ 0 ?_).trans ?_
    · pointwise
      rw [canon3_whole, pay18_zero]
    rw [zero_add]
    rfl

/-- The keys the pair keeps. -/
theorem soutA_0 : Keys A b p (sout0_A_0 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8) := by
  unfold sout0_A_0
  rw [View.read_writes_junk_eq_canon]
  unfold kernelRun0_A
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  exact canon_keys hx _ _ _ _ _ _ _ _ _ _ _ _

/-- The values the pair keeps. -/
theorem soutA_1 : Vals A b p (sout0_A_1 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8) := by
  unfold sout0_A_1
  rw [View.read_writes_junk_eq_canon]
  unfold kernelRun0_A
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  exact canon_vals hx _ _

/-- The running sum of the shared keys' gradient begins at zero. -/
theorem outA_11 (t : Fin 2048) (l : Fin 128) :
    (out0_A_11 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 (ix3 0 t l) : EReal) = ((0 : ℝ) : EReal) := by
  unfold out0_A_11
  rw [View.read_writes_junk_eq_canon]
  unfold kernelRun0_A
  dsimp only
  sl_unfold_words
  rw [canon3_whole, pay20_zero]

end Cert.AttnBwd.Ker

end
-- ==== Proof.CaseB.lean ====
/- A point in the middle of a pair of heads: it adds its block to the two running sums. -/
module

public import proofs.«01_k».proof.Proof.Loads
public import proofs.«01_k».proof.Proof.Gen.KernelIdeal.Frame

@[expose] public section

set_option maxRecDepth 16384

noncomputable section

namespace Cert.AttnBwd.Ker

open Idealize.ShloMosaic Idealize.ShloMosaic.TcCoe Idealize.ShloMosaic.Tactic
open Cert.KernelIdeal Cert.KernelIdeal.Gen

variable {A : Args} {b p : ℕ}

variable (c : Dev nD) (i : grid0.Coords)
  (a3 : Memref sig .tc .vmem S1x256x256 .f32) (h3 : a3.IsWhole) (a4 : Memref sig .tc .vmem S1x2048x256 .f32) (h4 : a4.IsWhole) (a5 : Memref sig .tc .vmem S1x2048x128 .f32) (h5 : a5.IsWhole) (a6 : Memref sig .tc .vmem S2048x128 .f32) (h6 : a6.IsWhole) (a7 : Memref sig .tc .vmem S2048x128 .f32) (h7 : a7.IsWhole) (a8 : Memref sig .tc .vmem S2048x128 .f32) (h8 : a8.IsWhole) (a9 : Memref sig .tc .vmem S1x256x128 .f32) (h9 : a9.IsWhole) (a10 : Memref sig .tc .vmem S1x1x256x128 .f32) (h10 : a10.IsWhole) (a11 : Memref sig .tc .vmem S1x256x128 .f32) (h11 : a11.IsWhole) (a12 : Memref sig .tc .vmem S1x256x256 .f32) (h12 : a12.IsWhole) (a13 : Memref sig .tc .vmem S1x2048x256 .f32) (h13 : a13.IsWhole) (a14 : Memref sig .tc .vmem S1x2048x128 .f32) (h14 : a14.IsWhole) (a15 : Memref sig .tc .vmem S2x2048x128 .bf16) (h15 : a15.IsWhole) (a16 : Memref sig .tc .vmem S2048x256 .bf16) (h16 : a16.IsWhole) (a17 : Memref sig .tc .vmem S2x2048x128 .f32) (h17 : a17.IsWhole)
  (hc0 : ¬cond0_0 i) (hc1 : ¬cond0_1 i) (hc2 : ¬cond0_2 i)
  (x0 : FVec Ideal S1x256x256 .f32) (x1 : FVec Ideal S1x2048x256 .f32) (x2 : FVec Ideal S1x2048x128 .f32) (x3 : FVec Ideal S2048x128 .f32) (x4 : FVec Ideal S2048x128 .f32) (x5 : FVec Ideal S2048x128 .f32) (x6 : FVec Ideal S1x256x128 .f32) (x7 : FVec Ideal S1x1x256x128 .f32) (x8 : FVec Ideal S1x256x128 .f32) (xo10 : FVec Ideal S1x2048x256 .f32) (xs0 : FVec Ideal S2x2048x128 .bf16) (xs1 : FVec Ideal S2048x256 .bf16) (xs2 : FVec Ideal S2x2048x128 .f32)
  (hx : In A b p (i 2) x0 x1 x2 x3 x4 x5 x6 x7 x8) (hk : Keys A b p xs0) (hv : Vals A b p xs1)
include hx hk hv

/-- The gradient of the queries. -/
theorem outB_9 (r : Fin 256) (j : Fin 256) :
    (out0_B_9 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 xo10 xs0 xs1 xs2 (ix3 0 r j) : EReal)
      = (dqB A b p (i 2) (j / 128) r (j % 128) : EReal) := by
  unfold out0_B_9
  rw [View.read_writes_junk_eq_canon]
  unfold kernelRun0_B
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  rw [canon3]
  split
  next h =>
    refine (dq_head1 (reads1 hx _ _ (ld_k1 hk _) (ld_v1 hv _) _ (row_off _ (i 2).isLt) _ _ _ _ _ _ _) _ _).trans ?_
    have e1 : (j : ℕ) / 128 = 1 := by omega
    have e2 : (j : ℕ) % 128 = j - 128 := by omega
    rw [e1, e2]
    rfl
  next h =>
    rw [canon3, dif_pos (by omega)]
    refine (dq_head0 (reads0 hx _ _ (ld_k0 hk _) (ld_v0 hv _) _ (row_off _ (i 2).isLt) _ _ _ _ _ _ _) _ _).trans ?_
    have e1 : (j : ℕ) / 128 = 0 := by omega
    have e2 : (j : ℕ) % 128 = j - 0 := by omega
    rw [e1, e2]
    rfl

/-- The running sum of the values' gradient. -/
theorem outB_10 (f : ℕ → ℕ → ℝ) (hf : ∀ (t : Fin 2048) (j : Fin 256), (xo10 (ix3 0 t j) : EReal) = (f t j : EReal)) (t : Fin 2048) (j : Fin 256) :
    (out0_B_10 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 xo10 xs0 xs1 xs2 (ix3 0 t j) : EReal)
      = ((f t j + dvB A b p (i 2) (j / 128) t (j % 128) : ℝ) : EReal) := by
  unfold out0_B_10
  rw [View.read_writes_junk_eq_canon]
  unfold kernelRun0_B
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  rw [canon3]
  split
  next h =>
    refine (dv_head1 (reads1 hx _ _ (ld_k1 hk _) (ld_v1 hv inb_S2048x256_S2048x128_0_128) _ (row_off _ (i 2).isLt) _ _ _ _ _ _ inb_S1x256x128_S1x256x128_0_0_0) _ _ _ (f t j) ?_).trans ?_
    · pointwise
      rw [hf]
      congr 2
      simp only
      omega
    have e1 : (j : ℕ) / 128 = 1 := by omega
    have e2 : (j : ℕ) % 128 = j - 128 := by omega
    rw [e1, e2]
    rfl
  next h =>
    rw [canon3, dif_pos (by omega)]
    refine (dv_head0 (reads0 hx _ _ (ld_k0 hk _) (ld_v0 hv inb_S2048x256_S2048x128_0_0) _ (row_off _ (i 2).isLt) _ _ _ _ _ _ inb_S1x256x128_S1x256x128_0_0_0) _ _ _ (f t j) ?_).trans ?_
    · pointwise
      rw [hf]
    have e1 : (j : ℕ) / 128 = 0 := by omega
    have e2 : (j : ℕ) % 128 = j - 0 := by omega
    rw [e1, e2]
    rfl

/-- The running sum of the rotated keys' gradient. -/
theorem soutB_2 (f : ℕ → ℕ → ℕ → ℝ) (hf : ∀ (hh : Fin 2) (t : Fin 2048) (l : Fin 128), (xs2 (ix3 hh t l) : EReal) = (f hh t l : EReal)) (hh : Fin 2) (t : Fin 2048) (l : Fin 128) :
    (sout0_B_2 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 xo10 xs0 xs1 xs2 (ix3 hh t l) : EReal)
      = ((f hh t l + dkB A b p (i 2) hh t l : ℝ) : EReal) := by
  unfold sout0_B_2
  rw [View.read_writes_junk_eq_canon]
  unfold kernelRun0_B
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  rw [canon3]
  split
  next h =>
    obtain rfl : hh = 1 := Fin.ext (by show (hh : ℕ) = 1; omega)
    refine (dk_head1 (reads1 hx _ _ (ld_k1 hk _) (ld_v1 hv _) _ (row_off _ (i 2).isLt) _ _ _ _ _ _ _) _ _ _ (f 1 t l) ?_).trans ?_
    · pointwise
      rw [hf]
      rfl
    rfl
  next h =>
    obtain rfl : hh = 0 := Fin.ext (by show (hh : ℕ) = 0; omega)
    rw [canon3, dif_pos (by omega)]
    refine (dk_head0 (reads0 hx _ _ (ld_k0 hk _) (ld_v0 hv _) _ (row_off _ (i 2).isLt) _ _ _ _ _ _ _) _ _ _ (f 0 t l) ?_).trans ?_
    · pointwise
      rw [hf]
      rfl
    rfl

end Cert.AttnBwd.Ker

end
-- ==== Proof.CaseC.lean ====
/- The last point of a pair of heads: the sums are complete, and the key lanes are shared out. -/
module

public import proofs.«01_k».proof.Proof.Loads
public import proofs.«01_k».proof.Proof.Gen.KernelIdeal.Frame

@[expose] public section

set_option maxRecDepth 16384

noncomputable section

namespace Cert.AttnBwd.Ker

open Idealize.ShloMosaic Idealize.ShloMosaic.TcCoe Idealize.ShloMosaic.Tactic
open Cert.KernelIdeal Cert.KernelIdeal.Gen

variable {A : Args} {b p : ℕ}

variable (c : Dev nD) (i : grid0.Coords)
  (a3 : Memref sig .tc .vmem S1x256x256 .f32) (h3 : a3.IsWhole) (a4 : Memref sig .tc .vmem S1x2048x256 .f32) (h4 : a4.IsWhole) (a5 : Memref sig .tc .vmem S1x2048x128 .f32) (h5 : a5.IsWhole) (a6 : Memref sig .tc .vmem S2048x128 .f32) (h6 : a6.IsWhole) (a7 : Memref sig .tc .vmem S2048x128 .f32) (h7 : a7.IsWhole) (a8 : Memref sig .tc .vmem S2048x128 .f32) (h8 : a8.IsWhole) (a9 : Memref sig .tc .vmem S1x256x128 .f32) (h9 : a9.IsWhole) (a10 : Memref sig .tc .vmem S1x1x256x128 .f32) (h10 : a10.IsWhole) (a11 : Memref sig .tc .vmem S1x256x128 .f32) (h11 : a11.IsWhole) (a12 : Memref sig .tc .vmem S1x256x256 .f32) (h12 : a12.IsWhole) (a13 : Memref sig .tc .vmem S1x2048x256 .f32) (h13 : a13.IsWhole) (a14 : Memref sig .tc .vmem S1x2048x128 .f32) (h14 : a14.IsWhole) (a15 : Memref sig .tc .vmem S2x2048x128 .bf16) (h15 : a15.IsWhole) (a16 : Memref sig .tc .vmem S2048x256 .bf16) (h16 : a16.IsWhole) (a17 : Memref sig .tc .vmem S2x2048x128 .f32) (h17 : a17.IsWhole)
  (hc0 : ¬cond0_0 i) (hc1 : ¬cond0_1 i) (hc2 : cond0_2 i)
  (x0 : FVec Ideal S1x256x256 .f32) (x1 : FVec Ideal S1x2048x256 .f32) (x2 : FVec Ideal S1x2048x128 .f32) (x3 : FVec Ideal S2048x128 .f32) (x4 : FVec Ideal S2048x128 .f32) (x5 : FVec Ideal S2048x128 .f32) (x6 : FVec Ideal S1x256x128 .f32) (x7 : FVec Ideal S1x1x256x128 .f32) (x8 : FVec Ideal S1x256x128 .f32) (xo10 : FVec Ideal S1x2048x256 .f32) (xo11 : FVec Ideal S1x2048x128 .f32) (xs0 : FVec Ideal S2x2048x128 .bf16) (xs1 : FVec Ideal S2048x256 .bf16) (xs2 : FVec Ideal S2x2048x128 .f32)
  (hx : In A b p (i 2) x0 x1 x2 x3 x4 x5 x6 x7 x8) (hk : Keys A b p xs0) (hv : Vals A b p xs1)
include hx hk hv

/-- The gradient of the queries. -/
theorem outC_9 (r : Fin 256) (j : Fin 256) :
    (out0_C_9 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 xo10 xo11 xs0 xs1 xs2 (ix3 0 r j) : EReal)
      = (dqB A b p (i 2) (j / 128) r (j % 128) : EReal) := by
  unfold out0_C_9
  rw [View.read_writes_junk_eq_canon]
  unfold kernelRun0_C
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  rw [canon3]
  split
  next h =>
    refine (dq_head1 (reads1 hx _ _ (ld_k1 hk _) (ld_v1 hv _) _ (row_off _ (i 2).isLt) _ _ _ _ _ _ _) _ _).trans ?_
    have e1 : (j : ℕ) / 128 = 1 := by omega
    have e2 : (j : ℕ) % 128 = j - 128 := by omega
    rw [e1, e2]
    rfl
  next h =>
    rw [canon3, dif_pos (by omega)]
    refine (dq_head0 (reads0 hx _ _ (ld_k0 hk _) (ld_v0 hv _) _ (row_off _ (i 2).isLt) _ _ _ _ _ _ _) _ _).trans ?_
    have e1 : (j : ℕ) / 128 = 0 := by omega
    have e2 : (j : ℕ) % 128 = j - 0 := by omega
    rw [e1, e2]
    rfl

/-- The running sum of the rotated keys' gradient. -/
theorem soutC_2 (f : ℕ → ℕ → ℕ → ℝ) (hf : ∀ (hh : Fin 2) (t : Fin 2048) (l : Fin 128), (xs2 (ix3 hh t l) : EReal) = (f hh t l : EReal)) (hh : Fin 2) (t : Fin 2048) (l : Fin 128) :
    (sout0_C_2 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 xo10 xo11 xs0 xs1 xs2 (ix3 hh t l) : EReal)
      = ((f hh t l + dkB A b p (i 2) hh t l : ℝ) : EReal) := by
  unfold sout0_C_2
  rw [View.read_writes_junk_eq_canon]
  unfold kernelRun0_C
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  rw [canon3]
  split
  next h =>
    obtain rfl : hh = 1 := Fin.ext (by show (hh : ℕ) = 1; omega)
    refine (dk_head1 (reads1 hx _ _ (ld_k1 hk _) (ld_v1 hv _) _ (row_off _ (i 2).isLt) _ _ _ _ _ _ _) _ _ _ (f 1 t l) ?_).trans ?_
    · pointwise
      rw [hf]
      rfl
    rfl
  next h =>
    obtain rfl : hh = 0 := Fin.ext (by show (hh : ℕ) = 0; omega)
    rw [canon3, dif_pos (by omega)]
    refine (dk_head0 (reads0 hx _ _ (ld_k0 hk _) (ld_v0 hv _) _ (row_off _ (i 2).isLt) _ _ _ _ _ _ _) _ _ _ (f 0 t l) ?_).trans ?_
    · pointwise
      rw [hf]
      rfl
    rfl

/-- The gradient of keys and values: the running sum, and in the key lanes the rotated keys' gradient. -/
theorem outC_10 (f : ℕ → ℕ → ℝ) (hf : ∀ (t : Fin 2048) (j : Fin 256), (xo10 (ix3 0 t j) : EReal) = (f t j : EReal))
    (g : ℕ → ℕ → ℕ → ℝ) (hg : ∀ (hh : Fin 2) (t : Fin 2048) (l : Fin 128), (xs2 (ix3 hh t l) : EReal) = (g hh t l : EReal))
    (t : Fin 2048) (j : Fin 256) :
    (out0_C_10 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 xo10 xo11 xs0 xs1 xs2 (ix3 0 t j) : EReal)
      = ((f t j + dvB A b p (i 2) (j / 128) t (j % 128)
          + (if 64 ≤ (j : ℕ) % 128 then 0 else g (j / 128) t (j % 128) + dkB A b p (i 2) (j / 128) t (j % 128)) : ℝ) : EReal) := by
  unfold out0_C_10
  rw [View.read_writes_junk_eq_canon]
  unfold kernelRun0_C
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  rw [canon3]
  split
  next h =>
    have e1 : (j : ℕ) / 128 = 1 := by omega
    have e2 : (j : ℕ) % 128 = j - 128 := by omega
    have e3 : 128 + ((j : ℕ) - 128) - 128 = j - 128 := by omega
    have e4 : 128 + ((j : ℕ) - 128) = j := by omega
    refine (dkv_head1 _ _ _ _ (g 1 t (j - 128) + dkB A b p (i 2) 1 t (j - 128)) (f t j + dvB A b p (i 2) 1 t (j - 128)) ?_ ?_).trans ?_
    · pointwise
      rw [canon3, dif_pos (by simp only; omega)]
      refine (dk_head1 (reads1 hx _ _ (ld_k1 hk _) (ld_v1 hv _) _ (row_off _ (i 2).isLt) _ _ _ _ _ _ _) _ _ _ (g 1 t (j - 128)) ?_).trans ?_
      · pointwise
        rw [hg]
        rfl
      · rfl
    · pointwise
      rw [canon3, dif_neg (by simp only; omega), canon3, dif_pos (by simp only; omega)]
      refine (dv_head1 (reads1 hx _ _ (ld_k1 hk _) (ld_v1 hv inb_S2048x256_S2048x128_0_128) _ (row_off _ (i 2).isLt) _ _ _ _ _ _ inb_S1x256x128_S1x256x128_0_0_0) _ _ _ (f t j) ?_).trans ?_
      · pointwise
        rw [hf]
        congr 2
      · show ((f t j + dvB A b p (i 2) 1 t (128 + ((j : ℕ) - 128) - 128) : ℝ) : EReal) = _
        rw [e3]
    rw [e1, e2]
  next h =>
    have e1 : (j : ℕ) / 128 = 0 := by omega
    have e2 : (j : ℕ) % 128 = j := by omega
    rw [canon3, dif_pos (by omega)]
    refine (dkv_head0 _ _ _ _ (g 0 t j + dkB A b p (i 2) 0 t j) (f t j + dvB A b p (i 2) 0 t j) ?_ ?_).trans ?_
    · pointwise
      rw [canon3, dif_neg (by simp)]
      rw [canon3, dif_pos (by simp only; omega)]
      refine (dk_head0 (reads0 hx _ _ (ld_k0 hk _) (ld_v0 hv _) _ (row_off _ (i 2).isLt) _ _ _ _ _ _ _) _ _ _ (g 0 t j) ?_).trans ?_
      · pointwise
        rw [hg]
        rfl
      · rfl
    · pointwise
      rw [canon3, dif_neg (by omega), canon3, dif_pos (by omega)]
      refine (dv_head0 (reads0 hx _ _ (ld_k0 hk _) (ld_v0 hv inb_S2048x256_S2048x128_0_0) _ (row_off _ (i 2).isLt) _ _ _ _ _ _ inb_S1x256x128_S1x256x128_0_0_0) _ _ _ (f t j) ?_).trans ?_
      · pointwise
        rw [hf]
      · rfl
    rw [e1, e2]
    rfl

/-- The shared keys' gradient gains the pair's two heads. -/
theorem outC_11 (f : ℕ → ℕ → ℝ) (hf : ∀ (t : Fin 2048) (l : Fin 128), (xo11 (ix3 0 t l) : EReal) = (f t l : EReal))
    (g : ℕ → ℕ → ℕ → ℝ) (hg : ∀ (hh : Fin 2) (t : Fin 2048) (l : Fin 128), (xs2 (ix3 hh t l) : EReal) = (g hh t l : EReal))
    (t : Fin 2048) (l : Fin 128) :
    (out0_C_11 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 xo10 xo11 xs0 xs1 xs2 (ix3 0 t l) : EReal)
      = ((f t l + ropeT Ct S1t S2t (fun t l => if 64 ≤ l then g 0 t l + dkB A b p (i 2) 0 t l else 0) t l
          + ropeT Ct S1t S2t (fun t l => if 64 ≤ l then g 1 t l + dkB A b p (i 2) 1 t l else 0) t l : ℝ) : EReal) := by
  unfold out0_C_11
  rw [View.read_writes_junk_eq_canon]
  unfold kernelRun0_C
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  rw [canon3_whole]
  refine (dkr_head1 (tables hx _ _ _) _ _ (fun t l => g 1 t l + dkB A b p (i 2) 1 t l)
    (fun t l => f t l + ropeT Ct S1t S2t (fun t l => if 64 ≤ l then g 0 t l + dkB A b p (i 2) 0 t l else 0) t l) ?_ ?_ t l)
  · intro t l
    pointwise
    rw [canon3, dif_pos (by simp)]
    refine (dk_head1 (reads1 hx _ _ (ld_k1 hk _) (ld_v1 hv _) _ (row_off _ (i 2).isLt) _ _ _ _ _ _ _) _ _ _ (g 1 t l) ?_).trans ?_
    · pointwise
      rw [hg]
      rfl
    · rfl
  · intro t l
    pointwise
    rw [canon3_whole]
    refine dkr_head0 (tables hx _ _ _) _ _ (fun t l => g 0 t l + dkB A b p (i 2) 0 t l) f ?_ ?_ t l
    · intro t l
      pointwise
      rw [canon3, dif_neg (by simp)]
      rw [canon3, dif_pos (by simp)]
      refine (dk_head0 (reads0 hx _ _ (ld_k0 hk _) (ld_v0 hv _) _ (row_off _ (i 2).isLt) _ _ _ _ _ _ _) _ _ _ (g 0 t l) ?_).trans ?_
      · pointwise
        rw [hg]
        rfl
      · rfl
    · intro t l
      pointwise
      exact hf t l

end Cert.AttnBwd.Ker

end
-- ==== Proof.CaseD.lean ====
/- The first point of a later pair of heads: it stores the pair's keys and values, and begins two running sums. -/
module

public import proofs.«01_k».proof.Proof.Loads
public import proofs.«01_k».proof.Proof.Gen.KernelIdeal.Frame

@[expose] public section

set_option maxRecDepth 16384

noncomputable section

namespace Cert.AttnBwd.Ker

open Idealize.ShloMosaic Idealize.ShloMosaic.TcCoe Idealize.ShloMosaic.Tactic
open Cert.KernelIdeal Cert.KernelIdeal.Gen

variable {A : Args} {b p : ℕ}

variable (c : Dev nD) (i : grid0.Coords)
  (a3 : Memref sig .tc .vmem S1x256x256 .f32) (h3 : a3.IsWhole) (a4 : Memref sig .tc .vmem S1x2048x256 .f32) (h4 : a4.IsWhole) (a5 : Memref sig .tc .vmem S1x2048x128 .f32) (h5 : a5.IsWhole) (a6 : Memref sig .tc .vmem S2048x128 .f32) (h6 : a6.IsWhole) (a7 : Memref sig .tc .vmem S2048x128 .f32) (h7 : a7.IsWhole) (a8 : Memref sig .tc .vmem S2048x128 .f32) (h8 : a8.IsWhole) (a9 : Memref sig .tc .vmem S1x256x128 .f32) (h9 : a9.IsWhole) (a10 : Memref sig .tc .vmem S1x1x256x128 .f32) (h10 : a10.IsWhole) (a11 : Memref sig .tc .vmem S1x256x128 .f32) (h11 : a11.IsWhole) (a12 : Memref sig .tc .vmem S1x256x256 .f32) (h12 : a12.IsWhole) (a13 : Memref sig .tc .vmem S1x2048x256 .f32) (h13 : a13.IsWhole) (a14 : Memref sig .tc .vmem S1x2048x128 .f32) (h14 : a14.IsWhole) (a15 : Memref sig .tc .vmem S2x2048x128 .bf16) (h15 : a15.IsWhole) (a16 : Memref sig .tc .vmem S2048x256 .bf16) (h16 : a16.IsWhole) (a17 : Memref sig .tc .vmem S2x2048x128 .f32) (h17 : a17.IsWhole)
  (hc0 : cond0_0 i) (hc1 : ¬cond0_1 i) (hc2 : ¬cond0_2 i)
  (x0 : FVec Ideal S1x256x256 .f32) (x1 : FVec Ideal S1x2048x256 .f32) (x2 : FVec Ideal S1x2048x128 .f32) (x3 : FVec Ideal S2048x128 .f32) (x4 : FVec Ideal S2048x128 .f32) (x5 : FVec Ideal S2048x128 .f32) (x6 : FVec Ideal S1x256x128 .f32) (x7 : FVec Ideal S1x1x256x128 .f32) (x8 : FVec Ideal S1x256x128 .f32)
  (hx : In A b p (i 2) x0 x1 x2 x3 x4 x5 x6 x7 x8)
include hx

/-- The gradient of the queries. -/
theorem outD_9 (r : Fin 256) (j : Fin 256) :
    (out0_D_9 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 (ix3 0 r j) : EReal)
      = (dqB A b p (i 2) (j / 128) r (j % 128) : EReal) := by
  unfold out0_D_9
  rw [View.read_writes_junk_eq_canon]
  unfold kernelRun0_D
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  rw [canon3]
  split
  next h =>
    refine (dq_head1 (reads1 hx _ _ (ld_k1 (canon_keys hx _ _ _ _ _ _ _ _ _ _ _ _) _) (ld_v1 (canon_vals hx _ _) _) _ (row_off _ (i 2).isLt) _ _ _ _ _ _ _) _ _).trans ?_
    have e1 : (j : ℕ) / 128 = 1 := by omega
    have e2 : (j : ℕ) % 128 = j - 128 := by omega
    rw [e1, e2]
    rfl
  next h =>
    rw [canon3, dif_pos (by omega)]
    refine (dq_head0 (reads0 hx _ _ (ld_k0 (canon_keys hx _ _ _ _ _ _ _ _ _ _ _ _) _) (ld_v0 (canon_vals hx _ _) _) _ (row_off _ (i 2).isLt) _ _ _ _ _ _ _) _ _).trans ?_
    have e1 : (j : ℕ) / 128 = 0 := by omega
    have e2 : (j : ℕ) % 128 = j - 0 := by omega
    rw [e1, e2]
    rfl

/-- The running sum of the values' gradient. -/
theorem outD_10 (t : Fin 2048) (j : Fin 256) :
    (out0_D_10 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 (ix3 0 t j) : EReal)
      = ((dvB A b p (i 2) (j / 128) t (j % 128) : ℝ) : EReal) := by
  unfold out0_D_10
  rw [View.read_writes_junk_eq_canon]
  unfold kernelRun0_D
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  rw [canon3]
  split
  next h =>
    refine (dv_head1 (reads1 hx _ _ (ld_k1 (canon_keys hx _ _ _ _ _ _ _ _ _ _ _ _) _) (ld_v1 (canon_vals hx inb_S2048x256_S2048x256_0_0 inb_S1x2048x256_S1x2048x256_0_0_0) inb_S2048x256_S2048x128_0_128) _ (row_off _ (i 2).isLt) _ _ _ _ _ _ inb_S1x256x128_S1x256x128_0_0_0) _ _ _ 0 ?_).trans ?_
    · pointwise
      rw [canon3, dif_neg (by simp only; omega), canon3_whole, pay19_zero]
    rw [zero_add]
    have e1 : (j : ℕ) / 128 = 1 := by omega
    have e2 : (j : ℕ) % 128 = j - 128 := by omega
    rw [e1, e2]
    rfl
  next h =>
    rw [canon3, dif_pos (by omega)]
    refine (dv_head0 (reads0 hx _ _ (ld_k0 (canon_keys hx _ _ _ _ _ _ _ _ _ _ _ _) _) (ld_v0 (canon_vals hx inb_S2048x256_S2048x256_0_0 inb_S1x2048x256_S1x2048x256_0_0_0) inb_S2048x256_S2048x128_0_0) _ (row_off _ (i 2).isLt) _ _ _ _ _ _ inb_S1x256x128_S1x256x128_0_0_0) _ _ _ 0 ?_).trans ?_
    · pointwise
      rw [canon3_whole, pay19_zero]
    rw [zero_add]
    have e1 : (j : ℕ) / 128 = 0 := by omega
    have e2 : (j : ℕ) % 128 = j - 0 := by omega
    rw [e1, e2]
    rfl

/-- The running sum of the rotated keys' gradient. -/
theorem soutD_2 (hh : Fin 2) (t : Fin 2048) (l : Fin 128) :
    (sout0_D_2 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 (ix3 hh t l) : EReal)
      = ((dkB A b p (i 2) hh t l : ℝ) : EReal) := by
  unfold sout0_D_2
  rw [View.read_writes_junk_eq_canon]
  unfold kernelRun0_D
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  rw [canon3]
  split
  next h =>
    obtain rfl : hh = 1 := Fin.ext (by show (hh : ℕ) = 1; omega)
    refine (dk_head1 (reads1 hx _ _ (ld_k1 (canon_keys hx _ _ _ _ _ _ _ _ _ _ _ _) _) (ld_v1 (canon_vals hx _ _) _) _ (row_off _ (i 2).isLt) _ _ _ _ _ _ _) _ _ _ 0 ?_).trans ?_
    · pointwise
      rw [canon3, dif_neg (by simp), canon3_whole, pay18_zero]
    rw [zero_add]
    rfl
  next h =>
    obtain rfl : hh = 0 := Fin.ext (by show (hh : ℕ) = 0; omega)
    rw [canon3, dif_pos (by omega)]
    refine (dk_head0 (reads0 hx _ _ (ld_k0 (canon_keys hx _ _ _ _ _ _ _ _ _ _ _ _) _) (ld_v0 (canon_vals hx _ _) _) _ (row_off _ (i 2).isLt) _ _ _ _ _ _ _) _ _ _ 0 ?_).trans ?_
    · pointwise
      rw [canon3_whole, pay18_zero]
    rw [zero_add]
    rfl

/-- The keys the pair keeps. -/
theorem soutD_0 : Keys A b p (sout0_D_0 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8) := by
  unfold sout0_D_0
  rw [View.read_writes_junk_eq_canon]
  unfold kernelRun0_D
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  exact canon_keys hx _ _ _ _ _ _ _ _ _ _ _ _

/-- The values the pair keeps. -/
theorem soutD_1 : Vals A b p (sout0_D_1 (F := Ideal) c i a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8) := by
  unfold sout0_D_1
  rw [View.read_writes_junk_eq_canon]
  unfold kernelRun0_D
  dsimp only
  sl_unfold_words
  simp (config := {zeta := true}) only [View.readAt_eq_ld, readCov_ld, h3.read_unread, h4.read_unread, h5.read_unread, h6.read_unread, h7.read_unread, h8.read_unread, h9.read_unread, h10.read_unread, h11.read_unread, h12.read_unread, h13.read_unread, h14.read_unread, h15.read_unread, h16.read_unread, h17.read_unread]
  exact canon_vals hx _ _

end Cert.AttnBwd.Ker

end
-- ==== Proof.KernelRun.lean ====
/- What each point of the grid leaves: its own gradient of the queries, and the running sums of the others. -/
module

public import proofs.«01_k».proof.Proof.KernelBlocks
public import proofs.«01_k».proof.Proof.Algebra
public import proofs.«01_k».proof.Proof.CaseA
public import proofs.«01_k».proof.Proof.CaseB
public import proofs.«01_k».proof.Proof.CaseC
public import proofs.«01_k».proof.Proof.CaseD

@[expose] public section

set_option maxRecDepth 16384

noncomputable section

namespace Cert.AttnBwd.Ker

open Idealize.ShloMosaic Idealize.ShloMosaic.TcCoe
open Cert.KernelIdeal Cert.KernelIdeal.Gen Cert.AttnBwd

/-- What the run holds after row block `i` of pair `p`. -/
structure State (A : Args) (b p i : ℕ) (o9 : FVec Ideal S1x256x256 .f32) (o10 : FVec Ideal S1x2048x256 .f32)
    (o11 : FVec Ideal S1x2048x128 .f32) (s0 : FVec Ideal S2x2048x128 .bf16) (s1 : FVec Ideal S2048x256 .bf16)
    (s2 : FVec Ideal S2x2048x128 .f32) : Prop where
  dq : ∀ (r j : Fin 256), (o9 (ix3 0 r j) : EReal) = (dqB A b p i (j / 128) r (j % 128) : EReal)
  dkv : ∀ (t : Fin 2048) (j : Fin 256), (o10 (ix3 0 t j) : EReal)
    = ((dvS A b p (i + 1) t j + (if i = 7 then (if 64 ≤ j.val % 128 then 0 else dkS A b p 8 (j / 128) t (j % 128)) else 0) : ℝ) : EReal)
  dkr : ∀ (t : Fin 2048) (l : Fin 128), (o11 (ix3 0 t l) : EReal) = (drS A b (if i = 7 then p + 1 else p) t l : EReal)
  keys : Keys A b p s0
  vals : Vals A b p s1
  dk : ∀ (hh : Fin 2) (t : Fin 2048) (l : Fin 128), (s2 (ix3 hh t l) : EReal) = (dkS A b p (i + 1) hh t l : EReal)

variable (m : (ℓ : Loc nD τ sig) → ℓ.2.ty.Contents (Elt Ideal)) (c : Dev nD) {A : Args} (H : Args.At m c A)
include H

/-- The point's blocks, at the point's own number of the row block. -/
theorem blocks' (t : Fin cfg0.N) (b p i : ℕ) (hb : t.val / 32 = b) (hp : t.val / 8 % 4 = p) (hi : t.val % 8 = i) :
    In A b p (grid0.coords t 2) (iblk m c 0 t) (iblk m c 1 t) (iblk m c 2 t) (iblk m c 3 t) (iblk m c 4 t)
      (iblk m c 5 t) (iblk m c 6 t) (iblk m c 7 t) (iblk m c 8 t) := by
  have h := blocks m c H t
  rw [hb, hp, ← coords_2] at h
  exact h

/-- What is held after point `t`. -/
abbrev HoldsAt (A : Args) (b p i : ℕ) (n : ℕ) (hn : n < cfg0.N) : Prop :=
  State A b p i (outsAt0 m c n hn).1 (outsAt0 m c n hn).2.1 (outsAt0 m c n hn).2.2.1 (outsAt0 m c n hn).2.2.2.1
    (outsAt0 m c n hn).2.2.2.2.1 (outsAt0 m c n hn).2.2.2.2.2

set_option maxHeartbeats 2000000 in
theorem state_A (t : Fin cfg0.N) (b : ℕ) (hb : t.val / 32 = b) (h0 : t.val % 8 = 0) (h1 : t.val % 32 = 0) (h2 : ¬t.val % 8 = 7) :
    HoldsAt m c A b 0 0 t.val t.isLt := by
  have hx := blocks' m c H t b 0 0 hb (by omega) h0
  have hi : ((grid0.coords t 2 : Fin _) : ℕ) = 0 := (coords_2 t).trans h0
  unfold HoldsAt
  rw [outsAt0_A m c t h0 h1 h2]
  dsimp only
  refine ⟨fun r j => ?_, fun t j => ?_, fun t l => ?_, ?_, ?_, fun hh t l => ?_⟩
  · refine (outA_9 (hx := hx) (r := r) (j := j) ..).trans ?_
    rw [hi]
  · refine (outA_10 (hx := hx) (t := t) (j := j) ..).trans ?_
    rw [hi, if_neg (by omega), add_zero, dvS, Finset.sum_range_one]
  · refine (outA_11 (hx := hx) (t := t) (l := l) ..).trans ?_
    rw [if_neg (by omega), drS, Finset.sum_range_zero]
  · intro hh k l
    exact soutA_0 (hx := hx) ..
  · intro k j
    exact soutA_1 (hx := hx) ..
  · refine (soutA_2 (hx := hx) (hh := hh) (t := t) (l := l) ..).trans ?_
    rw [hi, dkS, Finset.sum_range_one]

set_option maxHeartbeats 2000000 in
theorem state_D (t : Fin cfg0.N) (b p : ℕ) (hb : t.val / 32 = b) (hp : t.val / 8 % 4 = p + 1) (h0 : t.val % 8 = 0)
    (h1 : ¬t.val % 32 = 0) (h2 : ¬t.val % 8 = 7)
    (hs : HoldsAt m c A b p 7 (t.val - 1) (Nat.lt_of_le_of_lt (Nat.sub_le _ _) t.isLt)) :
    HoldsAt m c A b (p + 1) 0 t.val t.isLt := by
  have hx := blocks' m c H t b (p + 1) 0 hb hp h0
  have hi : ((grid0.coords t 2 : Fin _) : ℕ) = 0 := (coords_2 t).trans h0
  unfold HoldsAt
  rw [outsAt0_D m c t h0 h1 h2]
  dsimp only
  refine ⟨fun r j => ?_, fun t j => ?_, fun t l => ?_, ?_, ?_, fun hh t l => ?_⟩
  · refine (outD_9 (hx := hx) (r := r) (j := j) ..).trans ?_
    rw [hi]
  · refine (outD_10 (hx := hx) (t := t) (j := j) ..).trans ?_
    rw [hi, if_neg (by omega), add_zero, dvS, Finset.sum_range_one]
  · refine (hs.dkr t l).trans ?_
    rw [if_pos rfl, if_neg (by omega)]
  · intro hh k l
    exact soutD_0 (hx := hx) ..
  · intro k j
    exact soutD_1 (hx := hx) ..
  · refine (soutD_2 (hx := hx) (hh := hh) (t := t) (l := l) ..).trans ?_
    rw [hi, dkS, Finset.sum_range_one]

set_option maxHeartbeats 2000000 in
theorem state_B (t : Fin cfg0.N) (b p i : ℕ) (hb : t.val / 32 = b) (hp : t.val / 8 % 4 = p) (hi' : t.val % 8 = i + 1)
    (h0 : ¬t.val % 8 = 0) (h1 : ¬t.val % 32 = 0) (h2 : ¬t.val % 8 = 7)
    (hs : HoldsAt m c A b p i (t.val - 1) (Nat.lt_of_le_of_lt (Nat.sub_le _ _) t.isLt)) :
    HoldsAt m c A b p (i + 1) t.val t.isLt := by
  have hx := blocks' m c H t b p (i + 1) hb hp hi'
  have hi : ((grid0.coords t 2 : Fin _) : ℕ) = i + 1 := (coords_2 t).trans hi'
  have h7 : ¬i = 7 := by omega
  have h7' : ¬i + 1 = 7 := by omega
  unfold HoldsAt
  rw [outsAt0_B m c t h0 h1 h2]
  dsimp only
  refine ⟨fun r j => ?_, fun t j => ?_, fun t l => ?_, ?_, ?_, fun hh t l => ?_⟩
  · refine (outB_9 (hx := hx) (hk := hs.keys) (hv := hs.vals) (r := r) (j := j) ..).trans ?_
    rw [hi]
  · refine (outB_10 (hx := hx) (hk := hs.keys) (hv := hs.vals) (f := fun t j => dvS A b p (i + 1) t j)
      (hf := fun t j => (hs.dkv t j).trans (by rw [if_neg h7, add_zero])) (t := t) (j := j) ..).trans ?_
    rw [hi, if_neg h7', add_zero]
    simp only [dvS]
    rw [← Finset.sum_range_succ (fun i => dvB A b p i (j.val / 128) t (j.val % 128)) (i + 1)]
  · refine (hs.dkr t l).trans ?_
    rw [if_neg h7, if_neg h7']
  · exact hs.keys
  · exact hs.vals
  · refine (soutB_2 (hx := hx) (hk := hs.keys) (hv := hs.vals) (f := fun hh t l => dkS A b p (i + 1) hh t l)
      (hf := hs.dk) (hh := hh) (t := t) (l := l) ..).trans ?_
    rw [hi]
    simp only [dkS]
    rw [← Finset.sum_range_succ (fun i => dkB A b p i hh t l) (i + 1)]

set_option maxHeartbeats 2000000 in
theorem state_C (t : Fin cfg0.N) (b p : ℕ) (hb : t.val / 32 = b) (hp : t.val / 8 % 4 = p)
    (h0 : ¬t.val % 8 = 0) (h1 : ¬t.val % 32 = 0) (h2 : t.val % 8 = 7)
    (hs : HoldsAt m c A b p 6 (t.val - 1) (Nat.lt_of_le_of_lt (Nat.sub_le _ _) t.isLt)) :
    HoldsAt m c A b p 7 t.val t.isLt := by
  have hx := blocks' m c H t b p 7 hb hp h2
  have hi : ((grid0.coords t 2 : Fin _) : ℕ) = 7 := (coords_2 t).trans h2
  have h7 : ¬(6 : ℕ) = 7 := by omega
  have hdk : ∀ hh t l : ℕ, dkS A b p 8 hh t l = dkS A b p 7 hh t l + dkB A b p 7 hh t l := fun hh t l => by
    simp only [dkS]
    rw [← Finset.sum_range_succ (fun i => dkB A b p i hh t l) 7]
  have hdv : ∀ t j : ℕ, dvS A b p 8 t j = dvS A b p 7 t j + dvB A b p 7 (j / 128) t (j % 128) := fun t j => by
    simp only [dvS]
    rw [← Finset.sum_range_succ (fun i => dvB A b p i (j / 128) t (j % 128)) 7]
  unfold HoldsAt
  rw [outsAt0_C m c t h0 h1 h2]
  dsimp only
  refine ⟨fun r j => ?_, fun t j => ?_, fun t l => ?_, ?_, ?_, fun hh t l => ?_⟩
  · refine (outC_9 (hx := hx) (hk := hs.keys) (hv := hs.vals) (r := r) (j := j) ..).trans ?_
    rw [hi]
  · refine (outC_10 (hx := hx) (hk := hs.keys) (hv := hs.vals) (f := fun t j => dvS A b p 7 t j)
      (hf := fun t j => (hs.dkv t j).trans (by rw [if_neg h7, add_zero])) (g := fun hh t l => dkS A b p 7 hh t l)
      (hg := hs.dk) (t := t) (j := j) ..).trans ?_
    rw [hi, if_pos rfl, hdk, hdv]
  · refine (outC_11 (hx := hx) (hk := hs.keys) (hv := hs.vals) (f := fun t l => drS A b p t l)
      (hf := fun t l => (hs.dkr t l).trans (by rw [if_neg h7])) (g := fun hh t l => dkS A b p 7 hh t l)
      (hg := hs.dk) (t := t) (l := l) ..).trans ?_
    rw [hi, if_pos rfl, drS, drS, Finset.sum_range_succ, drH, drH, ← add_assoc]
    simp only [hdk]
  · exact hs.keys
  · exact hs.vals
  · refine (soutC_2 (hx := hx) (hk := hs.keys) (hv := hs.vals) (f := fun hh t l => dkS A b p 7 hh t l)
      (hf := hs.dk) (hh := hh) (t := t) (l := l) ..).trans ?_
    rw [hi, hdk]

/-- The sums held after every point. -/
theorem state (n : ℕ) (hn : n < cfg0.N) : HoldsAt m c A (n / 32) (n / 8 % 4) (n % 8) n hn := by
  induction n with
  | zero => exact state_A m c H ⟨0, hn⟩ 0 (Nat.zero_div _) (Nat.zero_mod _) (Nat.zero_mod _) (by simp)
  | succ n ih =>
    have hs := ih (Nat.lt_of_succ_lt hn)
    have hN : n + 1 < 64 := N_64 ⟨n + 1, hn⟩
    by_cases h0 : (n + 1) % 8 = 0
    · by_cases h1 : (n + 1) % 32 = 0
      · have h := state_A m c H ⟨n + 1, hn⟩ ((n + 1) / 32) rfl h0 h1 (by simp only; omega)
        rw [show (n + 1) / 8 % 4 = 0 by omega, h0]
        exact h
      · rw [show n / 32 = (n + 1) / 32 by omega, show n % 8 = 7 by omega] at hs
        have h := state_D m c H ⟨n + 1, hn⟩ ((n + 1) / 32) (n / 8 % 4) rfl (by simp only; omega) h0 h1 (by simp only; omega) hs
        rw [show (n + 1) / 8 % 4 = n / 8 % 4 + 1 by omega, h0]
        exact h
    · by_cases h2 : (n + 1) % 8 = 7
      · rw [show n / 32 = (n + 1) / 32 by omega, show n % 8 = 6 by omega, show n / 8 % 4 = (n + 1) / 8 % 4 by omega] at hs
        have h := state_C m c H ⟨n + 1, hn⟩ ((n + 1) / 32) ((n + 1) / 8 % 4) rfl rfl h0 (by simp only; omega) h2 hs
        rw [h2]
        exact h
      · rw [show n / 32 = (n + 1) / 32 by omega, show n / 8 % 4 = (n + 1) / 8 % 4 by omega] at hs
        have h := state_B m c H ⟨n + 1, hn⟩ ((n + 1) / 32) ((n + 1) / 8 % 4) (n % 8) rfl rfl (by simp only; omega) h0 (by simp only; omega) h2 hs
        rw [show (n + 1) % 8 = n % 8 + 1 by omega]
        exact h

end Cert.AttnBwd.Ker

end
-- ==== Proof.KernelFinal.lean ====
/- The kernel's three result arrays after its run: the gradient of the attention. -/
module

public import proofs.«01_k».proof.Proof.KernelRun
public import proofs.«01_k».proof.Proof.Gen.KernelIdeal.Value

@[expose] public section

set_option maxRecDepth 16384

noncomputable section

namespace Cert.AttnBwd.Ker

open Idealize.ShloMosaic Idealize.ShloMosaic.TcCoe
open Cert.KernelIdeal Cert.KernelIdeal.Gen Cert.AttnBwd

/-- The gradients as arrays. -/
def dqArr (A : Args) : FVec Ideal S2x2048x1024 .f32 := fun i => (A.DQ (i 0 : ℕ) (i 1 : ℕ) (i 2 : ℕ) : EReal)
def dkvArr (A : Args) : FVec Ideal S2x2048x1024 .f32 := fun i => (A.DKV (i 0 : ℕ) (i 1 : ℕ) (i 2 : ℕ) : EReal)
def dkrArr (A : Args) : FVec Ideal S2x2048x128 .f32 := fun i => (A.DKR (i 0 : ℕ) (i 1 : ℕ) (i 2 : ℕ) : EReal)

variable (m : (ℓ : Loc nD τ sig) → ℓ.2.ty.Contents (Elt Ideal)) (c : Dev nD) {A : Args} (H : Args.At m c A)
include H

theorem flushed_9 (t : Fin cfg0.N) :
    (dats m 0 c).flushed 9 t = ((cfg0.win 9).blk t).view.read (Elt Ideal) (dqArr A) := by
  refine (Cert.KernelIdeal.Value.flushed9 m c t).trans ?_
  funext y
  obtain ⟨z, r, j, rfl⟩ : ∃ (z : Fin 1) (r j : Fin 256), y = ix3 z r j := ⟨y 0, y 1, y 2, eq_ix3 y⟩
  obtain rfl : z = 0 := Subsingleton.elim _ _
  refine Eq.trans ?_ (read_9 t (dqArr A) r j).symm
  refine ((state m c H t.val t.isLt).dq r j).trans ?_
  show ((_ : ℝ) : EReal) = ((_ : ℝ) : EReal)
  rw [dqB_eq A _ _ _ _ (by omega) _ _ (Nat.mod_lt _ (by norm_num))]
  show ((A.DQ _ _ _ : ℝ) : EReal) = ((A.DQ _ _ _ : ℝ) : EReal)
  congr 2
  show _ = 256 * (t.val / 8 % 4) + (j : ℕ)
  omega

theorem flushed_10 (t : Fin cfg0.N) (ht : t.val % 8 = 7) :
    (dats m 0 c).flushed 10 t = ((cfg0.win 10).blk t).view.read (Elt Ideal) (dkvArr A) := by
  refine (Cert.KernelIdeal.Value.flushed10 m c t).trans ?_
  funext y
  obtain ⟨z, r, j, rfl⟩ : ∃ (z : Fin 1) (r : Fin 2048) (j : Fin 256), y = ix3 z r j := ⟨y 0, y 1, y 2, eq_ix3 y⟩
  obtain rfl : z = 0 := Subsingleton.elim _ _
  refine Eq.trans ?_ (read_10 t (dkvArr A) r j).symm
  have e := (state m c H t.val t.isLt).dkv r j
  rw [ht, if_pos rfl] at e
  refine e.trans ?_
  have h := dkv_eq A (t.val / 32) (t.val / 8 % 4) (j.val / 128) (by omega) r (j.val % 128) (Nat.mod_lt _ (by norm_num))
  rw [Nat.div_add_mod] at h
  rw [h]
  rfl

theorem flushed_11 (t : Fin cfg0.N) (ht : t.val % 32 = 31) :
    (dats m 0 c).flushed 11 t = ((cfg0.win 11).blk t).view.read (Elt Ideal) (dkrArr A) := by
  refine (Cert.KernelIdeal.Value.flushed11 m c t).trans ?_
  funext y
  obtain ⟨z, r, j, rfl⟩ : ∃ (z : Fin 1) (r : Fin 2048) (j : Fin 128), y = ix3 z r j := ⟨y 0, y 1, y 2, eq_ix3 y⟩
  obtain rfl : z = 0 := Subsingleton.elim _ _
  refine Eq.trans ?_ (read_11 t (dkrArr A) r j).symm
  have e := (state m c H t.val t.isLt).dkr r j
  rw [show t.val % 8 = 7 by omega, if_pos rfl, show t.val / 8 % 4 = 3 by omega, dkr_eq _ _ _ _ j.isLt] at e
  exact e

/-- The array of window 9. -/
theorem final_9 : (dats m 0 c).arrAt 9 cfg0.N = dqArr A :=
  (dats m 0 c).arrAt_eq_of_cover 9 (dqArr A) (fun t _ => flushed_9 m c H t) fun i => by
    have b0 : (i 0 : ℕ) < 2 := (i 0).isLt
    have b1 : (i 1 : ℕ) < 2048 := (i 1).isLt
    have b2 : (i 2 : ℕ) < 1024 := (i 2).isLt
    obtain ⟨t, ht⟩ : ∃ t : Fin cfg0.N, t.val = (i 0 : ℕ) * 32 + (i 2 : ℕ) / 256 * 8 + (i 1 : ℕ) / 256 := ⟨⟨(i 0 : ℕ) * 32 + (i 2 : ℕ) / 256 * 8 + (i 1 : ℕ) / 256, show _ < grid0.N by rw [N_0]; omega⟩, rfl⟩
    obtain ⟨h0, h1, h2⟩ := idx_9 t
    refine ⟨t, flush0_9 t, ?_⟩
    show i ∈ ((View.whole main_v106_0).slice (win0_9.rect t)).set
    rw [View.set_slice_whole, Rect.mem_set_unit]
    intro a
    match a with
    | ⟨0, _⟩ =>
      show win0_9.index t 0 * 1 ≤ (i 0 : ℕ) ∧ (i 0 : ℕ) < win0_9.index t 0 * 1 + 1
      rw [h0]
      omega
    | ⟨1, _⟩ =>
      show win0_9.index t 1 * 256 ≤ (i 1 : ℕ) ∧ (i 1 : ℕ) < win0_9.index t 1 * 256 + 256
      rw [h1]
      omega
    | ⟨2, _⟩ =>
      show win0_9.index t 2 * 256 ≤ (i 2 : ℕ) ∧ (i 2 : ℕ) < win0_9.index t 2 * 256 + 256
      rw [h2]
      omega

/-- The array of window 10. -/
theorem final_10 : (dats m 0 c).arrAt 10 cfg0.N = dkvArr A :=
  (dats m 0 c).arrAt_eq_of_cover 10 (dkvArr A) (fun t hf => flushed_10 m c H t ((flush0_10 t).mp hf)) fun i => by
    have b0 : (i 0 : ℕ) < 2 := (i 0).isLt
    have b1 : (i 1 : ℕ) < 2048 := (i 1).isLt
    have b2 : (i 2 : ℕ) < 1024 := (i 2).isLt
    obtain ⟨t, ht⟩ : ∃ t : Fin cfg0.N, t.val = (i 0 : ℕ) * 32 + (i 2 : ℕ) / 256 * 8 + 7 := ⟨⟨(i 0 : ℕ) * 32 + (i 2 : ℕ) / 256 * 8 + 7, show _ < grid0.N by rw [N_0]; omega⟩, rfl⟩
    obtain ⟨h0, h1, h2⟩ := idx_10 t
    refine ⟨t, (flush0_10 t).mpr (by omega), ?_⟩
    show i ∈ ((View.whole main_v106_1).slice (win0_10.rect t)).set
    rw [View.set_slice_whole, Rect.mem_set_unit]
    intro a
    match a with
    | ⟨0, _⟩ =>
      show win0_10.index t 0 * 1 ≤ (i 0 : ℕ) ∧ (i 0 : ℕ) < win0_10.index t 0 * 1 + 1
      rw [h0]
      omega
    | ⟨1, _⟩ =>
      show win0_10.index t 1 * 2048 ≤ (i 1 : ℕ) ∧ (i 1 : ℕ) < win0_10.index t 1 * 2048 + 2048
      rw [h1]
      omega
    | ⟨2, _⟩ =>
      show win0_10.index t 2 * 256 ≤ (i 2 : ℕ) ∧ (i 2 : ℕ) < win0_10.index t 2 * 256 + 256
      rw [h2]
      omega

/-- The array of window 11. -/
theorem final_11 : (dats m 0 c).arrAt 11 cfg0.N = dkrArr A :=
  (dats m 0 c).arrAt_eq_of_cover 11 (dkrArr A) (fun t hf => flushed_11 m c H t ((flush0_11 t).mp hf)) fun i => by
    have b0 : (i 0 : ℕ) < 2 := (i 0).isLt
    have b1 : (i 1 : ℕ) < 2048 := (i 1).isLt
    have b2 : (i 2 : ℕ) < 128 := (i 2).isLt
    obtain ⟨t, ht⟩ : ∃ t : Fin cfg0.N, t.val = (i 0 : ℕ) * 32 + 31 := ⟨⟨(i 0 : ℕ) * 32 + 31, show _ < grid0.N by rw [N_0]; omega⟩, rfl⟩
    obtain ⟨h0, h1, h2⟩ := idx_11 t
    refine ⟨t, (flush0_11 t).mpr (by omega), ?_⟩
    show i ∈ ((View.whole main_v106_2).slice (win0_11.rect t)).set
    rw [View.set_slice_whole, Rect.mem_set_unit]
    intro a
    match a with
    | ⟨0, _⟩ =>
      show win0_11.index t 0 * 1 ≤ (i 0 : ℕ) ∧ (i 0 : ℕ) < win0_11.index t 0 * 1 + 1
      rw [h0]
      omega
    | ⟨1, _⟩ =>
      show win0_11.index t 1 * 2048 ≤ (i 1 : ℕ) ∧ (i 1 : ℕ) < win0_11.index t 1 * 2048 + 2048
      rw [h1]
      omega
    | ⟨2, _⟩ =>
      show win0_11.index t 2 * 128 ≤ (i 2 : ℕ) ∧ (i 2 : ℕ) < win0_11.index t 2 * 128 + 128
      rw [h2]
      omega

end Cert.AttnBwd.Ker

end
-- ==== Proof.Product.lean ====
/- Products of matrices whose contracted axis is summed a block at a time: the sums, over the naturals. -/
module

public import proofs.«01_k».proof.Proof.Point

@[expose] public section

set_option maxRecDepth 16384

noncomputable section

namespace Cert.Product

open Idealize.ShloMosaic Idealize.ShloMosaic.TcCoe

/-- A matrix's entries, read by natural numbers; zero outside the matrix. -/
def entry {a b : ℕ} (f : (⟨2, ![a, b]⟩ : Shape).Idx → EReal) (i j : ℕ) : EReal :=
  if h : i < a ∧ j < b then f (ix2 ⟨i, h.1⟩ ⟨j, h.2⟩) else 0

theorem entry_of_lt {a b : ℕ} (f : (⟨2, ![a, b]⟩ : Shape).Idx → EReal) {i j : ℕ} (hi : i < a) (hj : j < b) :
    f (ix2 ⟨i, hi⟩ ⟨j, hj⟩) = entry f i j := by
  unfold entry
  rw [dif_pos ⟨hi, hj⟩]

theorem entry_fin {a b : ℕ} (f : (⟨2, ![a, b]⟩ : Shape).Idx → EReal) (i : Fin a) (j : Fin b) :
    f (ix2 i j) = entry f i j := entry_of_lt f i.isLt j.isLt

/-- The sum over the first blocks and the sum over the next one. -/
theorem sum_next (f : ℕ → EReal) (k n : ℕ) :
    ∑ l ∈ Finset.range (k * n), f l + ∑ l : Fin k, f (k * n + l) = ∑ l ∈ Finset.range (k * (n + 1)), f l := by
  rw [Nat.mul_succ, Finset.sum_range_add, Finset.sum_range fun l => f (k * n + l)]

/-- An entry read through an index given by its two coordinates. -/
theorem entry_at {a b : ℕ} (f : (⟨2, ![a, b]⟩ : Shape).Idx → EReal) (e : (⟨2, ![a, b]⟩ : Shape).Idx) {i j : ℕ}
    (h0 : (e 0 : ℕ) = i) (h1 : (e 1 : ℕ) = j) : f e = entry f i j := by
  rw [eq_ix2 e]
  refine (entry_fin f (e 0) (e 1)).trans ?_
  rw [h0, h1]

/-- Inside a run of points the next point is of the same run. -/
theorem same_run {J n : ℕ} (h : (n + 1) % J ≠ 0) : n / J = (n + 1) / J ∧ n % J + 1 = (n + 1) % J := by
  have h0 := Nat.succ_div (a := n) (b := J)
  rw [if_neg fun d => h (Nat.mod_eq_zero_of_dvd d)] at h0
  have h1 := Nat.div_add_mod n J
  have h2 := Nat.div_add_mod (n + 1) J
  rw [h0, Nat.add_zero] at h2
  rw [h0, Nat.add_zero]
  exact ⟨rfl, by omega⟩

/-- A quantity that starts, at the first of every `J` points, from a base and the sum over the first block, and gains
    at every other point the sum over the next block, is the base and the sum over all blocks so far. -/
theorem runs {N : ℕ} (J k : ℕ) (f : (n : ℕ) → n < N → EReal) (b : ℕ → EReal) (g : ℕ → ℕ → EReal)
    (h0 : ∀ t : Fin N, t.val % J = 0 → f t.val t.isLt = b (t.val / J) + ∑ l : Fin k, g (t.val / J) (k * (t.val % J) + l))
    (hs : ∀ t : Fin N, ¬t.val % J = 0 → f t.val t.isLt
      = f (t.val - 1) (Nat.lt_of_le_of_lt (Nat.sub_le _ _) t.isLt) + ∑ l : Fin k, g (t.val / J) (k * (t.val % J) + l)) :
    ∀ (n : ℕ) (hn : n < N), f n hn = b (n / J) + ∑ l ∈ Finset.range (k * (n % J + 1)), g (n / J) l := by
  have first : ∀ (n : ℕ) (hn : n < N), n % J = 0 → f n hn = b (n / J) + ∑ l ∈ Finset.range (k * (n % J + 1)), g (n / J) l := by
    intro n hn h
    rw [h0 ⟨n, hn⟩ h, ← sum_next]
    simp [h]
  intro n
  induction n with
  | zero => exact fun hn => first 0 hn (Nat.zero_mod J)
  | succ n ih =>
    intro hn
    by_cases h : (n + 1) % J = 0
    · exact first (n + 1) hn h
    · refine (hs ⟨n + 1, hn⟩ h).trans ?_
      show f n _ + _ = _
      obtain ⟨e1, e2⟩ := same_run h
      rw [ih, e1, e2, add_assoc, sum_next]

end Cert.Product

end
-- ==== Proof.UpDb.lean ====
/- The gradient of the weights of a projection up, four blocks of rows summed in the scratch. -/
module

public import proofs.«01_k».proof.Defs
public import proofs.«01_k».proof.Proof.Product
public import Idealize.ShloMosaic.Lib.Pipeline.ValueKit
public import proofs.«01_k».proof.Proof.Gen.Kernel2Ideal.Value
public import proofs.«01_k».proof.Proof.Gen.Reference2Ideal.Run

@[expose] public section

set_option maxRecDepth 16384

noncomputable section

namespace Cert.UpDb

open Idealize.ShloMosaic Idealize.ShloMosaic.TcCoe Idealize.ShloMosaic.Tactic
open Cert.Kernel2Ideal Cert.Kernel2Ideal.Gen Cert.Product

theorem idx_0 : ∀ t : Fin cfg0.N, win0_0.index t 0 = t.val % 4 ∧ win0_0.index t 1 = 0 :=
  (by decide +kernel : ∀ t : Fin grid0.N, _)

theorem idx_1 : ∀ t : Fin cfg0.N, win0_1.index t 0 = t.val % 4 ∧ win0_1.index t 1 = t.val / 4 :=
  (by decide +kernel : ∀ t : Fin grid0.N, _)

theorem idx_2 : ∀ t : Fin cfg0.N, win0_2.index t 0 = 0 ∧ win0_2.index t 1 = t.val / 4 :=
  (by decide +kernel : ∀ t : Fin grid0.N, _)

/-- The product of two blocks: the first transposed. -/
theorem pay_first (x : FVec Ideal S1024x1024 .f32) (y : FVec Ideal S1024x1408 .f32) (i : Fin 1024) (j : Fin 1408) :
    (k0_pay2 (F := Ideal) x y (ix2 i j) : EReal) = ∑ l : Fin 1024, (x (ix2 l i) : EReal) * y (ix2 l j) := by
  unfold k0_pay2 k0_pay1
  pointwise

theorem pay_next (x : FVec Ideal S1024x1024 .f32) (y : FVec Ideal S1024x1408 .f32) (z : FVec Ideal S1024x1408 .f32) (i : Fin 1024) (j : Fin 1408) :
    (k0_pay3 (F := Ideal) x y z (ix2 i j) : EReal) = z (ix2 i j) + ∑ l : Fin 1024, (x (ix2 l i) : EReal) * y (ix2 l j) := by
  unfold k0_pay3 k0_pay1
  pointwise

theorem pay_out (z : FVec Ideal S1024x1408 .f32) (i : Fin 1024) (j : Fin 1408) :
    (k0_pay4 (F := Ideal) z (ix2 i j) : EReal) = z (ix2 i j) := by
  unfold k0_pay4
  pointwise

variable (m : (ℓ : Loc nD τ sig) → ℓ.2.ty.Contents (Elt Ideal)) (c : Dev nD)

/-- The two factors' entries. -/
def fa : ℕ → ℕ → EReal := entry (a := 4096) (b := 1024) (m ((c : Thread nD τ).loc main_arg0))
def fb : ℕ → ℕ → EReal := entry (a := 4096) (b := 2816) (m ((c : Thread nD τ).loc main_arg1))

theorem iblk_0 (t : Fin cfg0.N) (l : Fin 1024) (i : Fin 1024) :
    (iblk m c 0 t (ix2 l i) : EReal) = fa m c (1024 * (t.val % 4) + l) i := by
  obtain ⟨h0, h1⟩ := idx_0 t
  show (((cfg0.win 0).blk t).view.read (Elt Ideal) (V m c main_arg0) (ix2 l i) : EReal) = _
  rw [V_main_arg0 m c, View.read_apply]
  refine entry_at (a := 4096) (b := 1024) (m ((c : Thread nD τ).loc main_arg0)) _ ?_ ?_
  · show win0_0.index t 0 * 1024 + 1 * (l : ℕ) = _
    omega
  · show win0_0.index t 1 * 1024 + 1 * (i : ℕ) = _
    omega

theorem iblk_1 (t : Fin cfg0.N) (l : Fin 1024) (j : Fin 1408) :
    (iblk m c 1 t (ix2 l j) : EReal) = fb m c (1024 * (t.val % 4) + l) (1408 * (t.val / 4) + j) := by
  obtain ⟨h0, h1⟩ := idx_1 t
  show (((cfg0.win 1).blk t).view.read (Elt Ideal) (V m c main_arg1) (ix2 l j) : EReal) = _
  rw [V_main_arg1 m c, View.read_apply]
  refine entry_at (a := 4096) (b := 2816) (m ((c : Thread nD τ).loc main_arg1)) _ ?_ ?_
  · show win0_1.index t 0 * 1024 + 1 * (l : ℕ) = _
    omega
  · show win0_1.index t 1 * 1408 + 1 * (j : ℕ) = _
    omega

/-- What the scratch holds after a point: the sum over the rows read so far. -/
theorem sums (i : Fin 1024) (j : Fin 1408) (n : ℕ) (hn : n < cfg0.N) : ((outsAt0 m c n hn).2 (ix2 i j) : EReal)
    = 0 + ∑ l ∈ Finset.range (1024 * (n % 4 + 1)), fa m c l i * fb m c l (1408 * (n / 4) + j) := by
  refine runs 4 1024 (fun n hn => ((outsAt0 m c n hn).2 (ix2 i j) : EReal)) (fun _ => 0)
    (fun q l => fa m c l i * fb m c l (1408 * q + j)) (fun t h0 => ?_) (fun t h0 => ?_) n hn
  · rw [outsAt0_A m c t h0 (by omega) (by omega)]
    dsimp only
    frame_out
    refine (pay_first _ _ i j).trans ?_
    rw [zero_add]
    simp only [iblk_0, iblk_1]
  · have e := pay_next (iblk m c 0 t) (iblk m c 1 t) (outsAt0 m c (t.val - 1) (Nat.lt_of_le_of_lt (Nat.sub_le _ _) t.isLt)).2 i j
    simp only [iblk_0, iblk_1] at e
    refine Eq.trans ?_ e
    by_cases h2 : t.val % 4 = 3
    · rw [outsAt0_C m c t h0 (by omega) h2]
      dsimp only
      frame_out
      rw [Memref.IsWhole.read_unread (Memref.isWhole_whole cc0_scratch0)]
    · rw [outsAt0_B m c t h0 (by omega) h2]
      dsimp only
      frame_out
      rw [Memref.IsWhole.read_unread (Memref.isWhole_whole cc0_scratch0)]

/-- The product as an array. -/
def out : FVec Ideal S1024x2816 .bf16 := fun i => (∑ l ∈ Finset.range 4096, fa m c l (i 0) * fb m c l (i 1) : EReal)

/-- At the last point of a run the output is the sum the scratch holds. -/
theorem flushed_2 (t : Fin cfg0.N) (h2 : t.val % 4 = 3) :
    (dats m 0 c).flushed 2 t = ((cfg0.win 2).blk t).view.read (Elt Ideal) (out m c) := by
  refine (Cert.Kernel2Ideal.Value.flushed2 m c t).trans ?_
  funext y
  obtain ⟨i, j, rfl⟩ : ∃ (i : Fin 1024) (j : Fin 1408), y = ix2 i j := ⟨y 0, y 1, eq_ix2 y⟩
  have e := sums m c i j t.val t.isLt
  rw [h2, zero_add] at e
  have e1 : ((outsAt0 m c t.val t.isLt).1 (ix2 i j) : EReal) = (outsAt0 m c t.val t.isLt).2 (ix2 i j) := by
    rw [outsAt0_C m c t (by omega) (by omega) h2]
    dsimp only
    frame_out
    exact pay_out _ i j
  refine (e1.trans e).trans ?_
  obtain ⟨h0, h1⟩ := idx_2 t
  rw [View.read_apply]
  show _ = ∑ l ∈ Finset.range 4096, fa m c l (win0_2.index t 0 * 1024 + 1 * (i : ℕ)) * fb m c l (win0_2.index t 1 * 1408 + 1 * (j : ℕ))
  rw [h0, h1, show 0 * 1024 + 1 * (i : ℕ) = i by omega, show t.val / 4 * 1408 + 1 * (j : ℕ) = 1408 * (t.val / 4) + j by omega]

theorem final : (dats m 0 c).arrAt 2 cfg0.N = out m c :=
  (dats m 0 c).arrAt_eq_of_cover 2 (out m c) (fun t hf => flushed_2 m c t ((flush0_2 t).mp hf)) fun i =>
    (Cert.Kernel2Ideal.Value.covered_iff2 i).mpr ⟨Nat.zero_le _, (i 0).isLt, Nat.zero_le _, (i 1).isLt⟩

/-- The reference's product of the same two factors. -/
theorem reference_eq (a : FVec Ideal Cert.Reference2Ideal.S4096x1024 .f32) (b : FVec Ideal Cert.Reference2Ideal.S4096x2816 .f32)
    (ha : a = m ((c : Thread nD τ).loc main_arg0)) (hb : b = m ((c : Thread nD τ).loc main_arg1)) :
    truncf .bf16 (transpose Cert.Reference2Ideal.S1024x2816 [1, 0] (Host.dotGeneral Cert.Reference2Ideal.dot_S4096x2816_S4096x1024_S2816x1024_0_0_1_1_n_n none b a)
      Cert.Reference2Ideal.Gen.transposes_S2816x1024_S1024x2816_1_0) Cert.Reference2Ideal.Gen.bitsLt_bf16_f32 = out m c := by
  funext y
  obtain ⟨i, j, rfl⟩ : ∃ (i : Fin 1024) (j : Fin 2816), y = ix2 i j := ⟨y 0, y 1, eq_ix2 y⟩
  show _ = ∑ l ∈ Finset.range 4096, fa m c l i * fb m c l j
  unfold fa fb
  rw [← ha, ← hb, Finset.sum_range]
  pointwise
  refine Finset.sum_congr rfl fun l _ => ?_
  rw [mul_comm, entry_fin b, entry_fin a]

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The kernel's result is the reference's. -/
theorem algebraic : Cert.algebraic_Kernel2Ideal_Reference2Ideal := by
  intro m g m' g' _ hargs
  refine ⟨fun c => out m c, ?_, ?_⟩
  · refine (θ_run Cert.Kernel2Ideal.defs _ _).mono (fun r h c => ?_) (Cert.Kernel2Ideal.Value.run_blocks m g)
    exact ⟨(h c).1.trans (final m c), (h c).2⟩
  · refine (θ_run Cert.Reference2Ideal.defs _ _).mono (fun r h c => ?_) (Cert.Reference2Ideal.Value.run m' g')
    exact ⟨(h c).1.trans (reference_eq m c _ _ (hargs c).1 (hargs c).2), (h c).2⟩

end Cert.UpDb

end
-- ==== Proof.UpDa2.lean ====
/- The gradient of the rows through half of the projection up, two blocks of columns summed in the output beside the
   gradient through the other half. -/
module

public import proofs.«01_k».proof.Defs
public import proofs.«01_k».proof.Proof.Product
public import Idealize.ShloMosaic.Lib.Pipeline.ValueKit
public import proofs.«01_k».proof.Proof.Gen.Kernel3Ideal.Value
public import proofs.«01_k».proof.Proof.Gen.Reference3Ideal.Run

@[expose] public section

set_option maxRecDepth 16384

noncomputable section

namespace Cert.UpDa2

open Idealize.ShloMosaic Idealize.ShloMosaic.TcCoe Idealize.ShloMosaic.Tactic
open Cert.Kernel3Ideal Cert.Kernel3Ideal.Gen Cert.Product

theorem idx_0 : ∀ t : Fin cfg0.N, win0_0.index t 0 = t.val / 2 ∧ win0_0.index t 1 = t.val % 2 :=
  (by decide +kernel : ∀ t : Fin grid0.N, _)

theorem idx_1 : ∀ t : Fin cfg0.N, win0_1.index t 0 = 0 ∧ win0_1.index t 1 = t.val % 2 :=
  (by decide +kernel : ∀ t : Fin grid0.N, _)

theorem idx_2 : ∀ t : Fin cfg0.N, win0_2.index t 0 = t.val / 2 ∧ win0_2.index t 1 = 0 :=
  (by decide +kernel : ∀ t : Fin grid0.N, _)

theorem idx_3 : ∀ t : Fin cfg0.N, win0_3.index t 0 = t.val / 2 ∧ win0_3.index t 1 = 0 :=
  (by decide +kernel : ∀ t : Fin grid0.N, _)

/-- The product of two blocks, the second transposed, beside what was there. -/
theorem pay_first (x : FVec Ideal S512x1408 .f32) (y : FVec Ideal S1024x1408 .bf16) (z : FVec Ideal S512x1024 .f32) (i : Fin 512) (j : Fin 1024) :
    (k0_pay2 (F := Ideal) x y z (ix2 i j) : EReal) = z (ix2 i j) + ∑ l : Fin 1408, (x (ix2 i l) : EReal) * y (ix2 j l) := by
  rw [add_comm]
  unfold k0_pay2 k0_pay1
  pointwise

theorem pay_next (x : FVec Ideal S512x1408 .f32) (y : FVec Ideal S1024x1408 .bf16) (z : FVec Ideal S512x1024 .f32) (i : Fin 512) (j : Fin 1024) :
    (k0_pay3 (F := Ideal) x y z (ix2 i j) : EReal) = z (ix2 i j) + ∑ l : Fin 1408, (x (ix2 i l) : EReal) * y (ix2 j l) := by
  unfold k0_pay3 k0_pay1
  pointwise

variable (m : (ℓ : Loc nD τ sig) → ℓ.2.ty.Contents (Elt Ideal)) (c : Dev nD)

/-- The two factors' entries, and those of the gradient through the other half. -/
def fa : ℕ → ℕ → EReal := entry (a := 4096) (b := 2816) (m ((c : Thread nD τ).loc main_arg0))
def fb : ℕ → ℕ → EReal := entry (a := 1024) (b := 2816) (m ((c : Thread nD τ).loc main_arg1))
def fc : ℕ → ℕ → EReal := entry (a := 4096) (b := 1024) (m ((c : Thread nD τ).loc main_arg2))

theorem iblk_0 (t : Fin cfg0.N) (i : Fin 512) (l : Fin 1408) :
    (iblk m c 0 t (ix2 i l) : EReal) = fa m c (512 * (t.val / 2) + i) (1408 * (t.val % 2) + l) := by
  obtain ⟨h0, h1⟩ := idx_0 t
  show (((cfg0.win 0).blk t).view.read (Elt Ideal) (V m c main_arg0) (ix2 i l) : EReal) = _
  rw [V_main_arg0 m c, View.read_apply]
  refine entry_at (a := 4096) (b := 2816) (m ((c : Thread nD τ).loc main_arg0)) _ ?_ ?_
  · show win0_0.index t 0 * 512 + 1 * (i : ℕ) = _
    omega
  · show win0_0.index t 1 * 1408 + 1 * (l : ℕ) = _
    omega

theorem iblk_1 (t : Fin cfg0.N) (j : Fin 1024) (l : Fin 1408) :
    (iblk m c 1 t (ix2 j l) : EReal) = fb m c j (1408 * (t.val % 2) + l) := by
  obtain ⟨h0, h1⟩ := idx_1 t
  show (((cfg0.win 1).blk t).view.read (Elt Ideal) (V m c main_arg1) (ix2 j l) : EReal) = _
  rw [V_main_arg1 m c, View.read_apply]
  refine entry_at (a := 1024) (b := 2816) (m ((c : Thread nD τ).loc main_arg1)) _ ?_ ?_
  · show win0_1.index t 0 * 1024 + 1 * (j : ℕ) = _
    omega
  · show win0_1.index t 1 * 1408 + 1 * (l : ℕ) = _
    omega

theorem iblk_2 (t : Fin cfg0.N) (i : Fin 512) (j : Fin 1024) :
    (iblk m c 2 t (ix2 i j) : EReal) = fc m c (512 * (t.val / 2) + i) j := by
  obtain ⟨h0, h1⟩ := idx_2 t
  show (((cfg0.win 2).blk t).view.read (Elt Ideal) (V m c main_arg2) (ix2 i j) : EReal) = _
  rw [V_main_arg2 m c, View.read_apply]
  refine entry_at (a := 4096) (b := 1024) (m ((c : Thread nD τ).loc main_arg2)) _ ?_ ?_
  · show win0_2.index t 0 * 512 + 1 * (i : ℕ) = _
    omega
  · show win0_2.index t 1 * 1024 + 1 * (j : ℕ) = _
    omega

/-- What the output holds after a point: the sum over the columns read so far. -/
theorem sums (i : Fin 512) (j : Fin 1024) (n : ℕ) (hn : n < cfg0.N) : (outsAt0 m c n hn (ix2 i j) : EReal)
    = fc m c (512 * (n / 2) + i) j + ∑ l ∈ Finset.range (1408 * (n % 2 + 1)), fa m c (512 * (n / 2) + i) l * fb m c j l := by
  refine runs 2 1408 (fun n hn => (outsAt0 m c n hn (ix2 i j) : EReal)) (fun q => fc m c (512 * q + i) j)
    (fun q l => fa m c (512 * q + i) l * fb m c j l) (fun t h0 => ?_) (fun t h0 => ?_) n hn
  · have e := pay_first (iblk m c 0 t) (iblk m c 1 t) (iblk m c 2 t) i j
    simp only [iblk_0, iblk_1, iblk_2] at e
    refine Eq.trans ?_ e
    rw [outsAt0_A m c t h0 (by omega)]
    frame_out
  · have e := pay_next (iblk m c 0 t) (iblk m c 1 t) (outsAt0 m c (t.val - 1) (Nat.lt_of_le_of_lt (Nat.sub_le _ _) t.isLt)) i j
    simp only [iblk_0, iblk_1] at e
    refine Eq.trans ?_ e
    rw [outsAt0_B m c t h0 (by omega)]
    frame_out

/-- The result as an array. -/
def out : FVec Ideal S4096x1024 .f32 := fun i => (fc m c (i 0) (i 1) + ∑ l ∈ Finset.range 2816, fa m c (i 0) l * fb m c (i 1) l : EReal)

theorem flushed_3 (t : Fin cfg0.N) (ht : t.val % 2 = 1) :
    (dats m 0 c).flushed 3 t = ((cfg0.win 3).blk t).view.read (Elt Ideal) (out m c) := by
  refine (Cert.Kernel3Ideal.Value.flushed3 m c t).trans ?_
  funext y
  obtain ⟨i, j, rfl⟩ : ∃ (i : Fin 512) (j : Fin 1024), y = ix2 i j := ⟨y 0, y 1, eq_ix2 y⟩
  have e := sums m c i j t.val t.isLt
  rw [ht] at e
  refine e.trans ?_
  obtain ⟨h0, h1⟩ := idx_3 t
  rw [View.read_apply]
  show _ = fc m c (win0_3.index t 0 * 512 + 1 * (i : ℕ)) (win0_3.index t 1 * 1024 + 1 * (j : ℕ))
    + ∑ l ∈ Finset.range 2816, fa m c (win0_3.index t 0 * 512 + 1 * (i : ℕ)) l * fb m c (win0_3.index t 1 * 1024 + 1 * (j : ℕ)) l
  rw [h0, h1, show t.val / 2 * 512 + 1 * (i : ℕ) = 512 * (t.val / 2) + i by omega, show 0 * 1024 + 1 * (j : ℕ) = j by omega]

theorem final : (dats m 0 c).arrAt 3 cfg0.N = out m c :=
  (dats m 0 c).arrAt_eq_of_cover 3 (out m c) (fun t hf => flushed_3 m c t ((flush0_3 t).mp hf)) fun i => by
    have b0 : (i 0 : ℕ) < 4096 := (i 0).isLt
    have b1 : (i 1 : ℕ) < 1024 := (i 1).isLt
    obtain ⟨t, ht⟩ : ∃ t : Fin cfg0.N, t.val = (i 0 : ℕ) / 512 * 2 + 1 := ⟨⟨(i 0 : ℕ) / 512 * 2 + 1, show _ < grid0.N by rw [N_0]; omega⟩, rfl⟩
    obtain ⟨h0, h1⟩ := idx_3 t
    refine ⟨t, (flush0_3 t).mpr (by omega), ?_⟩
    show i ∈ ((View.whole main_v0).slice (win0_3.rect t)).set
    rw [View.set_slice_whole, Rect.mem_set_unit]
    intro a
    match a with
    | ⟨0, _⟩ =>
      show win0_3.index t 0 * 512 ≤ (i 0 : ℕ) ∧ (i 0 : ℕ) < win0_3.index t 0 * 512 + 512
      omega
    | ⟨1, _⟩ =>
      show win0_3.index t 1 * 1024 ≤ (i 1 : ℕ) ∧ (i 1 : ℕ) < win0_3.index t 1 * 1024 + 1024
      omega

/-- The reference's result of the same arguments. -/
theorem reference_eq (a : FVec Ideal Cert.Reference3Ideal.S4096x2816 .f32) (b : FVec Ideal Cert.Reference3Ideal.S1024x2816 .bf16) (z : FVec Ideal Cert.Reference3Ideal.S4096x1024 .f32)
    (ha : a = m ((c : Thread nD τ).loc main_arg0)) (hb : b = m ((c : Thread nD τ).loc main_arg1)) (hz : z = m ((c : Thread nD τ).loc main_arg2)) :
    addf z (Host.dotGeneral Cert.Reference3Ideal.dot_S4096x2816_S1024x2816_S4096x1024_1_1_0_0_n_n none a (extf .f32 b Cert.Reference3Ideal.Gen.bitsLt_bf16_f32)) = out m c := by
  funext y
  obtain ⟨i, j, rfl⟩ : ∃ (i : Fin 4096) (j : Fin 1024), y = ix2 i j := ⟨y 0, y 1, eq_ix2 y⟩
  show _ = fc m c i j + ∑ l ∈ Finset.range 2816, fa m c i l * fb m c j l
  unfold fa fb fc
  rw [← ha, ← hb, ← hz, Finset.sum_range]
  pointwise
  rw [entry_fin z]
  refine congrArg _ (Finset.sum_congr rfl fun l _ => ?_)
  rw [entry_fin a, entry_fin b]

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The kernel's result is the reference's. -/
theorem algebraic : Cert.algebraic_Kernel3Ideal_Reference3Ideal := by
  intro m g m' g' _ hargs
  refine ⟨fun c => out m c, ?_, ?_⟩
  · refine (θ_run Cert.Kernel3Ideal.defs _ _).mono (fun r h c => ?_) (Cert.Kernel3Ideal.Value.run_blocks m g)
    exact ⟨(h c).1.trans (final m c), (h c).2⟩
  · refine (θ_run Cert.Reference3Ideal.defs _ _).mono (fun r h c => ?_) (Cert.Reference3Ideal.Value.run m' g')
    exact ⟨(h c).1.trans (reference_eq m c _ _ _ (hargs c).1 (hargs c).2.1 (hargs c).2.2), (h c).2⟩

end Cert.UpDa2

end
-- ==== Proof.UpDa1.lean ====
/- The gradient of the rows through half of the projection up, two blocks of columns summed in the output. -/
module

public import proofs.«01_k».proof.Defs
public import proofs.«01_k».proof.Proof.Product
public import Idealize.ShloMosaic.Lib.Pipeline.ValueKit
public import proofs.«01_k».proof.Proof.Gen.Kernel4Ideal.Value
public import proofs.«01_k».proof.Proof.Gen.Reference4Ideal.Run

@[expose] public section

set_option maxRecDepth 16384

noncomputable section

namespace Cert.UpDa1

open Idealize.ShloMosaic Idealize.ShloMosaic.TcCoe Idealize.ShloMosaic.Tactic
open Cert.Kernel4Ideal Cert.Kernel4Ideal.Gen Cert.Product

theorem idx_0 : ∀ t : Fin cfg0.N, win0_0.index t 0 = t.val / 2 ∧ win0_0.index t 1 = t.val % 2 :=
  (by decide +kernel : ∀ t : Fin grid0.N, _)

theorem idx_1 : ∀ t : Fin cfg0.N, win0_1.index t 0 = 0 ∧ win0_1.index t 1 = t.val % 2 :=
  (by decide +kernel : ∀ t : Fin grid0.N, _)

theorem idx_2 : ∀ t : Fin cfg0.N, win0_2.index t 0 = t.val / 2 ∧ win0_2.index t 1 = 0 :=
  (by decide +kernel : ∀ t : Fin grid0.N, _)

/-- The product of two blocks, the second transposed. -/
theorem pay_first (x : FVec Ideal S512x1408 .f32) (y : FVec Ideal S1024x1408 .bf16) (i : Fin 512) (j : Fin 1024) :
    (k0_pay1 (F := Ideal) x y (ix2 i j) : EReal) = ∑ l : Fin 1408, (x (ix2 i l) : EReal) * y (ix2 j l) := by
  unfold k0_pay1
  pointwise

theorem pay_next (x : FVec Ideal S512x1408 .f32) (y : FVec Ideal S1024x1408 .bf16) (z : FVec Ideal S512x1024 .f32) (i : Fin 512) (j : Fin 1024) :
    (k0_pay2 (F := Ideal) x y z (ix2 i j) : EReal) = z (ix2 i j) + ∑ l : Fin 1408, (x (ix2 i l) : EReal) * y (ix2 j l) := by
  unfold k0_pay2 k0_pay1
  pointwise

variable (m : (ℓ : Loc nD τ sig) → ℓ.2.ty.Contents (Elt Ideal)) (c : Dev nD)

/-- The two factors' entries. -/
def fa : ℕ → ℕ → EReal := entry (a := 4096) (b := 2816) (m ((c : Thread nD τ).loc main_arg0))
def fb : ℕ → ℕ → EReal := entry (a := 1024) (b := 2816) (m ((c : Thread nD τ).loc main_arg1))

theorem iblk_0 (t : Fin cfg0.N) (i : Fin 512) (l : Fin 1408) :
    (iblk m c 0 t (ix2 i l) : EReal) = fa m c (512 * (t.val / 2) + i) (1408 * (t.val % 2) + l) := by
  obtain ⟨h0, h1⟩ := idx_0 t
  show (((cfg0.win 0).blk t).view.read (Elt Ideal) (V m c main_arg0) (ix2 i l) : EReal) = _
  rw [V_main_arg0 m c, View.read_apply]
  refine entry_at (a := 4096) (b := 2816) (m ((c : Thread nD τ).loc main_arg0)) _ ?_ ?_
  · show win0_0.index t 0 * 512 + 1 * (i : ℕ) = _
    omega
  · show win0_0.index t 1 * 1408 + 1 * (l : ℕ) = _
    omega

theorem iblk_1 (t : Fin cfg0.N) (j : Fin 1024) (l : Fin 1408) :
    (iblk m c 1 t (ix2 j l) : EReal) = fb m c j (1408 * (t.val % 2) + l) := by
  obtain ⟨h0, h1⟩ := idx_1 t
  show (((cfg0.win 1).blk t).view.read (Elt Ideal) (V m c main_arg1) (ix2 j l) : EReal) = _
  rw [V_main_arg1 m c, View.read_apply]
  refine entry_at (a := 1024) (b := 2816) (m ((c : Thread nD τ).loc main_arg1)) _ ?_ ?_
  · show win0_1.index t 0 * 1024 + 1 * (j : ℕ) = _
    omega
  · show win0_1.index t 1 * 1408 + 1 * (l : ℕ) = _
    omega

/-- What the output holds after a point: the sum over the columns read so far. -/
theorem sums (i : Fin 512) (j : Fin 1024) (n : ℕ) (hn : n < cfg0.N) : (outsAt0 m c n hn (ix2 i j) : EReal)
    = 0 + ∑ l ∈ Finset.range (1408 * (n % 2 + 1)), fa m c (512 * (n / 2) + i) l * fb m c j l := by
  refine runs 2 1408 (fun n hn => (outsAt0 m c n hn (ix2 i j) : EReal)) (fun _ => 0)
    (fun q l => fa m c (512 * q + i) l * fb m c j l) (fun t h0 => ?_) (fun t h0 => ?_) n hn
  · have e := pay_first (iblk m c 0 t) (iblk m c 1 t) i j
    simp only [iblk_0, iblk_1] at e
    refine Eq.trans ?_ (e.trans (zero_add _).symm)
    rw [outsAt0_A m c t h0 (by omega)]
    frame_out
  · have e := pay_next (iblk m c 0 t) (iblk m c 1 t) (outsAt0 m c (t.val - 1) (Nat.lt_of_le_of_lt (Nat.sub_le _ _) t.isLt)) i j
    simp only [iblk_0, iblk_1] at e
    refine Eq.trans ?_ e
    rw [outsAt0_B m c t h0 (by omega)]
    frame_out

/-- The result as an array. -/
def out : FVec Ideal S4096x1024 .f32 := fun i => (∑ l ∈ Finset.range 2816, fa m c (i 0) l * fb m c (i 1) l : EReal)

theorem flushed_2 (t : Fin cfg0.N) (ht : t.val % 2 = 1) :
    (dats m 0 c).flushed 2 t = ((cfg0.win 2).blk t).view.read (Elt Ideal) (out m c) := by
  refine (Cert.Kernel4Ideal.Value.flushed2 m c t).trans ?_
  funext y
  obtain ⟨i, j, rfl⟩ : ∃ (i : Fin 512) (j : Fin 1024), y = ix2 i j := ⟨y 0, y 1, eq_ix2 y⟩
  have e := sums m c i j t.val t.isLt
  rw [ht, zero_add] at e
  refine e.trans ?_
  obtain ⟨h0, h1⟩ := idx_2 t
  rw [View.read_apply]
  show _ = ∑ l ∈ Finset.range 2816, fa m c (win0_2.index t 0 * 512 + 1 * (i : ℕ)) l * fb m c (win0_2.index t 1 * 1024 + 1 * (j : ℕ)) l
  rw [h0, h1, show t.val / 2 * 512 + 1 * (i : ℕ) = 512 * (t.val / 2) + i by omega, show 0 * 1024 + 1 * (j : ℕ) = j by omega]

theorem final : (dats m 0 c).arrAt 2 cfg0.N = out m c :=
  (dats m 0 c).arrAt_eq_of_cover 2 (out m c) (fun t hf => flushed_2 m c t ((flush0_2 t).mp hf)) fun i => by
    have b0 : (i 0 : ℕ) < 4096 := (i 0).isLt
    have b1 : (i 1 : ℕ) < 1024 := (i 1).isLt
    obtain ⟨t, ht⟩ : ∃ t : Fin cfg0.N, t.val = (i 0 : ℕ) / 512 * 2 + 1 := ⟨⟨(i 0 : ℕ) / 512 * 2 + 1, show _ < grid0.N by rw [N_0]; omega⟩, rfl⟩
    obtain ⟨h0, h1⟩ := idx_2 t
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 512 ≤ (i 0 : ℕ) ∧ (i 0 : ℕ) < win0_2.index t 0 * 512 + 512
      omega
    | ⟨1, _⟩ =>
      show win0_2.index t 1 * 1024 ≤ (i 1 : ℕ) ∧ (i 1 : ℕ) < win0_2.index t 1 * 1024 + 1024
      omega

/-- The reference's result of the same arguments. -/
theorem reference_eq (a : FVec Ideal Cert.Reference4Ideal.S4096x2816 .f32) (b : FVec Ideal Cert.Reference4Ideal.S1024x2816 .bf16)
    (ha : a = m ((c : Thread nD τ).loc main_arg0)) (hb : b = m ((c : Thread nD τ).loc main_arg1)) :
    Host.dotGeneral Cert.Reference4Ideal.dot_S4096x2816_S1024x2816_S4096x1024_1_1_0_0_n_n none a (extf .f32 b Cert.Reference4Ideal.Gen.bitsLt_bf16_f32) = out m c := by
  funext y
  obtain ⟨i, j, rfl⟩ : ∃ (i : Fin 4096) (j : Fin 1024), y = ix2 i j := ⟨y 0, y 1, eq_ix2 y⟩
  show _ = ∑ l ∈ Finset.range 2816, fa m c i l * fb m c j l
  unfold fa fb
  rw [← ha, ← hb, Finset.sum_range]
  pointwise
  refine Finset.sum_congr rfl fun l _ => ?_
  rw [entry_fin a, entry_fin b]

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The kernel's result is the reference's. -/
theorem algebraic : Cert.algebraic_Kernel4Ideal_Reference4Ideal := by
  intro m g m' g' _ hargs
  refine ⟨fun c => out m c, ?_, ?_⟩
  · refine (θ_run Cert.Kernel4Ideal.defs _ _).mono (fun r h c => ?_) (Cert.Kernel4Ideal.Value.run_blocks m g)
    exact ⟨(h c).1.trans (final m c), (h c).2⟩
  · refine (θ_run Cert.Reference4Ideal.defs _ _).mono (fun r h c => ?_) (Cert.Reference4Ideal.Value.run m' g')
    exact ⟨(h c).1.trans (reference_eq m c _ _ (hargs c).1 (hargs c).2), (h c).2⟩

end Cert.UpDa1

end
-- ==== Proof.DownDa.lean ====
/- The gradient of the rows through the projection down: every point's block is a whole product with the weights transposed. -/
module

public import proofs.«01_k».proof.Defs
public import proofs.«01_k».proof.Proof.Product
public import Idealize.ShloMosaic.Lib.Pipeline.ValueKit
public import proofs.«01_k».proof.Proof.Gen.Kernel5Ideal.Value
public import proofs.«01_k».proof.Proof.Gen.Reference5Ideal.Run

@[expose] public section

set_option maxRecDepth 16384

noncomputable section

namespace Cert.DownDa

open Idealize.ShloMosaic Idealize.ShloMosaic.TcCoe Idealize.ShloMosaic.Tactic
open Cert.Kernel5Ideal Cert.Kernel5Ideal.Gen Cert.Product

theorem idx_0 : ∀ t : Fin cfg0.N, win0_0.index t 0 = t.val % 8 ∧ win0_0.index t 1 = 0 :=
  (by decide +kernel : ∀ t : Fin grid0.N, _)

theorem idx_1 : ∀ t : Fin cfg0.N, win0_1.index t 0 = t.val / 8 ∧ win0_1.index t 1 = 0 :=
  (by decide +kernel : ∀ t : Fin grid0.N, _)

theorem idx_2 : ∀ t : Fin cfg0.N, win0_2.index t 0 = t.val % 8 ∧ win0_2.index t 1 = t.val / 8 :=
  (by decide +kernel : ∀ t : Fin grid0.N, _)

/-- The product of two blocks, the second transposed. -/
theorem pay (x : FVec Ideal S512x1024 .f32) (y : FVec Ideal S1408x1024 .bf16) (i : Fin 512) (j : Fin 1408) :
    (k0_pay1 (F := Ideal) x y (ix2 i j) : EReal) = ∑ l : Fin 1024, (x (ix2 i l) : EReal) * y (ix2 j l) := by
  unfold k0_pay1
  pointwise

variable (m : (ℓ : Loc nD τ sig) → ℓ.2.ty.Contents (Elt Ideal)) (c : Dev nD)

/-- The two factors' entries. -/
def fa : ℕ → ℕ → EReal := entry (a := 4096) (b := 1024) (m ((c : Thread nD τ).loc main_arg0))
def fb : ℕ → ℕ → EReal := entry (a := 2816) (b := 1024) (m ((c : Thread nD τ).loc main_arg1))

theorem iblk_0 (t : Fin cfg0.N) (i : Fin 512) (l : Fin 1024) :
    (iblk m c 0 t (ix2 i l) : EReal) = fa m c (512 * (t.val % 8) + i) l := by
  obtain ⟨h0, h1⟩ := idx_0 t
  show (((cfg0.win 0).blk t).view.read (Elt Ideal) (V m c main_arg0) (ix2 i l) : EReal) = _
  rw [V_main_arg0 m c, View.read_apply]
  refine entry_at (a := 4096) (b := 1024) (m ((c : Thread nD τ).loc main_arg0)) _ ?_ ?_
  · show win0_0.index t 0 * 512 + 1 * (i : ℕ) = _
    omega
  · show win0_0.index t 1 * 1024 + 1 * (l : ℕ) = _
    omega

theorem iblk_1 (t : Fin cfg0.N) (j : Fin 1408) (l : Fin 1024) :
    (iblk m c 1 t (ix2 j l) : EReal) = fb m c (1408 * (t.val / 8) + j) l := by
  obtain ⟨h0, h1⟩ := idx_1 t
  show (((cfg0.win 1).blk t).view.read (Elt Ideal) (V m c main_arg1) (ix2 j l) : EReal) = _
  rw [V_main_arg1 m c, View.read_apply]
  refine entry_at (a := 2816) (b := 1024) (m ((c : Thread nD τ).loc main_arg1)) _ ?_ ?_
  · show win0_1.index t 0 * 1408 + 1 * (j : ℕ) = _
    omega
  · show win0_1.index t 1 * 1024 + 1 * (l : ℕ) = _
    omega

/-- The product as an array. -/
def out : FVec Ideal S4096x2816 .f32 := fun i => (∑ l : Fin 1024, fa m c (i 0) l * fb m c (i 1) l : EReal)

theorem flushed_2 (t : Fin cfg0.N) :
    (dats m 0 c).flushed 2 t = ((cfg0.win 2).blk t).view.read (Elt Ideal) (out m c) := by
  refine (Cert.Kernel5Ideal.Value.flushed2 m c t).trans ?_
  funext y
  obtain ⟨i, j, rfl⟩ : ∃ (i : Fin 512) (j : Fin 1408), y = ix2 i j := ⟨y 0, y 1, eq_ix2 y⟩
  have e := pay (iblk m c 0 t) (iblk m c 1 t) i j
  simp only [iblk_0, iblk_1] at e
  have e1 : (out0_2 (iblk m c 0 t) (iblk m c 1 t) (ix2 i j) : EReal) = k0_pay1 (iblk m c 0 t) (iblk m c 1 t) (ix2 i j) := by
    frame_out
  refine (e1.trans e).trans ?_
  obtain ⟨h0, h1⟩ := idx_2 t
  rw [View.read_apply]
  show _ = ∑ l : Fin 1024, fa m c (win0_2.index t 0 * 512 + 1 * (i : ℕ)) l * fb m c (win0_2.index t 1 * 1408 + 1 * (j : ℕ)) l
  rw [h0, h1, show t.val % 8 * 512 + 1 * (i : ℕ) = 512 * (t.val % 8) + i by omega, show t.val / 8 * 1408 + 1 * (j : ℕ) = 1408 * (t.val / 8) + j by omega]

theorem final : (dats m 0 c).arrAt 2 cfg0.N = out m c :=
  (dats m 0 c).arrAt_eq_of_cover 2 (out m c) (fun t _ => flushed_2 m c t) fun i => by
    have b0 : (i 0 : ℕ) < 4096 := (i 0).isLt
    have b1 : (i 1 : ℕ) < 2816 := (i 1).isLt
    obtain ⟨t, ht⟩ : ∃ t : Fin cfg0.N, t.val = (i 1 : ℕ) / 1408 * 8 + (i 0 : ℕ) / 512 := ⟨⟨(i 1 : ℕ) / 1408 * 8 + (i 0 : ℕ) / 512, show _ < grid0.N by rw [N_0]; omega⟩, rfl⟩
    obtain ⟨h0, h1⟩ := idx_2 t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 512 ≤ (i 0 : ℕ) ∧ (i 0 : ℕ) < win0_2.index t 0 * 512 + 512
      omega
    | ⟨1, _⟩ =>
      show win0_2.index t 1 * 1408 ≤ (i 1 : ℕ) ∧ (i 1 : ℕ) < win0_2.index t 1 * 1408 + 1408
      omega

/-- The reference's product of the same two factors. -/
theorem reference_eq (a : FVec Ideal Cert.Reference5Ideal.S4096x1024 .f32) (b : FVec Ideal Cert.Reference5Ideal.S2816x1024 .bf16)
    (ha : a = m ((c : Thread nD τ).loc main_arg0)) (hb : b = m ((c : Thread nD τ).loc main_arg1)) :
    Host.dotGeneral Cert.Reference5Ideal.dot_S4096x1024_S2816x1024_S4096x2816_1_1_0_0_n_n none a (extf .f32 b Cert.Reference5Ideal.Gen.bitsLt_bf16_f32) = out m c := by
  funext y
  obtain ⟨i, j, rfl⟩ : ∃ (i : Fin 4096) (j : Fin 2816), y = ix2 i j := ⟨y 0, y 1, eq_ix2 y⟩
  show _ = ∑ l : Fin 1024, fa m c i l * fb m c j l
  unfold fa fb
  rw [← ha, ← hb]
  pointwise
  refine Finset.sum_congr rfl fun l _ => ?_
  rw [entry_fin a, entry_fin b]

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The kernel's result is the reference's. -/
theorem algebraic : Cert.algebraic_Kernel5Ideal_Reference5Ideal := by
  intro m g m' g' _ hargs
  refine ⟨fun c => out m c, ?_, ?_⟩
  · refine (θ_run Cert.Kernel5Ideal.defs _ _).mono (fun r h c => ?_) (Cert.Kernel5Ideal.Value.run_blocks m g)
    exact ⟨(h c).1.trans (final m c), (h c).2⟩
  · refine (θ_run Cert.Reference5Ideal.defs _ _).mono (fun r h c => ?_) (Cert.Reference5Ideal.Value.run m' g')
    exact ⟨(h c).1.trans (reference_eq m c _ _ (hargs c).1 (hargs c).2), (h c).2⟩

end Cert.DownDa

end
-- ==== Proof.DownDb.lean ====
/- The gradient of the weights of the projection down, four blocks of rows summed in the scratch. -/
module

public import proofs.«01_k».proof.Defs
public import proofs.«01_k».proof.Proof.Product
public import Idealize.ShloMosaic.Lib.Pipeline.ValueKit
public import proofs.«01_k».proof.Proof.Gen.Kernel6Ideal.Value
public import proofs.«01_k».proof.Proof.Gen.Reference6Ideal.Run

@[expose] public section

set_option maxRecDepth 16384

noncomputable section

namespace Cert.DownDb

open Idealize.ShloMosaic Idealize.ShloMosaic.TcCoe Idealize.ShloMosaic.Tactic
open Cert.Kernel6Ideal Cert.Kernel6Ideal.Gen Cert.Product

theorem idx_0 : ∀ t : Fin cfg0.N, win0_0.index t 0 = t.val % 4 ∧ win0_0.index t 1 = t.val / 4 :=
  (by decide +kernel : ∀ t : Fin grid0.N, _)

theorem idx_1 : ∀ t : Fin cfg0.N, win0_1.index t 0 = t.val % 4 ∧ win0_1.index t 1 = 0 :=
  (by decide +kernel : ∀ t : Fin grid0.N, _)

theorem idx_2 : ∀ t : Fin cfg0.N, win0_2.index t 0 = t.val / 4 ∧ win0_2.index t 1 = 0 :=
  (by decide +kernel : ∀ t : Fin grid0.N, _)

/-- The product of two blocks: the first transposed. -/
theorem pay_first (x : FVec Ideal S1024x1408 .f32) (y : FVec Ideal S1024x1024 .f32) (i : Fin 1408) (j : Fin 1024) :
    (k0_pay2 (F := Ideal) x y (ix2 i j) : EReal) = ∑ l : Fin 1024, (x (ix2 l i) : EReal) * y (ix2 l j) := by
  unfold k0_pay2 k0_pay1
  pointwise

theorem pay_next (x : FVec Ideal S1024x1408 .f32) (y : FVec Ideal S1024x1024 .f32) (z : FVec Ideal S1408x1024 .f32) (i : Fin 1408) (j : Fin 1024) :
    (k0_pay3 (F := Ideal) x y z (ix2 i j) : EReal) = z (ix2 i j) + ∑ l : Fin 1024, (x (ix2 l i) : EReal) * y (ix2 l j) := by
  unfold k0_pay3 k0_pay1
  pointwise

theorem pay_out (z : FVec Ideal S1408x1024 .f32) (i : Fin 1408) (j : Fin 1024) :
    (k0_pay4 (F := Ideal) z (ix2 i j) : EReal) = z (ix2 i j) := by
  unfold k0_pay4
  pointwise

variable (m : (ℓ : Loc nD τ sig) → ℓ.2.ty.Contents (Elt Ideal)) (c : Dev nD)

/-- The two factors' entries. -/
def fa : ℕ → ℕ → EReal := entry (a := 4096) (b := 2816) (m ((c : Thread nD τ).loc main_arg0))
def fb : ℕ → ℕ → EReal := entry (a := 4096) (b := 1024) (m ((c : Thread nD τ).loc main_arg1))

theorem iblk_0 (t : Fin cfg0.N) (l : Fin 1024) (i : Fin 1408) :
    (iblk m c 0 t (ix2 l i) : EReal) = fa m c (1024 * (t.val % 4) + l) (1408 * (t.val / 4) + i) := by
  obtain ⟨h0, h1⟩ := idx_0 t
  show (((cfg0.win 0).blk t).view.read (Elt Ideal) (V m c main_arg0) (ix2 l i) : EReal) = _
  rw [V_main_arg0 m c, View.read_apply]
  refine entry_at (a := 4096) (b := 2816) (m ((c : Thread nD τ).loc main_arg0)) _ ?_ ?_
  · show win0_0.index t 0 * 1024 + 1 * (l : ℕ) = _
    omega
  · show win0_0.index t 1 * 1408 + 1 * (i : ℕ) = _
    omega

theorem iblk_1 (t : Fin cfg0.N) (l : Fin 1024) (j : Fin 1024) :
    (iblk m c 1 t (ix2 l j) : EReal) = fb m c (1024 * (t.val % 4) + l) j := by
  obtain ⟨h0, h1⟩ := idx_1 t
  show (((cfg0.win 1).blk t).view.read (Elt Ideal) (V m c main_arg1) (ix2 l j) : EReal) = _
  rw [V_main_arg1 m c, View.read_apply]
  refine entry_at (a := 4096) (b := 1024) (m ((c : Thread nD τ).loc main_arg1)) _ ?_ ?_
  · show win0_1.index t 0 * 1024 + 1 * (l : ℕ) = _
    omega
  · show win0_1.index t 1 * 1024 + 1 * (j : ℕ) = _
    omega

/-- What the scratch holds after a point: the sum over the rows read so far. -/
theorem sums (i : Fin 1408) (j : Fin 1024) (n : ℕ) (hn : n < cfg0.N) : ((outsAt0 m c n hn).2 (ix2 i j) : EReal)
    = 0 + ∑ l ∈ Finset.range (1024 * (n % 4 + 1)), fa m c l (1408 * (n / 4) + i) * fb m c l j := by
  refine runs 4 1024 (fun n hn => ((outsAt0 m c n hn).2 (ix2 i j) : EReal)) (fun _ => 0)
    (fun q l => fa m c l (1408 * q + i) * fb m c l j) (fun t h0 => ?_) (fun t h0 => ?_) n hn
  · rw [outsAt0_A m c t h0 (by omega) (by omega)]
    dsimp only
    frame_out
    refine (pay_first _ _ i j).trans ?_
    rw [zero_add]
    simp only [iblk_0, iblk_1]
  · have e := pay_next (iblk m c 0 t) (iblk m c 1 t) (outsAt0 m c (t.val - 1) (Nat.lt_of_le_of_lt (Nat.sub_le _ _) t.isLt)).2 i j
    simp only [iblk_0, iblk_1] at e
    refine Eq.trans ?_ e
    by_cases h2 : t.val % 4 = 3
    · rw [outsAt0_C m c t h0 (by omega) h2]
      dsimp only
      frame_out
      rw [Memref.IsWhole.read_unread (Memref.isWhole_whole cc0_scratch0)]
    · rw [outsAt0_B m c t h0 (by omega) h2]
      dsimp only
      frame_out
      rw [Memref.IsWhole.read_unread (Memref.isWhole_whole cc0_scratch0)]

/-- The product as an array. -/
def out : FVec Ideal S2816x1024 .bf16 := fun i => (∑ l ∈ Finset.range 4096, fa m c l (i 0) * fb m c l (i 1) : EReal)

/-- At the last point of a run the output is the sum the scratch holds. -/
theorem flushed_2 (t : Fin cfg0.N) (h2 : t.val % 4 = 3) :
    (dats m 0 c).flushed 2 t = ((cfg0.win 2).blk t).view.read (Elt Ideal) (out m c) := by
  refine (Cert.Kernel6Ideal.Value.flushed2 m c t).trans ?_
  funext y
  obtain ⟨i, j, rfl⟩ : ∃ (i : Fin 1408) (j : Fin 1024), y = ix2 i j := ⟨y 0, y 1, eq_ix2 y⟩
  have e := sums m c i j t.val t.isLt
  rw [h2, zero_add] at e
  have e1 : ((outsAt0 m c t.val t.isLt).1 (ix2 i j) : EReal) = (outsAt0 m c t.val t.isLt).2 (ix2 i j) := by
    rw [outsAt0_C m c t (by omega) (by omega) h2]
    dsimp only
    frame_out
    exact pay_out _ i j
  refine (e1.trans e).trans ?_
  obtain ⟨h0, h1⟩ := idx_2 t
  rw [View.read_apply]
  show _ = ∑ l ∈ Finset.range 4096, fa m c l (win0_2.index t 0 * 1408 + 1 * (i : ℕ)) * fb m c l (win0_2.index t 1 * 1024 + 1 * (j : ℕ))
  rw [h0, h1, show t.val / 4 * 1408 + 1 * (i : ℕ) = 1408 * (t.val / 4) + i by omega, show 0 * 1024 + 1 * (j : ℕ) = j by omega]

theorem final : (dats m 0 c).arrAt 2 cfg0.N = out m c :=
  (dats m 0 c).arrAt_eq_of_cover 2 (out m c) (fun t hf => flushed_2 m c t ((flush0_2 t).mp hf)) fun i =>
    (Cert.Kernel6Ideal.Value.covered_iff2 i).mpr ⟨Nat.zero_le _, (i 0).isLt, Nat.zero_le _, (i 1).isLt⟩

/-- The reference's product of the same two factors. -/
theorem reference_eq (a : FVec Ideal Cert.Reference6Ideal.S4096x2816 .f32) (b : FVec Ideal Cert.Reference6Ideal.S4096x1024 .f32)
    (ha : a = m ((c : Thread nD τ).loc main_arg0)) (hb : b = m ((c : Thread nD τ).loc main_arg1)) :
    truncf .bf16 (transpose Cert.Reference6Ideal.S2816x1024 [1, 0] (Host.dotGeneral Cert.Reference6Ideal.dot_S4096x1024_S4096x2816_S1024x2816_0_0_1_1_n_n none b a)
      Cert.Reference6Ideal.Gen.transposes_S1024x2816_S2816x1024_1_0) Cert.Reference6Ideal.Gen.bitsLt_bf16_f32 = out m c := by
  funext y
  obtain ⟨i, j, rfl⟩ : ∃ (i : Fin 2816) (j : Fin 1024), y = ix2 i j := ⟨y 0, y 1, eq_ix2 y⟩
  show _ = ∑ l ∈ Finset.range 4096, fa m c l i * fb m c l j
  unfold fa fb
  rw [← ha, ← hb, Finset.sum_range]
  pointwise
  refine Finset.sum_congr rfl fun l _ => ?_
  rw [mul_comm, entry_fin b, entry_fin a]

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- The kernel's result is the reference's. -/
theorem algebraic : Cert.algebraic_Kernel6Ideal_Reference6Ideal := by
  intro m g m' g' _ hargs
  refine ⟨fun c => out m c, ?_, ?_⟩
  · refine (θ_run Cert.Kernel6Ideal.defs _ _).mono (fun r h c => ?_) (Cert.Kernel6Ideal.Value.run_blocks m g)
    exact ⟨(h c).1.trans (final m c), (h c).2⟩
  · refine (θ_run Cert.Reference6Ideal.defs _ _).mono (fun r h c => ?_) (Cert.Reference6Ideal.Value.run m' g')
    exact ⟨(h c).1.trans (reference_eq m c _ _ (hargs c).1 (hargs c).2), (h c).2⟩

end Cert.DownDb

end
-- ==== Proof.UpFwd.lean ====
/- A projection up: every point's block of the result is a whole product. -/
module

public import proofs.«01_k».proof.Defs
public import proofs.«01_k».proof.Proof.Product
public import Idealize.ShloMosaic.Lib.Pipeline.ValueKit
public import proofs.«01_k».proof.Proof.Gen.Kernel7Ideal.Value
public import proofs.«01_k».proof.Proof.Gen.Reference7Ideal.Run

@[expose] public section

set_option maxRecDepth 16384

noncomputable section

namespace Cert.UpFwd

open Idealize.ShloMosaic Idealize.ShloMosaic.TcCoe Idealize.ShloMosaic.Tactic
open Cert.Kernel7Ideal Cert.Kernel7Ideal.Gen Cert.Product

theorem idx_0 : ∀ t : Fin cfg0.N, win0_0.index t 0 = t.val % 8 ∧ win0_0.index t 1 = 0 :=
  (by decide +kernel : ∀ t : Fin grid0.N, _)

theorem idx_1 : ∀ t : Fin cfg0.N, win0_1.index t 0 = 0 ∧ win0_1.index t 1 = t.val / 8 :=
  (by decide +kernel : ∀ t : Fin grid0.N, _)

theorem idx_2 : ∀ t : Fin cfg0.N, win0_2.index t 0 = t.val % 8 ∧ win0_2.index t 1 = t.val / 8 :=
  (by decide +kernel : ∀ t : Fin grid0.N, _)

/-- The product of two blocks. -/
theorem pay (x : FVec Ideal S512x1024 .f32) (y : FVec Ideal S1024x1408 .bf16) (i : Fin 512) (j : Fin 1408) :
    (k0_pay1 (F := Ideal) x y (ix2 i j) : EReal) = ∑ l : Fin 1024, (x (ix2 i l) : EReal) * y (ix2 l j) := by
  unfold k0_pay1
  pointwise

variable (m : (ℓ : Loc nD τ sig) → ℓ.2.ty.Contents (Elt Ideal)) (c : Dev nD)

/-- The two factors' entries. -/
def fa : ℕ → ℕ → EReal := entry (a := 4096) (b := 1024) (m ((c : Thread nD τ).loc main_arg0))
def fb : ℕ → ℕ → EReal := entry (a := 1024) (b := 2816) (m ((c : Thread nD τ).loc main_arg1))

theorem iblk_0 (t : Fin cfg0.N) (i : Fin 512) (l : Fin 1024) :
    (iblk m c 0 t (ix2 i l) : EReal) = fa m c (512 * (t.val % 8) + i) l := by
  obtain ⟨h0, h1⟩ := idx_0 t
  show (((cfg0.win 0).blk t).view.read (Elt Ideal) (V m c main_arg0) (ix2 i l) : EReal) = _
  rw [V_main_arg0 m c, View.read_apply]
  refine entry_at (a := 4096) (b := 1024) (m ((c : Thread nD τ).loc main_arg0)) _ ?_ ?_
  · show win0_0.index t 0 * 512 + 1 * (i : ℕ) = _
    omega
  · show win0_0.index t 1 * 1024 + 1 * (l : ℕ) = _
    omega

theorem iblk_1 (t : Fin cfg0.N) (l : Fin 1024) (j : Fin 1408) :
    (iblk m c 1 t (ix2 l j) : EReal) = fb m c l (1408 * (t.val / 8) + j) := by
  obtain ⟨h0, h1⟩ := idx_1 t
  show (((cfg0.win 1).blk t).view.read (Elt Ideal) (V m c main_arg1) (ix2 l j) : EReal) = _
  rw [V_main_arg1 m c, View.read_apply]
  refine entry_at (a := 1024) (b := 2816) (m ((c : Thread nD τ).loc main_arg1)) _ ?_ ?_
  · show win0_1.index t 0 * 1024 + 1 * (l : ℕ) = _
    omega
  · show win0_1.index t 1 * 1408 + 1 * (j : ℕ) = _
    omega

/-- The product as an array. -/
def out : FVec Ideal S4096x2816 .f32 := fun i => (∑ l : Fin 1024, fa m c (i 0) l * fb m c l (i 1) : EReal)

theorem flushed_2 (t : Fin cfg0.N) :
    (dats m 0 c).flushed 2 t = ((cfg0.win 2).blk t).view.read (Elt Ideal) (out m c) := by
  refine (Cert.Kernel7Ideal.Value.flushed2 m c t).trans ?_
  funext y
  obtain ⟨i, j, rfl⟩ : ∃ (i : Fin 512) (j : Fin 1408), y = ix2 i j := ⟨y 0, y 1, eq_ix2 y⟩
  have e := pay (iblk m c 0 t) (iblk m c 1 t) i j
  simp only [iblk_0, iblk_1] at e
  have e1 : (out0_2 (iblk m c 0 t) (iblk m c 1 t) (ix2 i j) : EReal) = k0_pay1 (iblk m c 0 t) (iblk m c 1 t) (ix2 i j) := by
    frame_out
  refine (e1.trans e).trans ?_
  obtain ⟨h0, h1⟩ := idx_2 t
  rw [View.read_apply]
  show _ = ∑ l : Fin 1024, fa m c (win0_2.index t 0 * 512 + 1 * (i : ℕ)) l * fb m c l (win0_2.index t 1 * 1408 + 1 * (j : ℕ))
  rw [h0, h1, show t.val % 8 * 512 + 1 * (i : ℕ) = 512 * (t.val % 8) + i by omega, show t.val / 8 * 1408 + 1 * (j : ℕ) = 1408 * (t.val / 8) + j by omega]

theorem final : (dats m 0 c).arrAt 2 cfg0.N = out m c :=
  (dats m 0 c).arrAt_eq_of_cover 2 (out m c) (fun t _ => flushed_2 m c t) fun i => by
    have b0 : (i 0 : ℕ) < 4096 := (i 0).isLt
    have b1 : (i 1 : ℕ) < 2816 := (i 1).isLt
    obtain ⟨t, ht⟩ : ∃ t : Fin cfg0.N, t.val = (i 1 : ℕ) / 1408 * 8 + (i 0 : ℕ) / 512 := ⟨⟨(i 1 : ℕ) / 1408 * 8 + (i 0 : ℕ) / 512, show _ < grid0.N by rw [N_0]; omega⟩, rfl⟩
    obtain ⟨h0, h1⟩ := idx_2 t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 512 ≤ (i 0 : ℕ) ∧ (i 0 : ℕ) < win0_2.index t 0 * 512 + 512
      omega
    | ⟨1, _⟩ =>
      show win0_2.index t 1 * 1408 ≤ (i 1 : ℕ) ∧ (i 1 : ℕ) < win0_2.index t 1 * 1408 + 1408
      omega

/-- The reference's product of the same two factors. -/
theorem reference_eq (a : FVec Ideal Cert.Reference7Ideal.S4096x1024 .f32) (b : FVec Ideal Cert.Reference7Ideal.S1024x2816 .bf16)
    (ha : a = m ((c : Thread nD τ).loc main_arg0)) (hb : b = m ((c : Thread nD τ).loc main_arg1)) :
    Host.dotGeneral Cert.Reference7Ideal.dot_S4096x1024_S1024x2816_S4096x2816_1_0_0_1_n_n none a (extf .f32 b Cert.Reference7Ideal.Gen.bitsLt_bf16_f32) = out m c := by
  funext y
  obtain ⟨i, j, rfl⟩ : ∃ (i : Fin 4096) (j : Fin 2816), y = ix2 i j := ⟨y 0, y 1, eq_ix2 y⟩
  show _ = ∑ l : Fin 1024, fa m c i l * fb m c l j
  unfold fa fb
  rw [← ha, ← hb]
  pointwise
  refine Finset.sum_congr rfl fun l _ => ?_
  rw [entry_fin a, entry_fin b]

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

/-- The kernel's result is the reference's. -/
theorem algebraic : Cert.algebraic_Kernel7Ideal_Reference7Ideal := by
  intro m g m' g' _ hargs
  refine ⟨fun c => out m c, ?_, ?_⟩
  · refine (θ_run Cert.Kernel7Ideal.defs _ _).mono (fun r h c => ?_) (Cert.Kernel7Ideal.Value.run_blocks m g)
    exact ⟨(h c).1.trans (final m c), (h c).2⟩
  · refine (θ_run Cert.Reference7Ideal.defs _ _).mono (fun r h c => ?_) (Cert.Reference7Ideal.Value.run m' g')
    exact ⟨(h c).1.trans (reference_eq m c _ _ (hargs c).1 (hargs c).2), (h c).2⟩

end Cert.UpFwd

end
-- ==== Proof.DownFwd.lean ====
/- The projection down, added to the rows: every point's block of the result is a whole product. -/
module

public import proofs.«01_k».proof.Defs
public import proofs.«01_k».proof.Proof.Product
public import Idealize.ShloMosaic.Lib.Pipeline.ValueKit
public import proofs.«01_k».proof.Proof.Gen.Kernel8Ideal.Value
public import proofs.«01_k».proof.Proof.Gen.Reference8Ideal.Run

@[expose] public section

set_option maxRecDepth 16384

noncomputable section

namespace Cert.DownFwd

open Idealize.ShloMosaic Idealize.ShloMosaic.TcCoe Idealize.ShloMosaic.Tactic
open Cert.Kernel8Ideal Cert.Kernel8Ideal.Gen Cert.Product

theorem idx_0 : ∀ t : Fin cfg0.N, win0_0.index t 0 = t.val ∧ win0_0.index t 1 = 0 :=
  (by decide +kernel : ∀ t : Fin grid0.N, _)

theorem idx_1 : ∀ t : Fin cfg0.N, win0_1.index t 0 = 0 ∧ win0_1.index t 1 = 0 :=
  (by decide +kernel : ∀ t : Fin grid0.N, _)

theorem idx_2 : ∀ t : Fin cfg0.N, win0_2.index t 0 = t.val ∧ win0_2.index t 1 = 0 :=
  (by decide +kernel : ∀ t : Fin grid0.N, _)

theorem idx_3 : ∀ t : Fin cfg0.N, win0_3.index t 0 = t.val ∧ win0_3.index t 1 = 0 :=
  (by decide +kernel : ∀ t : Fin grid0.N, _)

/-- The product of two blocks beside what was there. -/
theorem pay (x : FVec Ideal S512x2816 .f32) (y : FVec Ideal S2816x1024 .bf16) (z : FVec Ideal S512x1024 .f32) (i : Fin 512) (j : Fin 1024) :
    (k0_pay1 (F := Ideal) x y z (ix2 i j) : EReal) = z (ix2 i j) + ∑ l : Fin 2816, (x (ix2 i l) : EReal) * y (ix2 l j) := by
  rw [add_comm]
  unfold k0_pay1
  pointwise

variable (m : (ℓ : Loc nD τ sig) → ℓ.2.ty.Contents (Elt Ideal)) (c : Dev nD)

/-- The entries of the two factors and of the rows. -/
def fa : ℕ → ℕ → EReal := entry (a := 4096) (b := 2816) (m ((c : Thread nD τ).loc main_arg0))
def fb : ℕ → ℕ → EReal := entry (a := 2816) (b := 1024) (m ((c : Thread nD τ).loc main_arg1))
def fc : ℕ → ℕ → EReal := entry (a := 4096) (b := 1024) (m ((c : Thread nD τ).loc main_arg2))

theorem iblk_0 (t : Fin cfg0.N) (i : Fin 512) (l : Fin 2816) :
    (iblk m c 0 t (ix2 i l) : EReal) = fa m c (512 * t.val + i) l := by
  obtain ⟨h0, h1⟩ := idx_0 t
  show (((cfg0.win 0).blk t).view.read (Elt Ideal) (V m c main_arg0) (ix2 i l) : EReal) = _
  rw [V_main_arg0 m c, View.read_apply]
  refine entry_at (a := 4096) (b := 2816) (m ((c : Thread nD τ).loc main_arg0)) _ ?_ ?_
  · show win0_0.index t 0 * 512 + 1 * (i : ℕ) = _
    omega
  · show win0_0.index t 1 * 2816 + 1 * (l : ℕ) = _
    omega

theorem iblk_1 (t : Fin cfg0.N) (l : Fin 2816) (j : Fin 1024) :
    (iblk m c 1 t (ix2 l j) : EReal) = fb m c l j := by
  obtain ⟨h0, h1⟩ := idx_1 t
  show (((cfg0.win 1).blk t).view.read (Elt Ideal) (V m c main_arg1) (ix2 l j) : EReal) = _
  rw [V_main_arg1 m c, View.read_apply]
  refine entry_at (a := 2816) (b := 1024) (m ((c : Thread nD τ).loc main_arg1)) _ ?_ ?_
  · show win0_1.index t 0 * 2816 + 1 * (l : ℕ) = _
    omega
  · show win0_1.index t 1 * 1024 + 1 * (j : ℕ) = _
    omega

theorem iblk_2 (t : Fin cfg0.N) (i : Fin 512) (j : Fin 1024) :
    (iblk m c 2 t (ix2 i j) : EReal) = fc m c (512 * t.val + i) j := by
  obtain ⟨h0, h1⟩ := idx_2 t
  show (((cfg0.win 2).blk t).view.read (Elt Ideal) (V m c main_arg2) (ix2 i j) : EReal) = _
  rw [V_main_arg2 m c, View.read_apply]
  refine entry_at (a := 4096) (b := 1024) (m ((c : Thread nD τ).loc main_arg2)) _ ?_ ?_
  · show win0_2.index t 0 * 512 + 1 * (i : ℕ) = _
    omega
  · show win0_2.index t 1 * 1024 + 1 * (j : ℕ) = _
    omega

/-- The result as an array. -/
def out : FVec Ideal S4096x1024 .f32 := fun i => (fc m c (i 0) (i 1) + ∑ l : Fin 2816, fa m c (i 0) l * fb m c l (i 1) : EReal)

theorem flushed_3 (t : Fin cfg0.N) :
    (dats m 0 c).flushed 3 t = ((cfg0.win 3).blk t).view.read (Elt Ideal) (out m c) := by
  refine (Cert.Kernel8Ideal.Value.flushed3 m c t).trans ?_
  funext y
  obtain ⟨i, j, rfl⟩ : ∃ (i : Fin 512) (j : Fin 1024), y = ix2 i j := ⟨y 0, y 1, eq_ix2 y⟩
  have e := pay (iblk m c 0 t) (iblk m c 1 t) (iblk m c 2 t) i j
  simp only [iblk_0, iblk_1, iblk_2] at e
  have e1 : (out0_3 (iblk m c 0 t) (iblk m c 1 t) (iblk m c 2 t) (ix2 i j) : EReal) = k0_pay1 (iblk m c 0 t) (iblk m c 1 t) (iblk m c 2 t) (ix2 i j) := by
    frame_out
  refine (e1.trans e).trans ?_
  obtain ⟨h0, h1⟩ := idx_3 t
  rw [View.read_apply]
  show _ = fc m c (win0_3.index t 0 * 512 + 1 * (i : ℕ)) (win0_3.index t 1 * 1024 + 1 * (j : ℕ))
    + ∑ l : Fin 2816, fa m c (win0_3.index t 0 * 512 + 1 * (i : ℕ)) l * fb m c l (win0_3.index t 1 * 1024 + 1 * (j : ℕ))
  rw [h0, h1, show t.val * 512 + 1 * (i : ℕ) = 512 * t.val + i by omega, show 0 * 1024 + 1 * (j : ℕ) = j by omega]

theorem final : (dats m 0 c).arrAt 3 cfg0.N = out m c :=
  (dats m 0 c).arrAt_eq_of_cover 3 (out m c) (fun t _ => flushed_3 m c t) fun i => by
    have b0 : (i 0 : ℕ) < 4096 := (i 0).isLt
    have b1 : (i 1 : ℕ) < 1024 := (i 1).isLt
    obtain ⟨t, ht⟩ : ∃ t : Fin cfg0.N, t.val = (i 0 : ℕ) / 512 := ⟨⟨(i 0 : ℕ) / 512, show _ < grid0.N by rw [N_0]; omega⟩, rfl⟩
    obtain ⟨h0, h1⟩ := idx_3 t
    refine ⟨t, flush0_3 t, ?_⟩
    show i ∈ ((View.whole main_v0).slice (win0_3.rect t)).set
    rw [View.set_slice_whole, Rect.mem_set_unit]
    intro a
    match a with
    | ⟨0, _⟩ =>
      show win0_3.index t 0 * 512 ≤ (i 0 : ℕ) ∧ (i 0 : ℕ) < win0_3.index t 0 * 512 + 512
      omega
    | ⟨1, _⟩ =>
      show win0_3.index t 1 * 1024 ≤ (i 1 : ℕ) ∧ (i 1 : ℕ) < win0_3.index t 1 * 1024 + 1024
      omega

/-- The reference's result of the same arguments. -/
theorem reference_eq (a : FVec Ideal Cert.Reference8Ideal.S4096x2816 .f32) (b : FVec Ideal Cert.Reference8Ideal.S2816x1024 .bf16) (z : FVec Ideal Cert.Reference8Ideal.S4096x1024 .f32)
    (ha : a = m ((c : Thread nD τ).loc main_arg0)) (hb : b = m ((c : Thread nD τ).loc main_arg1)) (hz : z = m ((c : Thread nD τ).loc main_arg2)) :
    addf z (Host.dotGeneral Cert.Reference8Ideal.dot_S4096x2816_S2816x1024_S4096x1024_1_0_0_1_n_n none a (extf .f32 b Cert.Reference8Ideal.Gen.bitsLt_bf16_f32)) = out m c := by
  funext y
  obtain ⟨i, j, rfl⟩ : ∃ (i : Fin 4096) (j : Fin 1024), y = ix2 i j := ⟨y 0, y 1, eq_ix2 y⟩
  show _ = fc m c i j + ∑ l : Fin 2816, fa m c i l * fb m c l j
  unfold fa fb fc
  rw [← ha, ← hb, ← hz]
  pointwise
  rw [entry_fin z]
  refine congrArg _ (Finset.sum_congr rfl fun l _ => ?_)
  rw [entry_fin a, entry_fin b]

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- The kernel's result is the reference's. -/
theorem algebraic : Cert.algebraic_Kernel8Ideal_Reference8Ideal := by
  intro m g m' g' _ hargs
  refine ⟨fun c => out m c, ?_, ?_⟩
  · refine (θ_run Cert.Kernel8Ideal.defs _ _).mono (fun r h c => ?_) (Cert.Kernel8Ideal.Value.run_blocks m g)
    exact ⟨(h c).1.trans (final m c), (h c).2⟩
  · refine (θ_run Cert.Reference8Ideal.defs _ _).mono (fun r h c => ?_) (Cert.Reference8Ideal.Value.run m' g')
    exact ⟨(h c).1.trans (reference_eq m c _ _ _ (hargs c).1 (hargs c).2.1 (hargs c).2.2), (h c).2⟩

end Cert.DownFwd

end
-- ==== Proof.InFwd.lean ====
/- The projection into the time mixing: every point's block of the result is a whole product. -/
module

public import proofs.«01_k».proof.Defs
public import proofs.«01_k».proof.Proof.Product
public import Idealize.ShloMosaic.Lib.Pipeline.ValueKit
public import proofs.«01_k».proof.Proof.Gen.Kernel9Ideal.Value
public import proofs.«01_k».proof.Proof.Gen.Reference9Ideal.Run

@[expose] public section

set_option maxRecDepth 16384

noncomputable section

namespace Cert.InFwd

open Idealize.ShloMosaic Idealize.ShloMosaic.TcCoe Idealize.ShloMosaic.Tactic
open Cert.Kernel9Ideal Cert.Kernel9Ideal.Gen Cert.Product

theorem idx_0 : ∀ t : Fin cfg0.N, win0_0.index t 0 = t.val % 8 ∧ win0_0.index t 1 = 0 :=
  (by decide +kernel : ∀ t : Fin grid0.N, _)

theorem idx_1 : ∀ t : Fin cfg0.N, win0_1.index t 0 = 0 ∧ win0_1.index t 1 = t.val / 8 :=
  (by decide +kernel : ∀ t : Fin grid0.N, _)

theorem idx_2 : ∀ t : Fin cfg0.N, win0_2.index t 0 = t.val % 8 ∧ win0_2.index t 1 = t.val / 8 :=
  (by decide +kernel : ∀ t : Fin grid0.N, _)

/-- The product of two blocks. -/
theorem pay (x : FVec Ideal S512x1024 .f32) (y : FVec Ideal S1024x640 .bf16) (i : Fin 512) (j : Fin 640) :
    (k0_pay1 (F := Ideal) x y (ix2 i j) : EReal) = ∑ l : Fin 1024, (x (ix2 i l) : EReal) * y (ix2 l j) := by
  unfold k0_pay1
  pointwise

variable (m : (ℓ : Loc nD τ sig) → ℓ.2.ty.Contents (Elt Ideal)) (c : Dev nD)

/-- The two factors' entries. -/
def fa : ℕ → ℕ → EReal := entry (a := 4096) (b := 1024) (m ((c : Thread nD τ).loc main_arg0))
def fb : ℕ → ℕ → EReal := entry (a := 1024) (b := 1920) (m ((c : Thread nD τ).loc main_arg1))

theorem iblk_0 (t : Fin cfg0.N) (i : Fin 512) (l : Fin 1024) :
    (iblk m c 0 t (ix2 i l) : EReal) = fa m c (512 * (t.val % 8) + i) l := by
  obtain ⟨h0, h1⟩ := idx_0 t
  show (((cfg0.win 0).blk t).view.read (Elt Ideal) (V m c main_arg0) (ix2 i l) : EReal) = _
  rw [V_main_arg0 m c, View.read_apply]
  refine entry_at (a := 4096) (b := 1024) (m ((c : Thread nD τ).loc main_arg0)) _ ?_ ?_
  · show win0_0.index t 0 * 512 + 1 * (i : ℕ) = _
    omega
  · show win0_0.index t 1 * 1024 + 1 * (l : ℕ) = _
    omega

theorem iblk_1 (t : Fin cfg0.N) (l : Fin 1024) (j : Fin 640) :
    (iblk m c 1 t (ix2 l j) : EReal) = fb m c l (640 * (t.val / 8) + j) := by
  obtain ⟨h0, h1⟩ := idx_1 t
  show (((cfg0.win 1).blk t).view.read (Elt Ideal) (V m c main_arg1) (ix2 l j) : EReal) = _
  rw [V_main_arg1 m c, View.read_apply]
  refine entry_at (a := 1024) (b := 1920) (m ((c : Thread nD τ).loc main_arg1)) _ ?_ ?_
  · show win0_1.index t 0 * 1024 + 1 * (l : ℕ) = _
    omega
  · show win0_1.index t 1 * 640 + 1 * (j : ℕ) = _
    omega

/-- The product as an array. -/
def out : FVec Ideal S4096x1920 .f32 := fun i => (∑ l : Fin 1024, fa m c (i 0) l * fb m c l (i 1) : EReal)

theorem flushed_2 (t : Fin cfg0.N) :
    (dats m 0 c).flushed 2 t = ((cfg0.win 2).blk t).view.read (Elt Ideal) (out m c) := by
  refine (Cert.Kernel9Ideal.Value.flushed2 m c t).trans ?_
  funext y
  obtain ⟨i, j, rfl⟩ : ∃ (i : Fin 512) (j : Fin 640), y = ix2 i j := ⟨y 0, y 1, eq_ix2 y⟩
  have e := pay (iblk m c 0 t) (iblk m c 1 t) i j
  simp only [iblk_0, iblk_1] at e
  have e1 : (out0_2 (iblk m c 0 t) (iblk m c 1 t) (ix2 i j) : EReal) = k0_pay1 (iblk m c 0 t) (iblk m c 1 t) (ix2 i j) := by
    frame_out
  refine (e1.trans e).trans ?_
  obtain ⟨h0, h1⟩ := idx_2 t
  rw [View.read_apply]
  show _ = ∑ l : Fin 1024, fa m c (win0_2.index t 0 * 512 + 1 * (i : ℕ)) l * fb m c l (win0_2.index t 1 * 640 + 1 * (j : ℕ))
  rw [h0, h1, show t.val % 8 * 512 + 1 * (i : ℕ) = 512 * (t.val % 8) + i by omega, show t.val / 8 * 640 + 1 * (j : ℕ) = 640 * (t.val / 8) + j by omega]

theorem final : (dats m 0 c).arrAt 2 cfg0.N = out m c :=
  (dats m 0 c).arrAt_eq_of_cover 2 (out m c) (fun t _ => flushed_2 m c t) fun i => by
    have b0 : (i 0 : ℕ) < 4096 := (i 0).isLt
    have b1 : (i 1 : ℕ) < 1920 := (i 1).isLt
    obtain ⟨t, ht⟩ : ∃ t : Fin cfg0.N, t.val = (i 1 : ℕ) / 640 * 8 + (i 0 : ℕ) / 512 := ⟨⟨(i 1 : ℕ) / 640 * 8 + (i 0 : ℕ) / 512, show _ < grid0.N by rw [N_0]; omega⟩, rfl⟩
    obtain ⟨h0, h1⟩ := idx_2 t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 512 ≤ (i 0 : ℕ) ∧ (i 0 : ℕ) < win0_2.index t 0 * 512 + 512
      omega
    | ⟨1, _⟩ =>
      show win0_2.index t 1 * 640 ≤ (i 1 : ℕ) ∧ (i 1 : ℕ) < win0_2.index t 1 * 640 + 640
      omega

/-- The reference's product of the same two factors. -/
theorem reference_eq (a : FVec Ideal Cert.Reference9Ideal.S4096x1024 .f32) (b : FVec Ideal Cert.Reference9Ideal.S1024x1920 .bf16)
    (ha : a = m ((c : Thread nD τ).loc main_arg0)) (hb : b = m ((c : Thread nD τ).loc main_arg1)) :
    Host.dotGeneral Cert.Reference9Ideal.dot_S4096x1024_S1024x1920_S4096x1920_1_0_0_1_n_n none a (extf .f32 b Cert.Reference9Ideal.Gen.bitsLt_bf16_f32) = out m c := by
  funext y
  obtain ⟨i, j, rfl⟩ : ∃ (i : Fin 4096) (j : Fin 1920), y = ix2 i j := ⟨y 0, y 1, eq_ix2 y⟩
  show _ = ∑ l : Fin 1024, fa m c i l * fb m c l j
  unfold fa fb
  rw [← ha, ← hb]
  pointwise
  refine Finset.sum_congr rfl fun l _ => ?_
  rw [entry_fin a, entry_fin b]

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- The kernel's result is the reference's. -/
theorem algebraic : Cert.algebraic_Kernel9Ideal_Reference9Ideal := by
  intro m g m' g' _ hargs
  refine ⟨fun c => out m c, ?_, ?_⟩
  · refine (θ_run Cert.Kernel9Ideal.defs _ _).mono (fun r h c => ?_) (Cert.Kernel9Ideal.Value.run_blocks m g)
    exact ⟨(h c).1.trans (final m c), (h c).2⟩
  · refine (θ_run Cert.Reference9Ideal.defs _ _).mono (fun r h c => ?_) (Cert.Reference9Ideal.Value.run m' g')
    exact ⟨(h c).1.trans (reference_eq m c _ _ (hargs c).1 (hargs c).2), (h c).2⟩

end Cert.InFwd

end
-- ==== Proof.InDb.lean ====
/- The gradient of the weights of the projection into the time mixing, four blocks of rows summed in the scratch. -/
module

public import proofs.«01_k».proof.Defs
public import proofs.«01_k».proof.Proof.Product
public import Idealize.ShloMosaic.Lib.Pipeline.ValueKit
public import proofs.«01_k».proof.Proof.Gen.Kernel10Ideal.Value
public import proofs.«01_k».proof.Proof.Gen.Reference10Ideal.Run

@[expose] public section

set_option maxRecDepth 16384

noncomputable section

namespace Cert.InDb

open Idealize.ShloMosaic Idealize.ShloMosaic.TcCoe Idealize.ShloMosaic.Tactic
open Cert.Kernel10Ideal Cert.Kernel10Ideal.Gen Cert.Product

theorem idx_0 : ∀ t : Fin cfg0.N, win0_0.index t 0 = t.val % 4 ∧ win0_0.index t 1 = 0 :=
  (by decide +kernel : ∀ t : Fin grid0.N, _)

theorem idx_1 : ∀ t : Fin cfg0.N, win0_1.index t 0 = t.val % 4 ∧ win0_1.index t 1 = t.val / 4 :=
  (by decide +kernel : ∀ t : Fin grid0.N, _)

theorem idx_2 : ∀ t : Fin cfg0.N, win0_2.index t 0 = 0 ∧ win0_2.index t 1 = t.val / 4 :=
  (by decide +kernel : ∀ t : Fin grid0.N, _)

/-- The product of two blocks: the first transposed. -/
theorem pay_first (x : FVec Ideal S1024x1024 .f32) (y : FVec Ideal S1024x640 .f32) (i : Fin 1024) (j : Fin 640) :
    (k0_pay2 (F := Ideal) x y (ix2 i j) : EReal) = ∑ l : Fin 1024, (x (ix2 l i) : EReal) * y (ix2 l j) := by
  unfold k0_pay2 k0_pay1
  pointwise

theorem pay_next (x : FVec Ideal S1024x1024 .f32) (y : FVec Ideal S1024x640 .f32) (z : FVec Ideal S1024x640 .f32) (i : Fin 1024) (j : Fin 640) :
    (k0_pay3 (F := Ideal) x y z (ix2 i j) : EReal) = z (ix2 i j) + ∑ l : Fin 1024, (x (ix2 l i) : EReal) * y (ix2 l j) := by
  unfold k0_pay3 k0_pay1
  pointwise

theorem pay_out (z : FVec Ideal S1024x640 .f32) (i : Fin 1024) (j : Fin 640) :
    (k0_pay4 (F := Ideal) z (ix2 i j) : EReal) = z (ix2 i j) := by
  unfold k0_pay4
  pointwise

variable (m : (ℓ : Loc nD τ sig) → ℓ.2.ty.Contents (Elt Ideal)) (c : Dev nD)

/-- The two factors' entries. -/
def fa : ℕ → ℕ → EReal := entry (a := 4096) (b := 1024) (m ((c : Thread nD τ).loc main_arg0))
def fb : ℕ → ℕ → EReal := entry (a := 4096) (b := 1920) (m ((c : Thread nD τ).loc main_arg1))

theorem iblk_0 (t : Fin cfg0.N) (l : Fin 1024) (i : Fin 1024) :
    (iblk m c 0 t (ix2 l i) : EReal) = fa m c (1024 * (t.val % 4) + l) i := by
  obtain ⟨h0, h1⟩ := idx_0 t
  show (((cfg0.win 0).blk t).view.read (Elt Ideal) (V m c main_arg0) (ix2 l i) : EReal) = _
  rw [V_main_arg0 m c, View.read_apply]
  refine entry_at (a := 4096) (b := 1024) (m ((c : Thread nD τ).loc main_arg0)) _ ?_ ?_
  · show win0_0.index t 0 * 1024 + 1 * (l : ℕ) = _
    omega
  · show win0_0.index t 1 * 1024 + 1 * (i : ℕ) = _
    omega

theorem iblk_1 (t : Fin cfg0.N) (l : Fin 1024) (j : Fin 640) :
    (iblk m c 1 t (ix2 l j) : EReal) = fb m c (1024 * (t.val % 4) + l) (640 * (t.val / 4) + j) := by
  obtain ⟨h0, h1⟩ := idx_1 t
  show (((cfg0.win 1).blk t).view.read (Elt Ideal) (V m c main_arg1) (ix2 l j) : EReal) = _
  rw [V_main_arg1 m c, View.read_apply]
  refine entry_at (a := 4096) (b := 1920) (m ((c : Thread nD τ).loc main_arg1)) _ ?_ ?_
  · show win0_1.index t 0 * 1024 + 1 * (l : ℕ) = _
    omega
  · show win0_1.index t 1 * 640 + 1 * (j : ℕ) = _
    omega

/-- What the scratch holds after a point: the sum over the rows read so far. -/
theorem sums (i : Fin 1024) (j : Fin 640) (n : ℕ) (hn : n < cfg0.N) : ((outsAt0 m c n hn).2 (ix2 i j) : EReal)
    = 0 + ∑ l ∈ Finset.range (1024 * (n % 4 + 1)), fa m c l i * fb m c l (640 * (n / 4) + j) := by
  refine runs 4 1024 (fun n hn => ((outsAt0 m c n hn).2 (ix2 i j) : EReal)) (fun _ => 0)
    (fun q l => fa m c l i * fb m c l (640 * q + j)) (fun t h0 => ?_) (fun t h0 => ?_) n hn
  · rw [outsAt0_A m c t h0 (by omega) (by omega)]
    dsimp only
    frame_out
    refine (pay_first _ _ i j).trans ?_
    rw [zero_add]
    simp only [iblk_0, iblk_1]
  · have e := pay_next (iblk m c 0 t) (iblk m c 1 t) (outsAt0 m c (t.val - 1) (Nat.lt_of_le_of_lt (Nat.sub_le _ _) t.isLt)).2 i j
    simp only [iblk_0, iblk_1] at e
    refine Eq.trans ?_ e
    by_cases h2 : t.val % 4 = 3
    · rw [outsAt0_C m c t h0 (by omega) h2]
      dsimp only
      frame_out
      rw [Memref.IsWhole.read_unread (Memref.isWhole_whole cc0_scratch0)]
    · rw [outsAt0_B m c t h0 (by omega) h2]
      dsimp only
      frame_out
      rw [Memref.IsWhole.read_unread (Memref.isWhole_whole cc0_scratch0)]

/-- The product as an array. -/
def out : FVec Ideal S1024x1920 .bf16 := fun i => (∑ l ∈ Finset.range 4096, fa m c l (i 0) * fb m c l (i 1) : EReal)

/-- At the last point of a run the output is the sum the scratch holds. -/
theorem flushed_2 (t : Fin cfg0.N) (h2 : t.val % 4 = 3) :
    (dats m 0 c).flushed 2 t = ((cfg0.win 2).blk t).view.read (Elt Ideal) (out m c) := by
  refine (Cert.Kernel10Ideal.Value.flushed2 m c t).trans ?_
  funext y
  obtain ⟨i, j, rfl⟩ : ∃ (i : Fin 1024) (j : Fin 640), y = ix2 i j := ⟨y 0, y 1, eq_ix2 y⟩
  have e := sums m c i j t.val t.isLt
  rw [h2, zero_add] at e
  have e1 : ((outsAt0 m c t.val t.isLt).1 (ix2 i j) : EReal) = (outsAt0 m c t.val t.isLt).2 (ix2 i j) := by
    rw [outsAt0_C m c t (by omega) (by omega) h2]
    dsimp only
    frame_out
    exact pay_out _ i j
  refine (e1.trans e).trans ?_
  obtain ⟨h0, h1⟩ := idx_2 t
  rw [View.read_apply]
  show _ = ∑ l ∈ Finset.range 4096, fa m c l (win0_2.index t 0 * 1024 + 1 * (i : ℕ)) * fb m c l (win0_2.index t 1 * 640 + 1 * (j : ℕ))
  rw [h0, h1, show 0 * 1024 + 1 * (i : ℕ) = i by omega, show t.val / 4 * 640 + 1 * (j : ℕ) = 640 * (t.val / 4) + j by omega]

theorem final : (dats m 0 c).arrAt 2 cfg0.N = out m c :=
  (dats m 0 c).arrAt_eq_of_cover 2 (out m c) (fun t hf => flushed_2 m c t ((flush0_2 t).mp hf)) fun i =>
    (Cert.Kernel10Ideal.Value.covered_iff2 i).mpr ⟨Nat.zero_le _, (i 0).isLt, Nat.zero_le _, (i 1).isLt⟩

/-- The reference's product of the same two factors. -/
theorem reference_eq (a : FVec Ideal Cert.Reference10Ideal.S4096x1024 .f32) (b : FVec Ideal Cert.Reference10Ideal.S4096x1920 .f32)
    (ha : a = m ((c : Thread nD τ).loc main_arg0)) (hb : b = m ((c : Thread nD τ).loc main_arg1)) :
    truncf .bf16 (transpose Cert.Reference10Ideal.S1024x1920 [1, 0] (Host.dotGeneral Cert.Reference10Ideal.dot_S4096x1920_S4096x1024_S1920x1024_0_0_1_1_n_n none b a)
      Cert.Reference10Ideal.Gen.transposes_S1920x1024_S1024x1920_1_0) Cert.Reference10Ideal.Gen.bitsLt_bf16_f32 = out m c := by
  funext y
  obtain ⟨i, j, rfl⟩ : ∃ (i : Fin 1024) (j : Fin 1920), y = ix2 i j := ⟨y 0, y 1, eq_ix2 y⟩
  show _ = ∑ l ∈ Finset.range 4096, fa m c l i * fb m c l j
  unfold fa fb
  rw [← ha, ← hb, Finset.sum_range]
  pointwise
  refine Finset.sum_congr rfl fun l _ => ?_
  rw [mul_comm, entry_fin b, entry_fin a]

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

/-- The kernel's result is the reference's. -/
theorem algebraic : Cert.algebraic_Kernel10Ideal_Reference10Ideal := by
  intro m g m' g' _ hargs
  refine ⟨fun c => out m c, ?_, ?_⟩
  · refine (θ_run Cert.Kernel10Ideal.defs _ _).mono (fun r h c => ?_) (Cert.Kernel10Ideal.Value.run_blocks m g)
    exact ⟨(h c).1.trans (final m c), (h c).2⟩
  · refine (θ_run Cert.Reference10Ideal.defs _ _).mono (fun r h c => ?_) (Cert.Reference10Ideal.Value.run m' g')
    exact ⟨(h c).1.trans (reference_eq m c _ _ (hargs c).1 (hargs c).2), (h c).2⟩

end Cert.InDb

end
-- ==== Proof.InDa.lean ====
/- The gradient of the rows through the projection into the time mixing, three blocks of columns summed in the output. -/
module

public import proofs.«01_k».proof.Defs
public import proofs.«01_k».proof.Proof.Product
public import Idealize.ShloMosaic.Lib.Pipeline.ValueKit
public import proofs.«01_k».proof.Proof.Gen.Kernel11Ideal.Value
public import proofs.«01_k».proof.Proof.Gen.Reference11Ideal.Run

@[expose] public section

set_option maxRecDepth 16384

noncomputable section

namespace Cert.InDa

open Idealize.ShloMosaic Idealize.ShloMosaic.TcCoe Idealize.ShloMosaic.Tactic
open Cert.Kernel11Ideal Cert.Kernel11Ideal.Gen Cert.Product

theorem idx_0 : ∀ t : Fin cfg0.N, win0_0.index t 0 = t.val / 3 ∧ win0_0.index t 1 = t.val % 3 :=
  (by decide +kernel : ∀ t : Fin grid0.N, _)

theorem idx_1 : ∀ t : Fin cfg0.N, win0_1.index t 0 = 0 ∧ win0_1.index t 1 = t.val % 3 :=
  (by decide +kernel : ∀ t : Fin grid0.N, _)

theorem idx_2 : ∀ t : Fin cfg0.N, win0_2.index t 0 = t.val / 3 ∧ win0_2.index t 1 = 0 :=
  (by decide +kernel : ∀ t : Fin grid0.N, _)

/-- The product of two blocks, the second transposed. -/
theorem pay_first (x : FVec Ideal S512x640 .f32) (y : FVec Ideal S1024x640 .bf16) (i : Fin 512) (j : Fin 1024) :
    (k0_pay1 (F := Ideal) x y (ix2 i j) : EReal) = ∑ l : Fin 640, (x (ix2 i l) : EReal) * y (ix2 j l) := by
  unfold k0_pay1
  pointwise

theorem pay_next (x : FVec Ideal S512x640 .f32) (y : FVec Ideal S1024x640 .bf16) (z : FVec Ideal S512x1024 .f32) (i : Fin 512) (j : Fin 1024) :
    (k0_pay2 (F := Ideal) x y z (ix2 i j) : EReal) = z (ix2 i j) + ∑ l : Fin 640, (x (ix2 i l) : EReal) * y (ix2 j l) := by
  unfold k0_pay2 k0_pay1
  pointwise

variable (m : (ℓ : Loc nD τ sig) → ℓ.2.ty.Contents (Elt Ideal)) (c : Dev nD)

/-- The two factors' entries. -/
def fa : ℕ → ℕ → EReal := entry (a := 4096) (b := 1920) (m ((c : Thread nD τ).loc main_arg0))
def fb : ℕ → ℕ → EReal := entry (a := 1024) (b := 1920) (m ((c : Thread nD τ).loc main_arg1))

theorem iblk_0 (t : Fin cfg0.N) (i : Fin 512) (l : Fin 640) :
    (iblk m c 0 t (ix2 i l) : EReal) = fa m c (512 * (t.val / 3) + i) (640 * (t.val % 3) + l) := by
  obtain ⟨h0, h1⟩ := idx_0 t
  show (((cfg0.win 0).blk t).view.read (Elt Ideal) (V m c main_arg0) (ix2 i l) : EReal) = _
  rw [V_main_arg0 m c, View.read_apply]
  refine entry_at (a := 4096) (b := 1920) (m ((c : Thread nD τ).loc main_arg0)) _ ?_ ?_
  · show win0_0.index t 0 * 512 + 1 * (i : ℕ) = _
    omega
  · show win0_0.index t 1 * 640 + 1 * (l : ℕ) = _
    omega

theorem iblk_1 (t : Fin cfg0.N) (j : Fin 1024) (l : Fin 640) :
    (iblk m c 1 t (ix2 j l) : EReal) = fb m c j (640 * (t.val % 3) + l) := by
  obtain ⟨h0, h1⟩ := idx_1 t
  show (((cfg0.win 1).blk t).view.read (Elt Ideal) (V m c main_arg1) (ix2 j l) : EReal) = _
  rw [V_main_arg1 m c, View.read_apply]
  refine entry_at (a := 1024) (b := 1920) (m ((c : Thread nD τ).loc main_arg1)) _ ?_ ?_
  · show win0_1.index t 0 * 1024 + 1 * (j : ℕ) = _
    omega
  · show win0_1.index t 1 * 640 + 1 * (l : ℕ) = _
    omega

/-- What the output holds after a point: the sum over the columns read so far. -/
theorem sums (i : Fin 512) (j : Fin 1024) (n : ℕ) (hn : n < cfg0.N) : (outsAt0 m c n hn (ix2 i j) : EReal)
    = 0 + ∑ l ∈ Finset.range (640 * (n % 3 + 1)), fa m c (512 * (n / 3) + i) l * fb m c j l := by
  refine runs 3 640 (fun n hn => (outsAt0 m c n hn (ix2 i j) : EReal)) (fun _ => 0)
    (fun q l => fa m c (512 * q + i) l * fb m c j l) (fun t h0 => ?_) (fun t h0 => ?_) n hn
  · have e := pay_first (iblk m c 0 t) (iblk m c 1 t) i j
    simp only [iblk_0, iblk_1] at e
    refine Eq.trans ?_ (e.trans (zero_add _).symm)
    rw [outsAt0_A m c t h0 (by omega)]
    frame_out
  · have e := pay_next (iblk m c 0 t) (iblk m c 1 t) (outsAt0 m c (t.val - 1) (Nat.lt_of_le_of_lt (Nat.sub_le _ _) t.isLt)) i j
    simp only [iblk_0, iblk_1] at e
    refine Eq.trans ?_ e
    rw [outsAt0_B m c t h0 (by omega)]
    frame_out

/-- The result as an array. -/
def out : FVec Ideal S4096x1024 .f32 := fun i => (∑ l ∈ Finset.range 1920, fa m c (i 0) l * fb m c (i 1) l : EReal)

theorem flushed_2 (t : Fin cfg0.N) (ht : t.val % 3 = 2) :
    (dats m 0 c).flushed 2 t = ((cfg0.win 2).blk t).view.read (Elt Ideal) (out m c) := by
  refine (Cert.Kernel11Ideal.Value.flushed2 m c t).trans ?_
  funext y
  obtain ⟨i, j, rfl⟩ : ∃ (i : Fin 512) (j : Fin 1024), y = ix2 i j := ⟨y 0, y 1, eq_ix2 y⟩
  have e := sums m c i j t.val t.isLt
  rw [ht, zero_add] at e
  refine e.trans ?_
  obtain ⟨h0, h1⟩ := idx_2 t
  rw [View.read_apply]
  show _ = ∑ l ∈ Finset.range 1920, fa m c (win0_2.index t 0 * 512 + 1 * (i : ℕ)) l * fb m c (win0_2.index t 1 * 1024 + 1 * (j : ℕ)) l
  rw [h0, h1, show t.val / 3 * 512 + 1 * (i : ℕ) = 512 * (t.val / 3) + i by omega, show 0 * 1024 + 1 * (j : ℕ) = j by omega]

theorem final : (dats m 0 c).arrAt 2 cfg0.N = out m c :=
  (dats m 0 c).arrAt_eq_of_cover 2 (out m c) (fun t hf => flushed_2 m c t ((flush0_2 t).mp hf)) fun i => by
    have b0 : (i 0 : ℕ) < 4096 := (i 0).isLt
    have b1 : (i 1 : ℕ) < 1024 := (i 1).isLt
    obtain ⟨t, ht⟩ : ∃ t : Fin cfg0.N, t.val = (i 0 : ℕ) / 512 * 3 + 2 := ⟨⟨(i 0 : ℕ) / 512 * 3 + 2, show _ < grid0.N by rw [N_0]; omega⟩, rfl⟩
    obtain ⟨h0, h1⟩ := idx_2 t
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 512 ≤ (i 0 : ℕ) ∧ (i 0 : ℕ) < win0_2.index t 0 * 512 + 512
      omega
    | ⟨1, _⟩ =>
      show win0_2.index t 1 * 1024 ≤ (i 1 : ℕ) ∧ (i 1 : ℕ) < win0_2.index t 1 * 1024 + 1024
      omega

/-- The reference's result of the same arguments. -/
theorem reference_eq (a : FVec Ideal Cert.Reference11Ideal.S4096x1920 .f32) (b : FVec Ideal Cert.Reference11Ideal.S1024x1920 .bf16)
    (ha : a = m ((c : Thread nD τ).loc main_arg0)) (hb : b = m ((c : Thread nD τ).loc main_arg1)) :
    Host.dotGeneral Cert.Reference11Ideal.dot_S4096x1920_S1024x1920_S4096x1024_1_1_0_0_n_n none a (extf .f32 b Cert.Reference11Ideal.Gen.bitsLt_bf16_f32) = out m c := by
  funext y
  obtain ⟨i, j, rfl⟩ : ∃ (i : Fin 4096) (j : Fin 1024), y = ix2 i j := ⟨y 0, y 1, eq_ix2 y⟩
  show _ = ∑ l ∈ Finset.range 1920, fa m c i l * fb m c j l
  unfold fa fb
  rw [← ha, ← hb, Finset.sum_range]
  pointwise
  refine Finset.sum_congr rfl fun l _ => ?_
  rw [entry_fin a, entry_fin b]

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

/-- The kernel's result is the reference's. -/
theorem algebraic : Cert.algebraic_Kernel11Ideal_Reference11Ideal := by
  intro m g m' g' _ hargs
  refine ⟨fun c => out m c, ?_, ?_⟩
  · refine (θ_run Cert.Kernel11Ideal.defs _ _).mono (fun r h c => ?_) (Cert.Kernel11Ideal.Value.run_blocks m g)
    exact ⟨(h c).1.trans (final m c), (h c).2⟩
  · refine (θ_run Cert.Reference11Ideal.defs _ _).mono (fun r h c => ?_) (Cert.Reference11Ideal.Value.run m' g')
    exact ⟨(h c).1.trans (reference_eq m c _ _ (hargs c).1 (hargs c).2), (h c).2⟩

end Cert.InDa

end
-- ==== Proof.OutFwd.lean ====
/- The projection out of a mixer, added to the rows: every point's block of the result is a whole product. -/
module

public import proofs.«01_k».proof.Defs
public import proofs.«01_k».proof.Proof.Product
public import Idealize.ShloMosaic.Lib.Pipeline.ValueKit
public import proofs.«01_k».proof.Proof.Gen.Kernel12Ideal.Value
public import proofs.«01_k».proof.Proof.Gen.Reference12Ideal.Run

@[expose] public section

set_option maxRecDepth 16384

noncomputable section

namespace Cert.OutFwd

open Idealize.ShloMosaic Idealize.ShloMosaic.TcCoe Idealize.ShloMosaic.Tactic
open Cert.Kernel12Ideal Cert.Kernel12Ideal.Gen Cert.Product

theorem idx_0 : ∀ t : Fin cfg0.N, win0_0.index t 0 = t.val ∧ win0_0.index t 1 = 0 :=
  (by decide +kernel : ∀ t : Fin grid0.N, _)

theorem idx_1 : ∀ t : Fin cfg0.N, win0_1.index t 0 = 0 ∧ win0_1.index t 1 = 0 :=
  (by decide +kernel : ∀ t : Fin grid0.N, _)

theorem idx_2 : ∀ t : Fin cfg0.N, win0_2.index t 0 = t.val ∧ win0_2.index t 1 = 0 :=
  (by decide +kernel : ∀ t : Fin grid0.N, _)

theorem idx_3 : ∀ t : Fin cfg0.N, win0_3.index t 0 = t.val ∧ win0_3.index t 1 = 0 :=
  (by decide +kernel : ∀ t : Fin grid0.N, _)

/-- The product of two blocks beside what was there. -/
theorem pay (x : FVec Ideal S512x512 .f32) (y : FVec Ideal S512x1024 .bf16) (z : FVec Ideal S512x1024 .f32) (i : Fin 512) (j : Fin 1024) :
    (k0_pay1 (F := Ideal) x y z (ix2 i j) : EReal) = z (ix2 i j) + ∑ l : Fin 512, (x (ix2 i l) : EReal) * y (ix2 l j) := by
  rw [add_comm]
  unfold k0_pay1
  pointwise

variable (m : (ℓ : Loc nD τ sig) → ℓ.2.ty.Contents (Elt Ideal)) (c : Dev nD)

/-- The entries of the two factors and of the rows. -/
def fa : ℕ → ℕ → EReal := entry (a := 4096) (b := 512) (m ((c : Thread nD τ).loc main_arg0))
def fb : ℕ → ℕ → EReal := entry (a := 512) (b := 1024) (m ((c : Thread nD τ).loc main_arg1))
def fc : ℕ → ℕ → EReal := entry (a := 4096) (b := 1024) (m ((c : Thread nD τ).loc main_arg2))

theorem iblk_0 (t : Fin cfg0.N) (i : Fin 512) (l : Fin 512) :
    (iblk m c 0 t (ix2 i l) : EReal) = fa m c (512 * t.val + i) l := by
  obtain ⟨h0, h1⟩ := idx_0 t
  show (((cfg0.win 0).blk t).view.read (Elt Ideal) (V m c main_arg0) (ix2 i l) : EReal) = _
  rw [V_main_arg0 m c, View.read_apply]
  refine entry_at (a := 4096) (b := 512) (m ((c : Thread nD τ).loc main_arg0)) _ ?_ ?_
  · show win0_0.index t 0 * 512 + 1 * (i : ℕ) = _
    omega
  · show win0_0.index t 1 * 512 + 1 * (l : ℕ) = _
    omega

theorem iblk_1 (t : Fin cfg0.N) (l : Fin 512) (j : Fin 1024) :
    (iblk m c 1 t (ix2 l j) : EReal) = fb m c l j := by
  obtain ⟨h0, h1⟩ := idx_1 t
  show (((cfg0.win 1).blk t).view.read (Elt Ideal) (V m c main_arg1) (ix2 l j) : EReal) = _
  rw [V_main_arg1 m c, View.read_apply]
  refine entry_at (a := 512) (b := 1024) (m ((c : Thread nD τ).loc main_arg1)) _ ?_ ?_
  · show win0_1.index t 0 * 512 + 1 * (l : ℕ) = _
    omega
  · show win0_1.index t 1 * 1024 + 1 * (j : ℕ) = _
    omega

theorem iblk_2 (t : Fin cfg0.N) (i : Fin 512) (j : Fin 1024) :
    (iblk m c 2 t (ix2 i j) : EReal) = fc m c (512 * t.val + i) j := by
  obtain ⟨h0, h1⟩ := idx_2 t
  show (((cfg0.win 2).blk t).view.read (Elt Ideal) (V m c main_arg2) (ix2 i j) : EReal) = _
  rw [V_main_arg2 m c, View.read_apply]
  refine entry_at (a := 4096) (b := 1024) (m ((c : Thread nD τ).loc main_arg2)) _ ?_ ?_
  · show win0_2.index t 0 * 512 + 1 * (i : ℕ) = _
    omega
  · show win0_2.index t 1 * 1024 + 1 * (j : ℕ) = _
    omega

/-- The result as an array. -/
def out : FVec Ideal S4096x1024 .f32 := fun i => (fc m c (i 0) (i 1) + ∑ l : Fin 512, fa m c (i 0) l * fb m c l (i 1) : EReal)

theorem flushed_3 (t : Fin cfg0.N) :
    (dats m 0 c).flushed 3 t = ((cfg0.win 3).blk t).view.read (Elt Ideal) (out m c) := by
  refine (Cert.Kernel12Ideal.Value.flushed3 m c t).trans ?_
  funext y
  obtain ⟨i, j, rfl⟩ : ∃ (i : Fin 512) (j : Fin 1024), y = ix2 i j := ⟨y 0, y 1, eq_ix2 y⟩
  have e := pay (iblk m c 0 t) (iblk m c 1 t) (iblk m c 2 t) i j
  simp only [iblk_0, iblk_1, iblk_2] at e
  have e1 : (out0_3 (iblk m c 0 t) (iblk m c 1 t) (iblk m c 2 t) (ix2 i j) : EReal) = k0_pay1 (iblk m c 0 t) (iblk m c 1 t) (iblk m c 2 t) (ix2 i j) := by
    frame_out
  refine (e1.trans e).trans ?_
  obtain ⟨h0, h1⟩ := idx_3 t
  rw [View.read_apply]
  show _ = fc m c (win0_3.index t 0 * 512 + 1 * (i : ℕ)) (win0_3.index t 1 * 1024 + 1 * (j : ℕ))
    + ∑ l : Fin 512, fa m c (win0_3.index t 0 * 512 + 1 * (i : ℕ)) l * fb m c l (win0_3.index t 1 * 1024 + 1 * (j : ℕ))
  rw [h0, h1, show t.val * 512 + 1 * (i : ℕ) = 512 * t.val + i by omega, show 0 * 1024 + 1 * (j : ℕ) = j by omega]

theorem final : (dats m 0 c).arrAt 3 cfg0.N = out m c :=
  (dats m 0 c).arrAt_eq_of_cover 3 (out m c) (fun t _ => flushed_3 m c t) fun i => by
    have b0 : (i 0 : ℕ) < 4096 := (i 0).isLt
    have b1 : (i 1 : ℕ) < 1024 := (i 1).isLt
    obtain ⟨t, ht⟩ : ∃ t : Fin cfg0.N, t.val = (i 0 : ℕ) / 512 := ⟨⟨(i 0 : ℕ) / 512, show _ < grid0.N by rw [N_0]; omega⟩, rfl⟩
    obtain ⟨h0, h1⟩ := idx_3 t
    refine ⟨t, flush0_3 t, ?_⟩
    show i ∈ ((View.whole main_v0).slice (win0_3.rect t)).set
    rw [View.set_slice_whole, Rect.mem_set_unit]
    intro a
    match a with
    | ⟨0, _⟩ =>
      show win0_3.index t 0 * 512 ≤ (i 0 : ℕ) ∧ (i 0 : ℕ) < win0_3.index t 0 * 512 + 512
      omega
    | ⟨1, _⟩ =>
      show win0_3.index t 1 * 1024 ≤ (i 1 : ℕ) ∧ (i 1 : ℕ) < win0_3.index t 1 * 1024 + 1024
      omega

/-- The reference's result of the same arguments. -/
theorem reference_eq (a : FVec Ideal Cert.Reference12Ideal.S4096x512 .f32) (b : FVec Ideal Cert.Reference12Ideal.S512x1024 .bf16) (z : FVec Ideal Cert.Reference12Ideal.S4096x1024 .f32)
    (ha : a = m ((c : Thread nD τ).loc main_arg0)) (hb : b = m ((c : Thread nD τ).loc main_arg1)) (hz : z = m ((c : Thread nD τ).loc main_arg2)) :
    addf z (Host.dotGeneral Cert.Reference12Ideal.dot_S4096x512_S512x1024_S4096x1024_1_0_0_1_n_n none a (extf .f32 b Cert.Reference12Ideal.Gen.bitsLt_bf16_f32)) = out m c := by
  funext y
  obtain ⟨i, j, rfl⟩ : ∃ (i : Fin 4096) (j : Fin 1024), y = ix2 i j := ⟨y 0, y 1, eq_ix2 y⟩
  show _ = fc m c i j + ∑ l : Fin 512, fa m c i l * fb m c l j
  unfold fa fb fc
  rw [← ha, ← hb, ← hz]
  pointwise
  rw [entry_fin z]
  refine congrArg _ (Finset.sum_congr rfl fun l _ => ?_)
  rw [entry_fin a, entry_fin b]

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

/-- The kernel's result is the reference's. -/
theorem algebraic : Cert.algebraic_Kernel12Ideal_Reference12Ideal := by
  intro m g m' g' _ hargs
  refine ⟨fun c => out m c, ?_, ?_⟩
  · refine (θ_run Cert.Kernel12Ideal.defs _ _).mono (fun r h c => ?_) (Cert.Kernel12Ideal.Value.run_blocks m g)
    exact ⟨(h c).1.trans (final m c), (h c).2⟩
  · refine (θ_run Cert.Reference12Ideal.defs _ _).mono (fun r h c => ?_) (Cert.Reference12Ideal.Value.run m' g')
    exact ⟨(h c).1.trans (reference_eq m c _ _ _ (hargs c).1 (hargs c).2.1 (hargs c).2.2), (h c).2⟩

end Cert.OutFwd

end
-- ==== Proof.OutDa.lean ====
/- The gradient of the rows through the projection out of a mixer: every point's block is a whole product with the weights transposed. -/
module

public import proofs.«01_k».proof.Defs
public import proofs.«01_k».proof.Proof.Product
public import Idealize.ShloMosaic.Lib.Pipeline.ValueKit
public import proofs.«01_k».proof.Proof.Gen.Kernel13Ideal.Value
public import proofs.«01_k».proof.Proof.Gen.Reference13Ideal.Run

@[expose] public section

set_option maxRecDepth 16384

noncomputable section

namespace Cert.OutDa

open Idealize.ShloMosaic Idealize.ShloMosaic.TcCoe Idealize.ShloMosaic.Tactic
open Cert.Kernel13Ideal Cert.Kernel13Ideal.Gen Cert.Product

theorem idx_0 : ∀ t : Fin cfg0.N, win0_0.index t 0 = t.val % 8 ∧ win0_0.index t 1 = 0 :=
  (by decide +kernel : ∀ t : Fin grid0.N, _)

theorem idx_1 : ∀ t : Fin cfg0.N, win0_1.index t 0 = t.val / 8 ∧ win0_1.index t 1 = 0 :=
  (by decide +kernel : ∀ t : Fin grid0.N, _)

theorem idx_2 : ∀ t : Fin cfg0.N, win0_2.index t 0 = t.val % 8 ∧ win0_2.index t 1 = t.val / 8 :=
  (by decide +kernel : ∀ t : Fin grid0.N, _)

/-- The product of two blocks, the second transposed. -/
theorem pay (x : FVec Ideal S512x1024 .f32) (y : FVec Ideal S512x1024 .bf16) (i : Fin 512) (j : Fin 512) :
    (k0_pay1 (F := Ideal) x y (ix2 i j) : EReal) = ∑ l : Fin 1024, (x (ix2 i l) : EReal) * y (ix2 j l) := by
  unfold k0_pay1
  pointwise

variable (m : (ℓ : Loc nD τ sig) → ℓ.2.ty.Contents (Elt Ideal)) (c : Dev nD)

/-- The two factors' entries. -/
def fa : ℕ → ℕ → EReal := entry (a := 4096) (b := 1024) (m ((c : Thread nD τ).loc main_arg0))
def fb : ℕ → ℕ → EReal := entry (a := 512) (b := 1024) (m ((c : Thread nD τ).loc main_arg1))

theorem iblk_0 (t : Fin cfg0.N) (i : Fin 512) (l : Fin 1024) :
    (iblk m c 0 t (ix2 i l) : EReal) = fa m c (512 * (t.val % 8) + i) l := by
  obtain ⟨h0, h1⟩ := idx_0 t
  show (((cfg0.win 0).blk t).view.read (Elt Ideal) (V m c main_arg0) (ix2 i l) : EReal) = _
  rw [V_main_arg0 m c, View.read_apply]
  refine entry_at (a := 4096) (b := 1024) (m ((c : Thread nD τ).loc main_arg0)) _ ?_ ?_
  · show win0_0.index t 0 * 512 + 1 * (i : ℕ) = _
    omega
  · show win0_0.index t 1 * 1024 + 1 * (l : ℕ) = _
    omega

theorem iblk_1 (t : Fin cfg0.N) (j : Fin 512) (l : Fin 1024) :
    (iblk m c 1 t (ix2 j l) : EReal) = fb m c (512 * (t.val / 8) + j) l := by
  obtain ⟨h0, h1⟩ := idx_1 t
  show (((cfg0.win 1).blk t).view.read (Elt Ideal) (V m c main_arg1) (ix2 j l) : EReal) = _
  rw [V_main_arg1 m c, View.read_apply]
  refine entry_at (a := 512) (b := 1024) (m ((c : Thread nD τ).loc main_arg1)) _ ?_ ?_
  · show win0_1.index t 0 * 512 + 1 * (j : ℕ) = _
    omega
  · show win0_1.index t 1 * 1024 + 1 * (l : ℕ) = _
    omega

/-- The product as an array. -/
def out : FVec Ideal S4096x512 .f32 := fun i => (∑ l : Fin 1024, fa m c (i 0) l * fb m c (i 1) l : EReal)

theorem flushed_2 (t : Fin cfg0.N) :
    (dats m 0 c).flushed 2 t = ((cfg0.win 2).blk t).view.read (Elt Ideal) (out m c) := by
  refine (Cert.Kernel13Ideal.Value.flushed2 m c t).trans ?_
  funext y
  obtain ⟨i, j, rfl⟩ : ∃ (i : Fin 512) (j : Fin 512), y = ix2 i j := ⟨y 0, y 1, eq_ix2 y⟩
  have e := pay (iblk m c 0 t) (iblk m c 1 t) i j
  simp only [iblk_0, iblk_1] at e
  have e1 : (out0_2 (iblk m c 0 t) (iblk m c 1 t) (ix2 i j) : EReal) = k0_pay1 (iblk m c 0 t) (iblk m c 1 t) (ix2 i j) := by
    frame_out
  refine (e1.trans e).trans ?_
  obtain ⟨h0, h1⟩ := idx_2 t
  rw [View.read_apply]
  show _ = ∑ l : Fin 1024, fa m c (win0_2.index t 0 * 512 + 1 * (i : ℕ)) l * fb m c (win0_2.index t 1 * 512 + 1 * (j : ℕ)) l
  rw [h0, h1, show t.val % 8 * 512 + 1 * (i : ℕ) = 512 * (t.val % 8) + i by omega, show t.val / 8 * 512 + 1 * (j : ℕ) = 512 * (t.val / 8) + j by omega]

theorem final : (dats m 0 c).arrAt 2 cfg0.N = out m c :=
  (dats m 0 c).arrAt_eq_of_cover 2 (out m c) (fun t _ => flushed_2 m c t) fun i => by
    have b0 : (i 0 : ℕ) < 4096 := (i 0).isLt
    have b1 : (i 1 : ℕ) < 512 := (i 1).isLt
    obtain ⟨t, ht⟩ : ∃ t : Fin cfg0.N, t.val = (i 1 : ℕ) / 512 * 8 + (i 0 : ℕ) / 512 := ⟨⟨(i 1 : ℕ) / 512 * 8 + (i 0 : ℕ) / 512, show _ < grid0.N by rw [N_0]; omega⟩, rfl⟩
    obtain ⟨h0, h1⟩ := idx_2 t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 512 ≤ (i 0 : ℕ) ∧ (i 0 : ℕ) < win0_2.index t 0 * 512 + 512
      omega
    | ⟨1, _⟩ =>
      show win0_2.index t 1 * 512 ≤ (i 1 : ℕ) ∧ (i 1 : ℕ) < win0_2.index t 1 * 512 + 512
      omega

/-- The reference's product of the same two factors. -/
theorem reference_eq (a : FVec Ideal Cert.Reference13Ideal.S4096x1024 .f32) (b : FVec Ideal Cert.Reference13Ideal.S512x1024 .bf16)
    (ha : a = m ((c : Thread nD τ).loc main_arg0)) (hb : b = m ((c : Thread nD τ).loc main_arg1)) :
    Host.dotGeneral Cert.Reference13Ideal.dot_S4096x1024_S512x1024_S4096x512_1_1_0_0_n_n none a (extf .f32 b Cert.Reference13Ideal.Gen.bitsLt_bf16_f32) = out m c := by
  funext y
  obtain ⟨i, j, rfl⟩ : ∃ (i : Fin 4096) (j : Fin 512), y = ix2 i j := ⟨y 0, y 1, eq_ix2 y⟩
  show _ = ∑ l : Fin 1024, fa m c i l * fb m c j l
  unfold fa fb
  rw [← ha, ← hb]
  pointwise
  refine Finset.sum_congr rfl fun l _ => ?_
  rw [entry_fin a, entry_fin b]

theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

/-- The kernel's result is the reference's. -/
theorem algebraic : Cert.algebraic_Kernel13Ideal_Reference13Ideal := by
  intro m g m' g' _ hargs
  refine ⟨fun c => out m c, ?_, ?_⟩
  · refine (θ_run Cert.Kernel13Ideal.defs _ _).mono (fun r h c => ?_) (Cert.Kernel13Ideal.Value.run_blocks m g)
    exact ⟨(h c).1.trans (final m c), (h c).2⟩
  · refine (θ_run Cert.Reference13Ideal.defs _ _).mono (fun r h c => ?_) (Cert.Reference13Ideal.Value.run m' g')
    exact ⟨(h c).1.trans (reference_eq m c _ _ (hargs c).1 (hargs c).2), (h c).2⟩

end Cert.OutDa

end
-- ==== Proof.OutDb.lean ====
/- The gradient of the weights of the projection out of a mixer, four blocks of rows summed in the scratch. -/
module

public import proofs.«01_k».proof.Defs
public import proofs.«01_k».proof.Proof.Product
public import Idealize.ShloMosaic.Lib.Pipeline.ValueKit
public import proofs.«01_k».proof.Proof.Gen.Kernel14Ideal.Value
public import proofs.«01_k».proof.Proof.Gen.Reference14Ideal.Run

@[expose] public section

set_option maxRecDepth 16384

noncomputable section

namespace Cert.OutDb

open Idealize.ShloMosaic Idealize.ShloMosaic.TcCoe Idealize.ShloMosaic.Tactic
open Cert.Kernel14Ideal Cert.Kernel14Ideal.Gen Cert.Product

theorem idx_0 : ∀ t : Fin cfg0.N, win0_0.index t 0 = t.val % 4 ∧ win0_0.index t 1 = t.val / 4 :=
  (by decide +kernel : ∀ t : Fin grid0.N, _)

theorem idx_1 : ∀ t : Fin cfg0.N, win0_1.index t 0 = t.val % 4 ∧ win0_1.index t 1 = 0 :=
  (by decide +kernel : ∀ t : Fin grid0.N, _)

theorem idx_2 : ∀ t : Fin cfg0.N, win0_2.index t 0 = t.val / 4 ∧ win0_2.index t 1 = 0 :=
  (by decide +kernel : ∀ t : Fin grid0.N, _)

/-- The product of two blocks: the first transposed. -/
theorem pay_first (x : FVec Ideal S1024x512 .f32) (y : FVec Ideal S1024x1024 .f32) (i : Fin 512) (j : Fin 1024) :
    (k0_pay2 (F := Ideal) x y (ix2 i j) : EReal) = ∑ l : Fin 1024, (x (ix2 l i) : EReal) * y (ix2 l j) := by
  unfold k0_pay2 k0_pay1
  pointwise

theorem pay_next (x : FVec Ideal S1024x512 .f32) (y : FVec Ideal S1024x1024 .f32) (z : FVec Ideal S512x1024 .f32) (i : Fin 512) (j : Fin 1024) :
    (k0_pay3 (F := Ideal) x y z (ix2 i j) : EReal) = z (ix2 i j) + ∑ l : Fin 1024, (x (ix2 l i) : EReal) * y (ix2 l j) := by
  unfold k0_pay3 k0_pay1
  pointwise

theorem pay_out (z : FVec Ideal S512x1024 .f32) (i : Fin 512) (j : Fin 1024) :
    (k0_pay4 (F := Ideal) z (ix2 i j) : EReal) = z (ix2 i j) := by
  unfold k0_pay4
  pointwise

variable (m : (ℓ : Loc nD τ sig) → ℓ.2.ty.Contents (Elt Ideal)) (c : Dev nD)

/-- The two factors' entries. -/
def fa : ℕ → ℕ → EReal := entry (a := 4096) (b := 512) (m ((c : Thread nD τ).loc main_arg0))
def fb : ℕ → ℕ → EReal := entry (a := 4096) (b := 1024) (m ((c : Thread nD τ).loc main_arg1))

theorem iblk_0 (t : Fin cfg0.N) (l : Fin 1024) (i : Fin 512) :
    (iblk m c 0 t (ix2 l i) : EReal) = fa m c (1024 * (t.val % 4) + l) (512 * (t.val / 4) + i) := by
  obtain ⟨h0, h1⟩ := idx_0 t
  show (((cfg0.win 0).blk t).view.read (Elt Ideal) (V m c main_arg0) (ix2 l i) : EReal) = _
  rw [V_main_arg0 m c, View.read_apply]
  refine entry_at (a := 4096) (b := 512) (m ((c : Thread nD τ).loc main_arg0)) _ ?_ ?_
  · show win0_0.index t 0 * 1024 + 1 * (l : ℕ) = _
    omega
  · show win0_0.index t 1 * 512 + 1 * (i : ℕ) = _
    omega

theorem iblk_1 (t : Fin cfg0.N) (l : Fin 1024) (j : Fin 1024) :
    (iblk m c 1 t (ix2 l j) : EReal) = fb m c (1024 * (t.val % 4) + l) j := by
  obtain ⟨h0, h1⟩ := idx_1 t
  show (((cfg0.win 1).blk t).view.read (Elt Ideal) (V m c main_arg1) (ix2 l j) : EReal) = _
  rw [V_main_arg1 m c, View.read_apply]
  refine entry_at (a := 4096) (b := 1024) (m ((c : Thread nD τ).loc main_arg1)) _ ?_ ?_
  · show win0_1.index t 0 * 1024 + 1 * (l : ℕ) = _
    omega
  · show win0_1.index t 1 * 1024 + 1 * (j : ℕ) = _
    omega

/-- What the scratch holds after a point: the sum over the rows read so far. -/
theorem sums (i : Fin 512) (j : Fin 1024) (n : ℕ) (hn : n < cfg0.N) : ((outsAt0 m c n hn).2 (ix2 i j) : EReal)
    = 0 + ∑ l ∈ Finset.range (1024 * (n % 4 + 1)), fa m c l (512 * (n / 4) + i) * fb m c l j := by
  refine runs 4 1024 (fun n hn => ((outsAt0 m c n hn).2 (ix2 i j) : EReal)) (fun _ => 0)
    (fun q l => fa m c l (512 * q + i) * fb m c l j) (fun t h0 => ?_) (fun t h0 => ?_) n hn
  · have hN : t.val < 4 := lt_of_lt_of_eq t.isLt N_0
    rw [outsAt0_A m c t h0 (by omega) (by omega)]
    dsimp only
    frame_out
    refine (pay_first _ _ i j).trans ?_
    rw [zero_add]
    simp only [iblk_0, iblk_1]
  · have e := pay_next (iblk m c 0 t) (iblk m c 1 t) (outsAt0 m c (t.val - 1) (Nat.lt_of_le_of_lt (Nat.sub_le _ _) t.isLt)).2 i j
    simp only [iblk_0, iblk_1] at e
    refine Eq.trans ?_ e
    by_cases h2 : t.val % 4 = 3
    · rw [outsAt0_C m c t h0 (by omega) h2]
      dsimp only
      frame_out
      rw [Memref.IsWhole.read_unread (Memref.isWhole_whole cc0_scratch0)]
    · rw [outsAt0_B m c t h0 (by omega) h2]
      dsimp only
      frame_out
      rw [Memref.IsWhole.read_unread (Memref.isWhole_whole cc0_scratch0)]

/-- The product as an array. -/
def out : FVec Ideal S512x1024 .bf16 := fun i => (∑ l ∈ Finset.range 4096, fa m c l (i 0) * fb m c l (i 1) : EReal)

/-- At the last point of a run the output is the sum the scratch holds. -/
theorem flushed_2 (t : Fin cfg0.N) (h2 : t.val % 4 = 3) :
    (dats m 0 c).flushed 2 t = ((cfg0.win 2).blk t).view.read (Elt Ideal) (out m c) := by
  refine (Cert.Kernel14Ideal.Value.flushed2 m c t).trans ?_
  funext y
  obtain ⟨i, j, rfl⟩ : ∃ (i : Fin 512) (j : Fin 1024), y = ix2 i j := ⟨y 0, y 1, eq_ix2 y⟩
  have e := sums m c i j t.val t.isLt
  rw [h2, zero_add] at e
  have e1 : ((outsAt0 m c t.val t.isLt).1 (ix2 i j) : EReal) = (outsAt0 m c t.val t.isLt).2 (ix2 i j) := by
    rw [outsAt0_C m c t (by omega) (by omega) h2]
    dsimp only
    frame_out
    exact pay_out _ i j
  refine (e1.trans e).trans ?_
  obtain ⟨h0, h1⟩ := idx_2 t
  rw [View.read_apply]
  show _ = ∑ l ∈ Finset.range 4096, fa m c l (win0_2.index t 0 * 512 + 1 * (i : ℕ)) * fb m c l (win0_2.index t 1 * 1024 + 1 * (j : ℕ))
  rw [h0, h1, show t.val / 4 * 512 + 1 * (i : ℕ) = 512 * (t.val / 4) + i by omega, show 0 * 1024 + 1 * (j : ℕ) = j by omega]

theorem final : (dats m 0 c).arrAt 2 cfg0.N = out m c :=
  (dats m 0 c).arrAt_eq_of_cover 2 (out m c) (fun t hf => flushed_2 m c t ((flush0_2 t).mp hf)) fun i =>
    (Cert.Kernel14Ideal.Value.covered_iff2 i).mpr ⟨Nat.zero_le _, (i 0).isLt, Nat.zero_le _, (i 1).isLt⟩

/-- The reference's product of the same two factors. -/
theorem reference_eq (a : FVec Ideal Cert.Reference14Ideal.S4096x512 .f32) (b : FVec Ideal Cert.Reference14Ideal.S4096x1024 .f32)
    (ha : a = m ((c : Thread nD τ).loc main_arg0)) (hb : b = m ((c : Thread nD τ).loc main_arg1)) :
    truncf .bf16 (transpose Cert.Reference14Ideal.S512x1024 [1, 0] (Host.dotGeneral Cert.Reference14Ideal.dot_S4096x1024_S4096x512_S1024x512_0_0_1_1_n_n none b a)
      Cert.Reference14Ideal.Gen.transposes_S1024x512_S512x1024_1_0) Cert.Reference14Ideal.Gen.bitsLt_bf16_f32 = out m c := by
  funext y
  obtain ⟨i, j, rfl⟩ : ∃ (i : Fin 512) (j : Fin 1024), y = ix2 i j := ⟨y 0, y 1, eq_ix2 y⟩
  show _ = ∑ l ∈ Finset.range 4096, fa m c l i * fb m c l j
  unfold fa fb
  rw [← ha, ← hb, Finset.sum_range]
  pointwise
  refine Finset.sum_congr rfl fun l _ => ?_
  rw [mul_comm, entry_fin b, entry_fin a]

theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run m ρ)

/-- The kernel's result is the reference's. -/
theorem algebraic : Cert.algebraic_Kernel14Ideal_Reference14Ideal := by
  intro m g m' g' _ hargs
  refine ⟨fun c => out m c, ?_, ?_⟩
  · refine (θ_run Cert.Kernel14Ideal.defs _ _).mono (fun r h c => ?_) (Cert.Kernel14Ideal.Value.run_blocks m g)
    exact ⟨(h c).1.trans (final m c), (h c).2⟩
  · refine (θ_run Cert.Reference14Ideal.defs _ _).mono (fun r h c => ?_) (Cert.Reference14Ideal.Value.run m' g')
    exact ⟨(h c).1.trans (reference_eq m c _ _ (hargs c).1 (hargs c).2), (h c).2⟩

end Cert.OutDb

end
-- ==== Proof.In2Fwd.lean ====
/- The projection into the attention: every point's block of the result is a whole product. -/
module

public import proofs.«01_k».proof.Defs
public import proofs.«01_k».proof.Proof.Product
public import Idealize.ShloMosaic.Lib.Pipeline.ValueKit
public import proofs.«01_k».proof.Proof.Gen.Kernel15Ideal.Value
public import proofs.«01_k».proof.Proof.Gen.Reference15Ideal.Run

@[expose] public section

set_option maxRecDepth 16384

noncomputable section

namespace Cert.In2Fwd

open Idealize.ShloMosaic Idealize.ShloMosaic.TcCoe Idealize.ShloMosaic.Tactic
open Cert.Kernel15Ideal Cert.Kernel15Ideal.Gen Cert.Product

theorem idx_0 : ∀ t : Fin cfg0.N, win0_0.index t 0 = t.val % 8 ∧ win0_0.index t 1 = 0 :=
  (by decide +kernel : ∀ t : Fin grid0.N, _)

theorem idx_1 : ∀ t : Fin cfg0.N, win0_1.index t 0 = 0 ∧ win0_1.index t 1 = t.val / 8 :=
  (by decide +kernel : ∀ t : Fin grid0.N, _)

theorem idx_2 : ∀ t : Fin cfg0.N, win0_2.index t 0 = t.val % 8 ∧ win0_2.index t 1 = t.val / 8 :=
  (by decide +kernel : ∀ t : Fin grid0.N, _)

/-- The product of two blocks. -/
theorem pay (x : FVec Ideal S512x1024 .f32) (y : FVec Ideal S1024x1152 .bf16) (i : Fin 512) (j : Fin 1152) :
    (k0_pay1 (F := Ideal) x y (ix2 i j) : EReal) = ∑ l : Fin 1024, (x (ix2 i l) : EReal) * y (ix2 l j) := by
  unfold k0_pay1
  pointwise

variable (m : (ℓ : Loc nD τ sig) → ℓ.2.ty.Contents (Elt Ideal)) (c : Dev nD)

/-- The two factors' entries. -/
def fa : ℕ → ℕ → EReal := entry (a := 4096) (b := 1024) (m ((c : Thread nD τ).loc main_arg0))
def fb : ℕ → ℕ → EReal := entry (a := 1024) (b := 1152) (m ((c : Thread nD τ).loc main_arg1))

theorem iblk_0 (t : Fin cfg0.N) (i : Fin 512) (l : Fin 1024) :
    (iblk m c 0 t (ix2 i l) : EReal) = fa m c (512 * (t.val % 8) + i) l := by
  obtain ⟨h0, h1⟩ := idx_0 t
  show (((cfg0.win 0).blk t).view.read (Elt Ideal) (V m c main_arg0) (ix2 i l) : EReal) = _
  rw [V_main_arg0 m c, View.read_apply]
  refine entry_at (a := 4096) (b := 1024) (m ((c : Thread nD τ).loc main_arg0)) _ ?_ ?_
  · show win0_0.index t 0 * 512 + 1 * (i : ℕ) = _
    omega
  · show win0_0.index t 1 * 1024 + 1 * (l : ℕ) = _
    omega

theorem iblk_1 (t : Fin cfg0.N) (l : Fin 1024) (j : Fin 1152) :
    (iblk m c 1 t (ix2 l j) : EReal) = fb m c l (1152 * (t.val / 8) + j) := by
  obtain ⟨h0, h1⟩ := idx_1 t
  show (((cfg0.win 1).blk t).view.read (Elt Ideal) (V m c main_arg1) (ix2 l j) : EReal) = _
  rw [V_main_arg1 m c, View.read_apply]
  refine entry_at (a := 1024) (b := 1152) (m ((c : Thread nD τ).loc main_arg1)) _ ?_ ?_
  · show win0_1.index t 0 * 1024 + 1 * (l : ℕ) = _
    omega
  · show win0_1.index t 1 * 1152 + 1 * (j : ℕ) = _
    omega

/-- The product as an array. -/
def out : FVec Ideal S4096x1152 .f32 := fun i => (∑ l : Fin 1024, fa m c (i 0) l * fb m c l (i 1) : EReal)

theorem flushed_2 (t : Fin cfg0.N) :
    (dats m 0 c).flushed 2 t = ((cfg0.win 2).blk t).view.read (Elt Ideal) (out m c) := by
  refine (Cert.Kernel15Ideal.Value.flushed2 m c t).trans ?_
  funext y
  obtain ⟨i, j, rfl⟩ : ∃ (i : Fin 512) (j : Fin 1152), y = ix2 i j := ⟨y 0, y 1, eq_ix2 y⟩
  have e := pay (iblk m c 0 t) (iblk m c 1 t) i j
  simp only [iblk_0, iblk_1] at e
  have e1 : (out0_2 (iblk m c 0 t) (iblk m c 1 t) (ix2 i j) : EReal) = k0_pay1 (iblk m c 0 t) (iblk m c 1 t) (ix2 i j) := by
    frame_out
  refine (e1.trans e).trans ?_
  obtain ⟨h0, h1⟩ := idx_2 t
  rw [View.read_apply]
  show _ = ∑ l : Fin 1024, fa m c (win0_2.index t 0 * 512 + 1 * (i : ℕ)) l * fb m c l (win0_2.index t 1 * 1152 + 1 * (j : ℕ))
  rw [h0, h1, show t.val % 8 * 512 + 1 * (i : ℕ) = 512 * (t.val % 8) + i by omega, show t.val / 8 * 1152 + 1 * (j : ℕ) = 1152 * (t.val / 8) + j by omega]

theorem final : (dats m 0 c).arrAt 2 cfg0.N = out m c :=
  (dats m 0 c).arrAt_eq_of_cover 2 (out m c) (fun t _ => flushed_2 m c t) fun i => by
    have b0 : (i 0 : ℕ) < 4096 := (i 0).isLt
    have b1 : (i 1 : ℕ) < 1152 := (i 1).isLt
    obtain ⟨t, ht⟩ : ∃ t : Fin cfg0.N, t.val = (i 1 : ℕ) / 1152 * 8 + (i 0 : ℕ) / 512 := ⟨⟨(i 1 : ℕ) / 1152 * 8 + (i 0 : ℕ) / 512, show _ < grid0.N by rw [N_0]; omega⟩, rfl⟩
    obtain ⟨h0, h1⟩ := idx_2 t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 512 ≤ (i 0 : ℕ) ∧ (i 0 : ℕ) < win0_2.index t 0 * 512 + 512
      omega
    | ⟨1, _⟩ =>
      show win0_2.index t 1 * 1152 ≤ (i 1 : ℕ) ∧ (i 1 : ℕ) < win0_2.index t 1 * 1152 + 1152
      omega

/-- The reference's product of the same two factors. -/
theorem reference_eq (a : FVec Ideal Cert.Reference15Ideal.S4096x1024 .f32) (b : FVec Ideal Cert.Reference15Ideal.S1024x1152 .bf16)
    (ha : a = m ((c : Thread nD τ).loc main_arg0)) (hb : b = m ((c : Thread nD τ).loc main_arg1)) :
    Host.dotGeneral Cert.Reference15Ideal.dot_S4096x1024_S1024x1152_S4096x1152_1_0_0_1_n_n none a (extf .f32 b Cert.Reference15Ideal.Gen.bitsLt_bf16_f32) = out m c := by
  funext y
  obtain ⟨i, j, rfl⟩ : ∃ (i : Fin 4096) (j : Fin 1152), y = ix2 i j := ⟨y 0, y 1, eq_ix2 y⟩
  show _ = ∑ l : Fin 1024, fa m c i l * fb m c l j
  unfold fa fb
  rw [← ha, ← hb]
  pointwise
  refine Finset.sum_congr rfl fun l _ => ?_
  rw [entry_fin a, entry_fin b]

theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run m ρ)

/-- The kernel's result is the reference's. -/
theorem algebraic : Cert.algebraic_Kernel15Ideal_Reference15Ideal := by
  intro m g m' g' _ hargs
  refine ⟨fun c => out m c, ?_, ?_⟩
  · refine (θ_run Cert.Kernel15Ideal.defs _ _).mono (fun r h c => ?_) (Cert.Kernel15Ideal.Value.run_blocks m g)
    exact ⟨(h c).1.trans (final m c), (h c).2⟩
  · refine (θ_run Cert.Reference15Ideal.defs _ _).mono (fun r h c => ?_) (Cert.Reference15Ideal.Value.run m' g')
    exact ⟨(h c).1.trans (reference_eq m c _ _ (hargs c).1 (hargs c).2), (h c).2⟩

end Cert.In2Fwd

end
-- ==== Proof.In2Db.lean ====
/- The gradient of the weights of the projection into the attention, four blocks of rows summed in the scratch. -/
module

public import proofs.«01_k».proof.Defs
public import proofs.«01_k».proof.Proof.Product
public import Idealize.ShloMosaic.Lib.Pipeline.ValueKit
public import proofs.«01_k».proof.Proof.Gen.Kernel16Ideal.Value
public import proofs.«01_k».proof.Proof.Gen.Reference16Ideal.Run

@[expose] public section

set_option maxRecDepth 16384

noncomputable section

namespace Cert.In2Db

open Idealize.ShloMosaic Idealize.ShloMosaic.TcCoe Idealize.ShloMosaic.Tactic
open Cert.Kernel16Ideal Cert.Kernel16Ideal.Gen Cert.Product

theorem idx_0 : ∀ t : Fin cfg0.N, win0_0.index t 0 = t.val % 4 ∧ win0_0.index t 1 = 0 :=
  (by decide +kernel : ∀ t : Fin grid0.N, _)

theorem idx_1 : ∀ t : Fin cfg0.N, win0_1.index t 0 = t.val % 4 ∧ win0_1.index t 1 = t.val / 4 :=
  (by decide +kernel : ∀ t : Fin grid0.N, _)

theorem idx_2 : ∀ t : Fin cfg0.N, win0_2.index t 0 = 0 ∧ win0_2.index t 1 = t.val / 4 :=
  (by decide +kernel : ∀ t : Fin grid0.N, _)

/-- The product of two blocks: the first transposed. -/
theorem pay_first (x : FVec Ideal S1024x1024 .f32) (y : FVec Ideal S1024x1152 .f32) (i : Fin 1024) (j : Fin 1152) :
    (k0_pay2 (F := Ideal) x y (ix2 i j) : EReal) = ∑ l : Fin 1024, (x (ix2 l i) : EReal) * y (ix2 l j) := by
  unfold k0_pay2 k0_pay1
  pointwise

theorem pay_next (x : FVec Ideal S1024x1024 .f32) (y : FVec Ideal S1024x1152 .f32) (z : FVec Ideal S1024x1152 .f32) (i : Fin 1024) (j : Fin 1152) :
    (k0_pay3 (F := Ideal) x y z (ix2 i j) : EReal) = z (ix2 i j) + ∑ l : Fin 1024, (x (ix2 l i) : EReal) * y (ix2 l j) := by
  unfold k0_pay3 k0_pay1
  pointwise

theorem pay_out (z : FVec Ideal S1024x1152 .f32) (i : Fin 1024) (j : Fin 1152) :
    (k0_pay4 (F := Ideal) z (ix2 i j) : EReal) = z (ix2 i j) := by
  unfold k0_pay4
  pointwise

variable (m : (ℓ : Loc nD τ sig) → ℓ.2.ty.Contents (Elt Ideal)) (c : Dev nD)

/-- The two factors' entries. -/
def fa : ℕ → ℕ → EReal := entry (a := 4096) (b := 1024) (m ((c : Thread nD τ).loc main_arg0))
def fb : ℕ → ℕ → EReal := entry (a := 4096) (b := 1152) (m ((c : Thread nD τ).loc main_arg1))

theorem iblk_0 (t : Fin cfg0.N) (l : Fin 1024) (i : Fin 1024) :
    (iblk m c 0 t (ix2 l i) : EReal) = fa m c (1024 * (t.val % 4) + l) i := by
  obtain ⟨h0, h1⟩ := idx_0 t
  show (((cfg0.win 0).blk t).view.read (Elt Ideal) (V m c main_arg0) (ix2 l i) : EReal) = _
  rw [V_main_arg0 m c, View.read_apply]
  refine entry_at (a := 4096) (b := 1024) (m ((c : Thread nD τ).loc main_arg0)) _ ?_ ?_
  · show win0_0.index t 0 * 1024 + 1 * (l : ℕ) = _
    omega
  · show win0_0.index t 1 * 1024 + 1 * (i : ℕ) = _
    omega

theorem iblk_1 (t : Fin cfg0.N) (l : Fin 1024) (j : Fin 1152) :
    (iblk m c 1 t (ix2 l j) : EReal) = fb m c (1024 * (t.val % 4) + l) (1152 * (t.val / 4) + j) := by
  obtain ⟨h0, h1⟩ := idx_1 t
  show (((cfg0.win 1).blk t).view.read (Elt Ideal) (V m c main_arg1) (ix2 l j) : EReal) = _
  rw [V_main_arg1 m c, View.read_apply]
  refine entry_at (a := 4096) (b := 1152) (m ((c : Thread nD τ).loc main_arg1)) _ ?_ ?_
  · show win0_1.index t 0 * 1024 + 1 * (l : ℕ) = _
    omega
  · show win0_1.index t 1 * 1152 + 1 * (j : ℕ) = _
    omega

/-- What the scratch holds after a point: the sum over the rows read so far. -/
theorem sums (i : Fin 1024) (j : Fin 1152) (n : ℕ) (hn : n < cfg0.N) : ((outsAt0 m c n hn).2 (ix2 i j) : EReal)
    = 0 + ∑ l ∈ Finset.range (1024 * (n % 4 + 1)), fa m c l i * fb m c l (1152 * (n / 4) + j) := by
  refine runs 4 1024 (fun n hn => ((outsAt0 m c n hn).2 (ix2 i j) : EReal)) (fun _ => 0)
    (fun q l => fa m c l i * fb m c l (1152 * q + j)) (fun t h0 => ?_) (fun t h0 => ?_) n hn
  · have hN : t.val < 4 := lt_of_lt_of_eq t.isLt N_0
    rw [outsAt0_A m c t h0 (by omega) (by omega)]
    dsimp only
    frame_out
    refine (pay_first _ _ i j).trans ?_
    rw [zero_add]
    simp only [iblk_0, iblk_1]
  · have e := pay_next (iblk m c 0 t) (iblk m c 1 t) (outsAt0 m c (t.val - 1) (Nat.lt_of_le_of_lt (Nat.sub_le _ _) t.isLt)).2 i j
    simp only [iblk_0, iblk_1] at e
    refine Eq.trans ?_ e
    by_cases h2 : t.val % 4 = 3
    · rw [outsAt0_C m c t h0 (by omega) h2]
      dsimp only
      frame_out
      rw [Memref.IsWhole.read_unread (Memref.isWhole_whole cc0_scratch0)]
    · rw [outsAt0_B m c t h0 (by omega) h2]
      dsimp only
      frame_out
      rw [Memref.IsWhole.read_unread (Memref.isWhole_whole cc0_scratch0)]

/-- The product as an array. -/
def out : FVec Ideal S1024x1152 .bf16 := fun i => (∑ l ∈ Finset.range 4096, fa m c l (i 0) * fb m c l (i 1) : EReal)

/-- At the last point of a run the output is the sum the scratch holds. -/
theorem flushed_2 (t : Fin cfg0.N) (h2 : t.val % 4 = 3) :
    (dats m 0 c).flushed 2 t = ((cfg0.win 2).blk t).view.read (Elt Ideal) (out m c) := by
  refine (Cert.Kernel16Ideal.Value.flushed2 m c t).trans ?_
  funext y
  obtain ⟨i, j, rfl⟩ : ∃ (i : Fin 1024) (j : Fin 1152), y = ix2 i j := ⟨y 0, y 1, eq_ix2 y⟩
  have e := sums m c i j t.val t.isLt
  rw [h2, zero_add] at e
  have e1 : ((outsAt0 m c t.val t.isLt).1 (ix2 i j) : EReal) = (outsAt0 m c t.val t.isLt).2 (ix2 i j) := by
    rw [outsAt0_C m c t (by omega) (by omega) h2]
    dsimp only
    frame_out
    exact pay_out _ i j
  refine (e1.trans e).trans ?_
  obtain ⟨h0, h1⟩ := idx_2 t
  rw [View.read_apply]
  show _ = ∑ l ∈ Finset.range 4096, fa m c l (win0_2.index t 0 * 1024 + 1 * (i : ℕ)) * fb m c l (win0_2.index t 1 * 1152 + 1 * (j : ℕ))
  rw [h0, h1, show 0 * 1024 + 1 * (i : ℕ) = i by omega, show t.val / 4 * 1152 + 1 * (j : ℕ) = 1152 * (t.val / 4) + j by omega]

theorem final : (dats m 0 c).arrAt 2 cfg0.N = out m c :=
  (dats m 0 c).arrAt_eq_of_cover 2 (out m c) (fun t hf => flushed_2 m c t ((flush0_2 t).mp hf)) fun i =>
    (Cert.Kernel16Ideal.Value.covered_iff2 i).mpr ⟨Nat.zero_le _, (i 0).isLt, Nat.zero_le _, (i 1).isLt⟩

/-- The reference's product of the same two factors. -/
theorem reference_eq (a : FVec Ideal Cert.Reference16Ideal.S4096x1024 .f32) (b : FVec Ideal Cert.Reference16Ideal.S4096x1152 .f32)
    (ha : a = m ((c : Thread nD τ).loc main_arg0)) (hb : b = m ((c : Thread nD τ).loc main_arg1)) :
    truncf .bf16 (transpose Cert.Reference16Ideal.S1024x1152 [1, 0] (Host.dotGeneral Cert.Reference16Ideal.dot_S4096x1152_S4096x1024_S1152x1024_0_0_1_1_n_n none b a)
      Cert.Reference16Ideal.Gen.transposes_S1152x1024_S1024x1152_1_0) Cert.Reference16Ideal.Gen.bitsLt_bf16_f32 = out m c := by
  funext y
  obtain ⟨i, j, rfl⟩ : ∃ (i : Fin 1024) (j : Fin 1152), y = ix2 i j := ⟨y 0, y 1, eq_ix2 y⟩
  show _ = ∑ l ∈ Finset.range 4096, fa m c l i * fb m c l j
  unfold fa fb
  rw [← ha, ← hb, Finset.sum_range]
  pointwise
  refine Finset.sum_congr rfl fun l _ => ?_
  rw [mul_comm, entry_fin b, entry_fin a]

theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run m ρ)

/-- The kernel's result is the reference's. -/
theorem algebraic : Cert.algebraic_Kernel16Ideal_Reference16Ideal := by
  intro m g m' g' _ hargs
  refine ⟨fun c => out m c, ?_, ?_⟩
  · refine (θ_run Cert.Kernel16Ideal.defs _ _).mono (fun r h c => ?_) (Cert.Kernel16Ideal.Value.run_blocks m g)
    exact ⟨(h c).1.trans (final m c), (h c).2⟩
  · refine (θ_run Cert.Reference16Ideal.defs _ _).mono (fun r h c => ?_) (Cert.Reference16Ideal.Value.run m' g')
    exact ⟨(h c).1.trans (reference_eq m c _ _ (hargs c).1 (hargs c).2), (h c).2⟩

end Cert.In2Db

end
-- ==== Proof.In2Da.lean ====
/- The gradient of the rows through the projection into the attention, beside the gradient through the one into the
   time mixing: every point's block of the result is a whole product with the weights transposed. -/
module

public import proofs.«01_k».proof.Defs
public import proofs.«01_k».proof.Proof.Product
public import Idealize.ShloMosaic.Lib.Pipeline.ValueKit
public import proofs.«01_k».proof.Proof.Gen.Kernel17Ideal.Value
public import proofs.«01_k».proof.Proof.Gen.Reference17Ideal.Run

@[expose] public section

set_option maxRecDepth 16384

noncomputable section

namespace Cert.In2Da

open Idealize.ShloMosaic Idealize.ShloMosaic.TcCoe Idealize.ShloMosaic.Tactic
open Cert.Kernel17Ideal Cert.Kernel17Ideal.Gen Cert.Product

theorem idx_0 : ∀ t : Fin cfg0.N, win0_0.index t 0 = t.val ∧ win0_0.index t 1 = 0 :=
  (by decide +kernel : ∀ t : Fin grid0.N, _)

theorem idx_1 : ∀ t : Fin cfg0.N, win0_1.index t 0 = 0 ∧ win0_1.index t 1 = 0 :=
  (by decide +kernel : ∀ t : Fin grid0.N, _)

theorem idx_2 : ∀ t : Fin cfg0.N, win0_2.index t 0 = t.val ∧ win0_2.index t 1 = 0 :=
  (by decide +kernel : ∀ t : Fin grid0.N, _)

theorem idx_3 : ∀ t : Fin cfg0.N, win0_3.index t 0 = t.val ∧ win0_3.index t 1 = 0 :=
  (by decide +kernel : ∀ t : Fin grid0.N, _)

/-- The product of two blocks, the second transposed, beside what was there. -/
theorem pay (x : FVec Ideal S512x1152 .f32) (y : FVec Ideal S1024x1152 .bf16) (z : FVec Ideal S512x1024 .f32) (i : Fin 512) (j : Fin 1024) :
    (k0_pay1 (F := Ideal) x y z (ix2 i j) : EReal) = z (ix2 i j) + ∑ l : Fin 1152, (x (ix2 i l) : EReal) * y (ix2 j l) := by
  rw [add_comm]
  unfold k0_pay1
  pointwise

variable (m : (ℓ : Loc nD τ sig) → ℓ.2.ty.Contents (Elt Ideal)) (c : Dev nD)

/-- The entries of the two factors and of the rows. -/
def fa : ℕ → ℕ → EReal := entry (a := 4096) (b := 1152) (m ((c : Thread nD τ).loc main_arg0))
def fb : ℕ → ℕ → EReal := entry (a := 1024) (b := 1152) (m ((c : Thread nD τ).loc main_arg1))
def fc : ℕ → ℕ → EReal := entry (a := 4096) (b := 1024) (m ((c : Thread nD τ).loc main_arg2))

theorem iblk_0 (t : Fin cfg0.N) (i : Fin 512) (l : Fin 1152) :
    (iblk m c 0 t (ix2 i l) : EReal) = fa m c (512 * t.val + i) l := by
  obtain ⟨h0, h1⟩ := idx_0 t
  show (((cfg0.win 0).blk t).view.read (Elt Ideal) (V m c main_arg0) (ix2 i l) : EReal) = _
  rw [V_main_arg0 m c, View.read_apply]
  refine entry_at (a := 4096) (b := 1152) (m ((c : Thread nD τ).loc main_arg0)) _ ?_ ?_
  · show win0_0.index t 0 * 512 + 1 * (i : ℕ) = _
    omega
  · show win0_0.index t 1 * 1152 + 1 * (l : ℕ) = _
    omega

theorem iblk_1 (t : Fin cfg0.N) (j : Fin 1024) (l : Fin 1152) :
    (iblk m c 1 t (ix2 j l) : EReal) = fb m c j l := by
  obtain ⟨h0, h1⟩ := idx_1 t
  show (((cfg0.win 1).blk t).view.read (Elt Ideal) (V m c main_arg1) (ix2 j l) : EReal) = _
  rw [V_main_arg1 m c, View.read_apply]
  refine entry_at (a := 1024) (b := 1152) (m ((c : Thread nD τ).loc main_arg1)) _ ?_ ?_
  · show win0_1.index t 0 * 1024 + 1 * (j : ℕ) = _
    omega
  · show win0_1.index t 1 * 1152 + 1 * (l : ℕ) = _
    omega

theorem iblk_2 (t : Fin cfg0.N) (i : Fin 512) (j : Fin 1024) :
    (iblk m c 2 t (ix2 i j) : EReal) = fc m c (512 * t.val + i) j := by
  obtain ⟨h0, h1⟩ := idx_2 t
  show (((cfg0.win 2).blk t).view.read (Elt Ideal) (V m c main_arg2) (ix2 i j) : EReal) = _
  rw [V_main_arg2 m c, View.read_apply]
  refine entry_at (a := 4096) (b := 1024) (m ((c : Thread nD τ).loc main_arg2)) _ ?_ ?_
  · show win0_2.index t 0 * 512 + 1 * (i : ℕ) = _
    omega
  · show win0_2.index t 1 * 1024 + 1 * (j : ℕ) = _
    omega

/-- The result as an array. -/
def out : FVec Ideal S4096x1024 .f32 := fun i => (fc m c (i 0) (i 1) + ∑ l : Fin 1152, fa m c (i 0) l * fb m c (i 1) l : EReal)

theorem flushed_3 (t : Fin cfg0.N) :
    (dats m 0 c).flushed 3 t = ((cfg0.win 3).blk t).view.read (Elt Ideal) (out m c) := by
  refine (Cert.Kernel17Ideal.Value.flushed3 m c t).trans ?_
  funext y
  obtain ⟨i, j, rfl⟩ : ∃ (i : Fin 512) (j : Fin 1024), y = ix2 i j := ⟨y 0, y 1, eq_ix2 y⟩
  have e := pay (iblk m c 0 t) (iblk m c 1 t) (iblk m c 2 t) i j
  simp only [iblk_0, iblk_1, iblk_2] at e
  have e1 : (out0_3 (iblk m c 0 t) (iblk m c 1 t) (iblk m c 2 t) (ix2 i j) : EReal) = k0_pay1 (iblk m c 0 t) (iblk m c 1 t) (iblk m c 2 t) (ix2 i j) := by
    frame_out
  refine (e1.trans e).trans ?_
  obtain ⟨h0, h1⟩ := idx_3 t
  rw [View.read_apply]
  show _ = fc m c (win0_3.index t 0 * 512 + 1 * (i : ℕ)) (win0_3.index t 1 * 1024 + 1 * (j : ℕ))
    + ∑ l : Fin 1152, fa m c (win0_3.index t 0 * 512 + 1 * (i : ℕ)) l * fb m c (win0_3.index t 1 * 1024 + 1 * (j : ℕ)) l
  rw [h0, h1, show t.val * 512 + 1 * (i : ℕ) = 512 * t.val + i by omega, show 0 * 1024 + 1 * (j : ℕ) = j by omega]

theorem final : (dats m 0 c).arrAt 3 cfg0.N = out m c :=
  (dats m 0 c).arrAt_eq_of_cover 3 (out m c) (fun t _ => flushed_3 m c t) fun i => by
    have b0 : (i 0 : ℕ) < 4096 := (i 0).isLt
    have b1 : (i 1 : ℕ) < 1024 := (i 1).isLt
    obtain ⟨t, ht⟩ : ∃ t : Fin cfg0.N, t.val = (i 0 : ℕ) / 512 := ⟨⟨(i 0 : ℕ) / 512, show _ < grid0.N by rw [N_0]; omega⟩, rfl⟩
    obtain ⟨h0, h1⟩ := idx_3 t
    refine ⟨t, flush0_3 t, ?_⟩
    show i ∈ ((View.whole main_v0).slice (win0_3.rect t)).set
    rw [View.set_slice_whole, Rect.mem_set_unit]
    intro a
    match a with
    | ⟨0, _⟩ =>
      show win0_3.index t 0 * 512 ≤ (i 0 : ℕ) ∧ (i 0 : ℕ) < win0_3.index t 0 * 512 + 512
      omega
    | ⟨1, _⟩ =>
      show win0_3.index t 1 * 1024 ≤ (i 1 : ℕ) ∧ (i 1 : ℕ) < win0_3.index t 1 * 1024 + 1024
      omega

/-- The reference's result of the same arguments. -/
theorem reference_eq (a : FVec Ideal Cert.Reference17Ideal.S4096x1152 .f32) (b : FVec Ideal Cert.Reference17Ideal.S1024x1152 .bf16) (z : FVec Ideal Cert.Reference17Ideal.S4096x1024 .f32)
    (ha : a = m ((c : Thread nD τ).loc main_arg0)) (hb : b = m ((c : Thread nD τ).loc main_arg1)) (hz : z = m ((c : Thread nD τ).loc main_arg2)) :
    addf z (Host.dotGeneral Cert.Reference17Ideal.dot_S4096x1152_S1024x1152_S4096x1024_1_1_0_0_n_n none a (extf .f32 b Cert.Reference17Ideal.Gen.bitsLt_bf16_f32)) = out m c := by
  funext y
  obtain ⟨i, j, rfl⟩ : ∃ (i : Fin 4096) (j : Fin 1024), y = ix2 i j := ⟨y 0, y 1, eq_ix2 y⟩
  show _ = fc m c i j + ∑ l : Fin 1152, fa m c i l * fb m c j l
  unfold fa fb fc
  rw [← ha, ← hb, ← hz]
  pointwise
  rw [entry_fin z]
  refine congrArg _ (Finset.sum_congr rfl fun l _ => ?_)
  rw [entry_fin a, entry_fin b]

theorem frame_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run m ρ)

/-- The kernel's result is the reference's. -/
theorem algebraic : Cert.algebraic_Kernel17Ideal_Reference17Ideal := by
  intro m g m' g' _ hargs
  refine ⟨fun c => out m c, ?_, ?_⟩
  · refine (θ_run Cert.Kernel17Ideal.defs _ _).mono (fun r h c => ?_) (Cert.Kernel17Ideal.Value.run_blocks m g)
    exact ⟨(h c).1.trans (final m c), (h c).2⟩
  · refine (θ_run Cert.Reference17Ideal.defs _ _).mono (fun r h c => ?_) (Cert.Reference17Ideal.Value.run m' g')
    exact ⟨(h c).1.trans (reference_eq m c _ _ _ (hargs c).1 (hargs c).2.1 (hargs c).2.2), (h c).2⟩

end Cert.In2Da

end
-- ==== Proof.UqFwd.lean ====
/- The queries' projection: every point's block of the result is a whole product. -/
module

public import proofs.«01_k».proof.Defs
public import proofs.«01_k».proof.Proof.Product
public import Idealize.ShloMosaic.Lib.Pipeline.ValueKit
public import proofs.«01_k».proof.Proof.Gen.Kernel18Ideal.Value
public import proofs.«01_k».proof.Proof.Gen.Reference18Ideal.Run

@[expose] public section

set_option maxRecDepth 16384

noncomputable section

namespace Cert.UqFwd

open Idealize.ShloMosaic Idealize.ShloMosaic.TcCoe Idealize.ShloMosaic.Tactic
open Cert.Kernel18Ideal Cert.Kernel18Ideal.Gen Cert.Product

theorem idx_0 : ∀ t : Fin cfg0.N, win0_0.index t 0 = t.val % 8 ∧ win0_0.index t 1 = 0 :=
  (by decide +kernel : ∀ t : Fin grid0.N, _)

theorem idx_1 : ∀ t : Fin cfg0.N, win0_1.index t 0 = 0 ∧ win0_1.index t 1 = t.val / 8 :=
  (by decide +kernel : ∀ t : Fin grid0.N, _)

theorem idx_2 : ∀ t : Fin cfg0.N, win0_2.index t 0 = t.val % 8 ∧ win0_2.index t 1 = t.val / 8 :=
  (by decide +kernel : ∀ t : Fin grid0.N, _)

/-- The product of two blocks. -/
theorem pay (x : FVec Ideal S512x768 .f32) (y : FVec Ideal S768x1024 .bf16) (i : Fin 512) (j : Fin 1024) :
    (k0_pay1 (F := Ideal) x y (ix2 i j) : EReal) = ∑ l : Fin 768, (x (ix2 i l) : EReal) * y (ix2 l j) := by
  unfold k0_pay1
  pointwise

variable (m : (ℓ : Loc nD τ sig) → ℓ.2.ty.Contents (Elt Ideal)) (c : Dev nD)

/-- The two factors' entries. -/
def fa : ℕ → ℕ → EReal := entry (a := 4096) (b := 768) (m ((c : Thread nD τ).loc main_arg0))
def fb : ℕ → ℕ → EReal := entry (a := 768) (b := 1024) (m ((c : Thread nD τ).loc main_arg1))

theorem iblk_0 (t : Fin cfg0.N) (i : Fin 512) (l : Fin 768) :
    (iblk m c 0 t (ix2 i l) : EReal) = fa m c (512 * (t.val % 8) + i) l := by
  obtain ⟨h0, h1⟩ := idx_0 t
  show (((cfg0.win 0).blk t).view.read (Elt Ideal) (V m c main_arg0) (ix2 i l) : EReal) = _
  rw [V_main_arg0 m c, View.read_apply]
  refine entry_at (a := 4096) (b := 768) (m ((c : Thread nD τ).loc main_arg0)) _ ?_ ?_
  · show win0_0.index t 0 * 512 + 1 * (i : ℕ) = _
    omega
  · show win0_0.index t 1 * 768 + 1 * (l : ℕ) = _
    omega

theorem iblk_1 (t : Fin cfg0.N) (l : Fin 768) (j : Fin 1024) :
    (iblk m c 1 t (ix2 l j) : EReal) = fb m c l (1024 * (t.val / 8) + j) := by
  obtain ⟨h0, h1⟩ := idx_1 t
  show (((cfg0.win 1).blk t).view.read (Elt Ideal) (V m c main_arg1) (ix2 l j) : EReal) = _
  rw [V_main_arg1 m c, View.read_apply]
  refine entry_at (a := 768) (b := 1024) (m ((c : Thread nD τ).loc main_arg1)) _ ?_ ?_
  · show win0_1.index t 0 * 768 + 1 * (l : ℕ) = _
    omega
  · show win0_1.index t 1 * 1024 + 1 * (j : ℕ) = _
    omega

/-- The product as an array. -/
def out : FVec Ideal S4096x1024 .f32 := fun i => (∑ l : Fin 768, fa m c (i 0) l * fb m c l (i 1) : EReal)

theorem flushed_2 (t : Fin cfg0.N) :
    (dats m 0 c).flushed 2 t = ((cfg0.win 2).blk t).view.read (Elt Ideal) (out m c) := by
  refine (Cert.Kernel18Ideal.Value.flushed2 m c t).trans ?_
  funext y
  obtain ⟨i, j, rfl⟩ : ∃ (i : Fin 512) (j : Fin 1024), y = ix2 i j := ⟨y 0, y 1, eq_ix2 y⟩
  have e := pay (iblk m c 0 t) (iblk m c 1 t) i j
  simp only [iblk_0, iblk_1] at e
  have e1 : (out0_2 (iblk m c 0 t) (iblk m c 1 t) (ix2 i j) : EReal) = k0_pay1 (iblk m c 0 t) (iblk m c 1 t) (ix2 i j) := by
    frame_out
  refine (e1.trans e).trans ?_
  obtain ⟨h0, h1⟩ := idx_2 t
  rw [View.read_apply]
  show _ = ∑ l : Fin 768, fa m c (win0_2.index t 0 * 512 + 1 * (i : ℕ)) l * fb m c l (win0_2.index t 1 * 1024 + 1 * (j : ℕ))
  rw [h0, h1, show t.val % 8 * 512 + 1 * (i : ℕ) = 512 * (t.val % 8) + i by omega, show t.val / 8 * 1024 + 1 * (j : ℕ) = 1024 * (t.val / 8) + j by omega]

theorem final : (dats m 0 c).arrAt 2 cfg0.N = out m c :=
  (dats m 0 c).arrAt_eq_of_cover 2 (out m c) (fun t _ => flushed_2 m c t) fun i => by
    have b0 : (i 0 : ℕ) < 4096 := (i 0).isLt
    have b1 : (i 1 : ℕ) < 1024 := (i 1).isLt
    obtain ⟨t, ht⟩ : ∃ t : Fin cfg0.N, t.val = (i 1 : ℕ) / 1024 * 8 + (i 0 : ℕ) / 512 := ⟨⟨(i 1 : ℕ) / 1024 * 8 + (i 0 : ℕ) / 512, show _ < grid0.N by rw [N_0]; omega⟩, rfl⟩
    obtain ⟨h0, h1⟩ := idx_2 t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 512 ≤ (i 0 : ℕ) ∧ (i 0 : ℕ) < win0_2.index t 0 * 512 + 512
      omega
    | ⟨1, _⟩ =>
      show win0_2.index t 1 * 1024 ≤ (i 1 : ℕ) ∧ (i 1 : ℕ) < win0_2.index t 1 * 1024 + 1024
      omega

/-- The reference's product of the same two factors. -/
theorem reference_eq (a : FVec Ideal Cert.Reference18Ideal.S4096x768 .f32) (b : FVec Ideal Cert.Reference18Ideal.S768x1024 .bf16)
    (ha : a = m ((c : Thread nD τ).loc main_arg0)) (hb : b = m ((c : Thread nD τ).loc main_arg1)) :
    Host.dotGeneral Cert.Reference18Ideal.dot_S4096x768_S768x1024_S4096x1024_1_0_0_1_n_n none a (extf .f32 b Cert.Reference18Ideal.Gen.bitsLt_bf16_f32) = out m c := by
  funext y
  obtain ⟨i, j, rfl⟩ : ∃ (i : Fin 4096) (j : Fin 1024), y = ix2 i j := ⟨y 0, y 1, eq_ix2 y⟩
  show _ = ∑ l : Fin 768, fa m c i l * fb m c l j
  unfold fa fb
  rw [← ha, ← hb]
  pointwise
  refine Finset.sum_congr rfl fun l _ => ?_
  rw [entry_fin a, entry_fin b]

theorem frame_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run m ρ)

/-- The kernel's result is the reference's. -/
theorem algebraic : Cert.algebraic_Kernel18Ideal_Reference18Ideal := by
  intro m g m' g' _ hargs
  refine ⟨fun c => out m c, ?_, ?_⟩
  · refine (θ_run Cert.Kernel18Ideal.defs _ _).mono (fun r h c => ?_) (Cert.Kernel18Ideal.Value.run_blocks m g)
    exact ⟨(h c).1.trans (final m c), (h c).2⟩
  · refine (θ_run Cert.Reference18Ideal.defs _ _).mono (fun r h c => ?_) (Cert.Reference18Ideal.Value.run m' g')
    exact ⟨(h c).1.trans (reference_eq m c _ _ (hargs c).1 (hargs c).2), (h c).2⟩

end Cert.UqFwd

end
-- ==== Proof.UqDa.lean ====
/- The gradient of the rows through the queries' projection: every point's block is a whole product with the weights transposed. -/
module

public import proofs.«01_k».proof.Defs
public import proofs.«01_k».proof.Proof.Product
public import Idealize.ShloMosaic.Lib.Pipeline.ValueKit
public import proofs.«01_k».proof.Proof.Gen.Kernel19Ideal.Value
public import proofs.«01_k».proof.Proof.Gen.Reference19Ideal.Run

@[expose] public section

set_option maxRecDepth 16384

noncomputable section

namespace Cert.UqDa

open Idealize.ShloMosaic Idealize.ShloMosaic.TcCoe Idealize.ShloMosaic.Tactic
open Cert.Kernel19Ideal Cert.Kernel19Ideal.Gen Cert.Product

theorem idx_0 : ∀ t : Fin cfg0.N, win0_0.index t 0 = t.val % 8 ∧ win0_0.index t 1 = 0 :=
  (by decide +kernel : ∀ t : Fin grid0.N, _)

theorem idx_1 : ∀ t : Fin cfg0.N, win0_1.index t 0 = t.val / 8 ∧ win0_1.index t 1 = 0 :=
  (by decide +kernel : ∀ t : Fin grid0.N, _)

theorem idx_2 : ∀ t : Fin cfg0.N, win0_2.index t 0 = t.val % 8 ∧ win0_2.index t 1 = t.val / 8 :=
  (by decide +kernel : ∀ t : Fin grid0.N, _)

/-- The product of two blocks, the second transposed. -/
theorem pay (x : FVec Ideal S512x1024 .f32) (y : FVec Ideal S768x1024 .bf16) (i : Fin 512) (j : Fin 768) :
    (k0_pay1 (F := Ideal) x y (ix2 i j) : EReal) = ∑ l : Fin 1024, (x (ix2 i l) : EReal) * y (ix2 j l) := by
  unfold k0_pay1
  pointwise

variable (m : (ℓ : Loc nD τ sig) → ℓ.2.ty.Contents (Elt Ideal)) (c : Dev nD)

/-- The two factors' entries. -/
def fa : ℕ → ℕ → EReal := entry (a := 4096) (b := 1024) (m ((c : Thread nD τ).loc main_arg0))
def fb : ℕ → ℕ → EReal := entry (a := 768) (b := 1024) (m ((c : Thread nD τ).loc main_arg1))

theorem iblk_0 (t : Fin cfg0.N) (i : Fin 512) (l : Fin 1024) :
    (iblk m c 0 t (ix2 i l) : EReal) = fa m c (512 * (t.val % 8) + i) l := by
  obtain ⟨h0, h1⟩ := idx_0 t
  show (((cfg0.win 0).blk t).view.read (Elt Ideal) (V m c main_arg0) (ix2 i l) : EReal) = _
  rw [V_main_arg0 m c, View.read_apply]
  refine entry_at (a := 4096) (b := 1024) (m ((c : Thread nD τ).loc main_arg0)) _ ?_ ?_
  · show win0_0.index t 0 * 512 + 1 * (i : ℕ) = _
    omega
  · show win0_0.index t 1 * 1024 + 1 * (l : ℕ) = _
    omega

theorem iblk_1 (t : Fin cfg0.N) (j : Fin 768) (l : Fin 1024) :
    (iblk m c 1 t (ix2 j l) : EReal) = fb m c (768 * (t.val / 8) + j) l := by
  obtain ⟨h0, h1⟩ := idx_1 t
  show (((cfg0.win 1).blk t).view.read (Elt Ideal) (V m c main_arg1) (ix2 j l) : EReal) = _
  rw [V_main_arg1 m c, View.read_apply]
  refine entry_at (a := 768) (b := 1024) (m ((c : Thread nD τ).loc main_arg1)) _ ?_ ?_
  · show win0_1.index t 0 * 768 + 1 * (j : ℕ) = _
    omega
  · show win0_1.index t 1 * 1024 + 1 * (l : ℕ) = _
    omega

/-- The product as an array. -/
def out : FVec Ideal S4096x768 .f32 := fun i => (∑ l : Fin 1024, fa m c (i 0) l * fb m c (i 1) l : EReal)

theorem flushed_2 (t : Fin cfg0.N) :
    (dats m 0 c).flushed 2 t = ((cfg0.win 2).blk t).view.read (Elt Ideal) (out m c) := by
  refine (Cert.Kernel19Ideal.Value.flushed2 m c t).trans ?_
  funext y
  obtain ⟨i, j, rfl⟩ : ∃ (i : Fin 512) (j : Fin 768), y = ix2 i j := ⟨y 0, y 1, eq_ix2 y⟩
  have e := pay (iblk m c 0 t) (iblk m c 1 t) i j
  simp only [iblk_0, iblk_1] at e
  have e1 : (out0_2 (iblk m c 0 t) (iblk m c 1 t) (ix2 i j) : EReal) = k0_pay1 (iblk m c 0 t) (iblk m c 1 t) (ix2 i j) := by
    frame_out
  refine (e1.trans e).trans ?_
  obtain ⟨h0, h1⟩ := idx_2 t
  rw [View.read_apply]
  show _ = ∑ l : Fin 1024, fa m c (win0_2.index t 0 * 512 + 1 * (i : ℕ)) l * fb m c (win0_2.index t 1 * 768 + 1 * (j : ℕ)) l
  rw [h0, h1, show t.val % 8 * 512 + 1 * (i : ℕ) = 512 * (t.val % 8) + i by omega, show t.val / 8 * 768 + 1 * (j : ℕ) = 768 * (t.val / 8) + j by omega]

theorem final : (dats m 0 c).arrAt 2 cfg0.N = out m c :=
  (dats m 0 c).arrAt_eq_of_cover 2 (out m c) (fun t _ => flushed_2 m c t) fun i => by
    have b0 : (i 0 : ℕ) < 4096 := (i 0).isLt
    have b1 : (i 1 : ℕ) < 768 := (i 1).isLt
    obtain ⟨t, ht⟩ : ∃ t : Fin cfg0.N, t.val = (i 1 : ℕ) / 768 * 8 + (i 0 : ℕ) / 512 := ⟨⟨(i 1 : ℕ) / 768 * 8 + (i 0 : ℕ) / 512, show _ < grid0.N by rw [N_0]; omega⟩, rfl⟩
    obtain ⟨h0, h1⟩ := idx_2 t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 512 ≤ (i 0 : ℕ) ∧ (i 0 : ℕ) < win0_2.index t 0 * 512 + 512
      omega
    | ⟨1, _⟩ =>
      show win0_2.index t 1 * 768 ≤ (i 1 : ℕ) ∧ (i 1 : ℕ) < win0_2.index t 1 * 768 + 768
      omega

/-- The reference's product of the same two factors. -/
theorem reference_eq (a : FVec Ideal Cert.Reference19Ideal.S4096x1024 .f32) (b : FVec Ideal Cert.Reference19Ideal.S768x1024 .bf16)
    (ha : a = m ((c : Thread nD τ).loc main_arg0)) (hb : b = m ((c : Thread nD τ).loc main_arg1)) :
    Host.dotGeneral Cert.Reference19Ideal.dot_S4096x1024_S768x1024_S4096x768_1_1_0_0_n_n none a (extf .f32 b Cert.Reference19Ideal.Gen.bitsLt_bf16_f32) = out m c := by
  funext y
  obtain ⟨i, j, rfl⟩ : ∃ (i : Fin 4096) (j : Fin 768), y = ix2 i j := ⟨y 0, y 1, eq_ix2 y⟩
  show _ = ∑ l : Fin 1024, fa m c i l * fb m c j l
  unfold fa fb
  rw [← ha, ← hb]
  pointwise
  refine Finset.sum_congr rfl fun l _ => ?_
  rw [entry_fin a, entry_fin b]

theorem frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run m ρ)

/-- The kernel's result is the reference's. -/
theorem algebraic : Cert.algebraic_Kernel19Ideal_Reference19Ideal := by
  intro m g m' g' _ hargs
  refine ⟨fun c => out m c, ?_, ?_⟩
  · refine (θ_run Cert.Kernel19Ideal.defs _ _).mono (fun r h c => ?_) (Cert.Kernel19Ideal.Value.run_blocks m g)
    exact ⟨(h c).1.trans (final m c), (h c).2⟩
  · refine (θ_run Cert.Reference19Ideal.defs _ _).mono (fun r h c => ?_) (Cert.Reference19Ideal.Value.run m' g')
    exact ⟨(h c).1.trans (reference_eq m c _ _ (hargs c).1 (hargs c).2), (h c).2⟩

end Cert.UqDa

end
-- ==== Proof.UqDb.lean ====
/- The gradient of the weights of the queries' projection, four blocks of rows summed in the scratch. -/
module

public import proofs.«01_k».proof.Defs
public import proofs.«01_k».proof.Proof.Product
public import Idealize.ShloMosaic.Lib.Pipeline.ValueKit
public import proofs.«01_k».proof.Proof.Gen.Kernel20Ideal.Value
public import proofs.«01_k».proof.Proof.Gen.Reference20Ideal.Run

@[expose] public section

set_option maxRecDepth 16384

noncomputable section

namespace Cert.UqDb

open Idealize.ShloMosaic Idealize.ShloMosaic.TcCoe Idealize.ShloMosaic.Tactic
open Cert.Kernel20Ideal Cert.Kernel20Ideal.Gen Cert.Product

theorem idx_0 : ∀ t : Fin cfg0.N, win0_0.index t 0 = t.val % 4 ∧ win0_0.index t 1 = t.val / 4 :=
  (by decide +kernel : ∀ t : Fin grid0.N, _)

theorem idx_1 : ∀ t : Fin cfg0.N, win0_1.index t 0 = t.val % 4 ∧ win0_1.index t 1 = 0 :=
  (by decide +kernel : ∀ t : Fin grid0.N, _)

theorem idx_2 : ∀ t : Fin cfg0.N, win0_2.index t 0 = t.val / 4 ∧ win0_2.index t 1 = 0 :=
  (by decide +kernel : ∀ t : Fin grid0.N, _)

/-- The product of two blocks: the first transposed. -/
theorem pay_first (x : FVec Ideal S1024x768 .f32) (y : FVec Ideal S1024x1024 .f32) (i : Fin 768) (j : Fin 1024) :
    (k0_pay2 (F := Ideal) x y (ix2 i j) : EReal) = ∑ l : Fin 1024, (x (ix2 l i) : EReal) * y (ix2 l j) := by
  unfold k0_pay2 k0_pay1
  pointwise

theorem pay_next (x : FVec Ideal S1024x768 .f32) (y : FVec Ideal S1024x1024 .f32) (z : FVec Ideal S768x1024 .f32) (i : Fin 768) (j : Fin 1024) :
    (k0_pay3 (F := Ideal) x y z (ix2 i j) : EReal) = z (ix2 i j) + ∑ l : Fin 1024, (x (ix2 l i) : EReal) * y (ix2 l j) := by
  unfold k0_pay3 k0_pay1
  pointwise

theorem pay_out (z : FVec Ideal S768x1024 .f32) (i : Fin 768) (j : Fin 1024) :
    (k0_pay4 (F := Ideal) z (ix2 i j) : EReal) = z (ix2 i j) := by
  unfold k0_pay4
  pointwise

variable (m : (ℓ : Loc nD τ sig) → ℓ.2.ty.Contents (Elt Ideal)) (c : Dev nD)

/-- The two factors' entries. -/
def fa : ℕ → ℕ → EReal := entry (a := 4096) (b := 768) (m ((c : Thread nD τ).loc main_arg0))
def fb : ℕ → ℕ → EReal := entry (a := 4096) (b := 1024) (m ((c : Thread nD τ).loc main_arg1))

theorem iblk_0 (t : Fin cfg0.N) (l : Fin 1024) (i : Fin 768) :
    (iblk m c 0 t (ix2 l i) : EReal) = fa m c (1024 * (t.val % 4) + l) (768 * (t.val / 4) + i) := by
  obtain ⟨h0, h1⟩ := idx_0 t
  show (((cfg0.win 0).blk t).view.read (Elt Ideal) (V m c main_arg0) (ix2 l i) : EReal) = _
  rw [V_main_arg0 m c, View.read_apply]
  refine entry_at (a := 4096) (b := 768) (m ((c : Thread nD τ).loc main_arg0)) _ ?_ ?_
  · show win0_0.index t 0 * 1024 + 1 * (l : ℕ) = _
    omega
  · show win0_0.index t 1 * 768 + 1 * (i : ℕ) = _
    omega

theorem iblk_1 (t : Fin cfg0.N) (l : Fin 1024) (j : Fin 1024) :
    (iblk m c 1 t (ix2 l j) : EReal) = fb m c (1024 * (t.val % 4) + l) j := by
  obtain ⟨h0, h1⟩ := idx_1 t
  show (((cfg0.win 1).blk t).view.read (Elt Ideal) (V m c main_arg1) (ix2 l j) : EReal) = _
  rw [V_main_arg1 m c, View.read_apply]
  refine entry_at (a := 4096) (b := 1024) (m ((c : Thread nD τ).loc main_arg1)) _ ?_ ?_
  · show win0_1.index t 0 * 1024 + 1 * (l : ℕ) = _
    omega
  · show win0_1.index t 1 * 1024 + 1 * (j : ℕ) = _
    omega

/-- What the scratch holds after a point: the sum over the rows read so far. -/
theorem sums (i : Fin 768) (j : Fin 1024) (n : ℕ) (hn : n < cfg0.N) : ((outsAt0 m c n hn).2 (ix2 i j) : EReal)
    = 0 + ∑ l ∈ Finset.range (1024 * (n % 4 + 1)), fa m c l (768 * (n / 4) + i) * fb m c l j := by
  refine runs 4 1024 (fun n hn => ((outsAt0 m c n hn).2 (ix2 i j) : EReal)) (fun _ => 0)
    (fun q l => fa m c l (768 * q + i) * fb m c l j) (fun t h0 => ?_) (fun t h0 => ?_) n hn
  · have hN : t.val < 4 := lt_of_lt_of_eq t.isLt N_0
    rw [outsAt0_A m c t h0 (by omega) (by omega)]
    dsimp only
    frame_out
    refine (pay_first _ _ i j).trans ?_
    rw [zero_add]
    simp only [iblk_0, iblk_1]
  · have e := pay_next (iblk m c 0 t) (iblk m c 1 t) (outsAt0 m c (t.val - 1) (Nat.lt_of_le_of_lt (Nat.sub_le _ _) t.isLt)).2 i j
    simp only [iblk_0, iblk_1] at e
    refine Eq.trans ?_ e
    by_cases h2 : t.val % 4 = 3
    · rw [outsAt0_C m c t h0 (by omega) h2]
      dsimp only
      frame_out
      rw [Memref.IsWhole.read_unread (Memref.isWhole_whole cc0_scratch0)]
    · rw [outsAt0_B m c t h0 (by omega) h2]
      dsimp only
      frame_out
      rw [Memref.IsWhole.read_unread (Memref.isWhole_whole cc0_scratch0)]

/-- The product as an array. -/
def out : FVec Ideal S768x1024 .bf16 := fun i => (∑ l ∈ Finset.range 4096, fa m c l (i 0) * fb m c l (i 1) : EReal)

/-- At the last point of a run the output is the sum the scratch holds. -/
theorem flushed_2 (t : Fin cfg0.N) (h2 : t.val % 4 = 3) :
    (dats m 0 c).flushed 2 t = ((cfg0.win 2).blk t).view.read (Elt Ideal) (out m c) := by
  refine (Cert.Kernel20Ideal.Value.flushed2 m c t).trans ?_
  funext y
  obtain ⟨i, j, rfl⟩ : ∃ (i : Fin 768) (j : Fin 1024), y = ix2 i j := ⟨y 0, y 1, eq_ix2 y⟩
  have e := sums m c i j t.val t.isLt
  rw [h2, zero_add] at e
  have e1 : ((outsAt0 m c t.val t.isLt).1 (ix2 i j) : EReal) = (outsAt0 m c t.val t.isLt).2 (ix2 i j) := by
    rw [outsAt0_C m c t (by omega) (by omega) h2]
    dsimp only
    frame_out
    exact pay_out _ i j
  refine (e1.trans e).trans ?_
  obtain ⟨h0, h1⟩ := idx_2 t
  rw [View.read_apply]
  show _ = ∑ l ∈ Finset.range 4096, fa m c l (win0_2.index t 0 * 768 + 1 * (i : ℕ)) * fb m c l (win0_2.index t 1 * 1024 + 1 * (j : ℕ))
  rw [h0, h1, show t.val / 4 * 768 + 1 * (i : ℕ) = 768 * (t.val / 4) + i by omega, show 0 * 1024 + 1 * (j : ℕ) = j by omega]

theorem final : (dats m 0 c).arrAt 2 cfg0.N = out m c :=
  (dats m 0 c).arrAt_eq_of_cover 2 (out m c) (fun t hf => flushed_2 m c t ((flush0_2 t).mp hf)) fun i =>
    (Cert.Kernel20Ideal.Value.covered_iff2 i).mpr ⟨Nat.zero_le _, (i 0).isLt, Nat.zero_le _, (i 1).isLt⟩

/-- The reference's product of the same two factors. -/
theorem reference_eq (a : FVec Ideal Cert.Reference20Ideal.S4096x768 .f32) (b : FVec Ideal Cert.Reference20Ideal.S4096x1024 .f32)
    (ha : a = m ((c : Thread nD τ).loc main_arg0)) (hb : b = m ((c : Thread nD τ).loc main_arg1)) :
    truncf .bf16 (transpose Cert.Reference20Ideal.S768x1024 [1, 0] (Host.dotGeneral Cert.Reference20Ideal.dot_S4096x1024_S4096x768_S1024x768_0_0_1_1_n_n none b a)
      Cert.Reference20Ideal.Gen.transposes_S1024x768_S768x1024_1_0) Cert.Reference20Ideal.Gen.bitsLt_bf16_f32 = out m c := by
  funext y
  obtain ⟨i, j, rfl⟩ : ∃ (i : Fin 768) (j : Fin 1024), y = ix2 i j := ⟨y 0, y 1, eq_ix2 y⟩
  show _ = ∑ l ∈ Finset.range 4096, fa m c l i * fb m c l j
  unfold fa fb
  rw [← ha, ← hb, Finset.sum_range]
  pointwise
  refine Finset.sum_congr rfl fun l _ => ?_
  rw [mul_comm, entry_fin b, entry_fin a]

theorem frame_reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run m ρ)

/-- The kernel's result is the reference's. -/
theorem algebraic : Cert.algebraic_Kernel20Ideal_Reference20Ideal := by
  intro m g m' g' _ hargs
  refine ⟨fun c => out m c, ?_, ?_⟩
  · refine (θ_run Cert.Kernel20Ideal.defs _ _).mono (fun r h c => ?_) (Cert.Kernel20Ideal.Value.run_blocks m g)
    exact ⟨(h c).1.trans (final m c), (h c).2⟩
  · refine (θ_run Cert.Reference20Ideal.defs _ _).mono (fun r h c => ?_) (Cert.Reference20Ideal.Value.run m' g')
    exact ⟨(h c).1.trans (reference_eq m c _ _ (hargs c).1 (hargs c).2), (h c).2⟩

end Cert.UqDb

end
-- ==== Proof.UkvFwd.lean ====
/- The keys' and values' projection: every point's block of the result is a whole product. -/
module

public import proofs.«01_k».proof.Defs
public import proofs.«01_k».proof.Proof.Product
public import Idealize.ShloMosaic.Lib.Pipeline.ValueKit
public import proofs.«01_k».proof.Proof.Gen.Kernel21Ideal.Value
public import proofs.«01_k».proof.Proof.Gen.Reference21Ideal.Run

@[expose] public section

set_option maxRecDepth 16384

noncomputable section

namespace Cert.UkvFwd

open Idealize.ShloMosaic Idealize.ShloMosaic.TcCoe Idealize.ShloMosaic.Tactic
open Cert.Kernel21Ideal Cert.Kernel21Ideal.Gen Cert.Product

theorem idx_0 : ∀ t : Fin cfg0.N, win0_0.index t 0 = t.val % 8 ∧ win0_0.index t 1 = 0 :=
  (by decide +kernel : ∀ t : Fin grid0.N, _)

theorem idx_1 : ∀ t : Fin cfg0.N, win0_1.index t 0 = 0 ∧ win0_1.index t 1 = t.val / 8 :=
  (by decide +kernel : ∀ t : Fin grid0.N, _)

theorem idx_2 : ∀ t : Fin cfg0.N, win0_2.index t 0 = t.val % 8 ∧ win0_2.index t 1 = t.val / 8 :=
  (by decide +kernel : ∀ t : Fin grid0.N, _)

/-- The product of two blocks. -/
theorem pay (x : FVec Ideal S512x256 .f32) (y : FVec Ideal S256x1024 .bf16) (i : Fin 512) (j : Fin 1024) :
    (k0_pay1 (F := Ideal) x y (ix2 i j) : EReal) = ∑ l : Fin 256, (x (ix2 i l) : EReal) * y (ix2 l j) := by
  unfold k0_pay1
  pointwise

variable (m : (ℓ : Loc nD τ sig) → ℓ.2.ty.Contents (Elt Ideal)) (c : Dev nD)

/-- The two factors' entries. -/
def fa : ℕ → ℕ → EReal := entry (a := 4096) (b := 256) (m ((c : Thread nD τ).loc main_arg0))
def fb : ℕ → ℕ → EReal := entry (a := 256) (b := 1024) (m ((c : Thread nD τ).loc main_arg1))

theorem iblk_0 (t : Fin cfg0.N) (i : Fin 512) (l : Fin 256) :
    (iblk m c 0 t (ix2 i l) : EReal) = fa m c (512 * (t.val % 8) + i) l := by
  obtain ⟨h0, h1⟩ := idx_0 t
  show (((cfg0.win 0).blk t).view.read (Elt Ideal) (V m c main_arg0) (ix2 i l) : EReal) = _
  rw [V_main_arg0 m c, View.read_apply]
  refine entry_at (a := 4096) (b := 256) (m ((c : Thread nD τ).loc main_arg0)) _ ?_ ?_
  · show win0_0.index t 0 * 512 + 1 * (i : ℕ) = _
    omega
  · show win0_0.index t 1 * 256 + 1 * (l : ℕ) = _
    omega

theorem iblk_1 (t : Fin cfg0.N) (l : Fin 256) (j : Fin 1024) :
    (iblk m c 1 t (ix2 l j) : EReal) = fb m c l (1024 * (t.val / 8) + j) := by
  obtain ⟨h0, h1⟩ := idx_1 t
  show (((cfg0.win 1).blk t).view.read (Elt Ideal) (V m c main_arg1) (ix2 l j) : EReal) = _
  rw [V_main_arg1 m c, View.read_apply]
  refine entry_at (a := 256) (b := 1024) (m ((c : Thread nD τ).loc main_arg1)) _ ?_ ?_
  · show win0_1.index t 0 * 256 + 1 * (l : ℕ) = _
    omega
  · show win0_1.index t 1 * 1024 + 1 * (j : ℕ) = _
    omega

/-- The product as an array. -/
def out : FVec Ideal S4096x1024 .f32 := fun i => (∑ l : Fin 256, fa m c (i 0) l * fb m c l (i 1) : EReal)

theorem flushed_2 (t : Fin cfg0.N) :
    (dats m 0 c).flushed 2 t = ((cfg0.win 2).blk t).view.read (Elt Ideal) (out m c) := by
  refine (Cert.Kernel21Ideal.Value.flushed2 m c t).trans ?_
  funext y
  obtain ⟨i, j, rfl⟩ : ∃ (i : Fin 512) (j : Fin 1024), y = ix2 i j := ⟨y 0, y 1, eq_ix2 y⟩
  have e := pay (iblk m c 0 t) (iblk m c 1 t) i j
  simp only [iblk_0, iblk_1] at e
  have e1 : (out0_2 (iblk m c 0 t) (iblk m c 1 t) (ix2 i j) : EReal) = k0_pay1 (iblk m c 0 t) (iblk m c 1 t) (ix2 i j) := by
    frame_out
  refine (e1.trans e).trans ?_
  obtain ⟨h0, h1⟩ := idx_2 t
  rw [View.read_apply]
  show _ = ∑ l : Fin 256, fa m c (win0_2.index t 0 * 512 + 1 * (i : ℕ)) l * fb m c l (win0_2.index t 1 * 1024 + 1 * (j : ℕ))
  rw [h0, h1, show t.val % 8 * 512 + 1 * (i : ℕ) = 512 * (t.val % 8) + i by omega, show t.val / 8 * 1024 + 1 * (j : ℕ) = 1024 * (t.val / 8) + j by omega]

theorem final : (dats m 0 c).arrAt 2 cfg0.N = out m c :=
  (dats m 0 c).arrAt_eq_of_cover 2 (out m c) (fun t _ => flushed_2 m c t) fun i => by
    have b0 : (i 0 : ℕ) < 4096 := (i 0).isLt
    have b1 : (i 1 : ℕ) < 1024 := (i 1).isLt
    obtain ⟨t, ht⟩ : ∃ t : Fin cfg0.N, t.val = (i 1 : ℕ) / 1024 * 8 + (i 0 : ℕ) / 512 := ⟨⟨(i 1 : ℕ) / 1024 * 8 + (i 0 : ℕ) / 512, show _ < grid0.N by rw [N_0]; omega⟩, rfl⟩
    obtain ⟨h0, h1⟩ := idx_2 t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 512 ≤ (i 0 : ℕ) ∧ (i 0 : ℕ) < win0_2.index t 0 * 512 + 512
      omega
    | ⟨1, _⟩ =>
      show win0_2.index t 1 * 1024 ≤ (i 1 : ℕ) ∧ (i 1 : ℕ) < win0_2.index t 1 * 1024 + 1024
      omega

/-- The reference's product of the same two factors. -/
theorem reference_eq (a : FVec Ideal Cert.Reference21Ideal.S4096x256 .f32) (b : FVec Ideal Cert.Reference21Ideal.S256x1024 .bf16)
    (ha : a = m ((c : Thread nD τ).loc main_arg0)) (hb : b = m ((c : Thread nD τ).loc main_arg1)) :
    Host.dotGeneral Cert.Reference21Ideal.dot_S4096x256_S256x1024_S4096x1024_1_0_0_1_n_n none a (extf .f32 b Cert.Reference21Ideal.Gen.bitsLt_bf16_f32) = out m c := by
  funext y
  obtain ⟨i, j, rfl⟩ : ∃ (i : Fin 4096) (j : Fin 1024), y = ix2 i j := ⟨y 0, y 1, eq_ix2 y⟩
  show _ = ∑ l : Fin 256, fa m c i l * fb m c l j
  unfold fa fb
  rw [← ha, ← hb]
  pointwise
  refine Finset.sum_congr rfl fun l _ => ?_
  rw [entry_fin a, entry_fin b]

theorem frame_reference : Cert.quiescent_Reference21Ideal := fun m ρ _ =>
  (θ_run Cert.Reference21Ideal.defs _ _).mono (fun r h => ⟨fun c => (h c).2, sem_eq_zero_of_no_sems (by decide) r.2⟩)
    (Cert.Reference21Ideal.Value.run m ρ)

/-- The kernel's result is the reference's. -/
theorem algebraic : Cert.algebraic_Kernel21Ideal_Reference21Ideal := by
  intro m g m' g' _ hargs
  refine ⟨fun c => out m c, ?_, ?_⟩
  · refine (θ_run Cert.Kernel21Ideal.defs _ _).mono (fun r h c => ?_) (Cert.Kernel21Ideal.Value.run_blocks m g)
    exact ⟨(h c).1.trans (final m c), (h c).2⟩
  · refine (θ_run Cert.Reference21Ideal.defs _ _).mono (fun r h c => ?_) (Cert.Reference21Ideal.Value.run m' g')
    exact ⟨(h c).1.trans (reference_eq m c _ _ (hargs c).1 (hargs c).2), (h c).2⟩

end Cert.UkvFwd

end
-- ==== Proof.UkvDa.lean ====
/- The gradient of the rows through the keys' and values' projection: every point's block is a whole product with the weights transposed. -/
module

public import proofs.«01_k».proof.Defs
public import proofs.«01_k».proof.Proof.Product
public import Idealize.ShloMosaic.Lib.Pipeline.ValueKit
public import proofs.«01_k».proof.Proof.Gen.Kernel22Ideal.Value
public import proofs.«01_k».proof.Proof.Gen.Reference22Ideal.Run

@[expose] public section

set_option maxRecDepth 16384

noncomputable section

namespace Cert.UkvDa

open Idealize.ShloMosaic Idealize.ShloMosaic.TcCoe Idealize.ShloMosaic.Tactic
open Cert.Kernel22Ideal Cert.Kernel22Ideal.Gen Cert.Product

theorem idx_0 : ∀ t : Fin cfg0.N, win0_0.index t 0 = t.val % 8 ∧ win0_0.index t 1 = 0 :=
  (by decide +kernel : ∀ t : Fin grid0.N, _)

theorem idx_1 : ∀ t : Fin cfg0.N, win0_1.index t 0 = t.val / 8 ∧ win0_1.index t 1 = 0 :=
  (by decide +kernel : ∀ t : Fin grid0.N, _)

theorem idx_2 : ∀ t : Fin cfg0.N, win0_2.index t 0 = t.val % 8 ∧ win0_2.index t 1 = t.val / 8 :=
  (by decide +kernel : ∀ t : Fin grid0.N, _)

/-- The product of two blocks, the second transposed. -/
theorem pay (x : FVec Ideal S512x1024 .f32) (y : FVec Ideal S256x1024 .bf16) (i : Fin 512) (j : Fin 256) :
    (k0_pay1 (F := Ideal) x y (ix2 i j) : EReal) = ∑ l : Fin 1024, (x (ix2 i l) : EReal) * y (ix2 j l) := by
  unfold k0_pay1
  pointwise

variable (m : (ℓ : Loc nD τ sig) → ℓ.2.ty.Contents (Elt Ideal)) (c : Dev nD)

/-- The two factors' entries. -/
def fa : ℕ → ℕ → EReal := entry (a := 4096) (b := 1024) (m ((c : Thread nD τ).loc main_arg0))
def fb : ℕ → ℕ → EReal := entry (a := 256) (b := 1024) (m ((c : Thread nD τ).loc main_arg1))

theorem iblk_0 (t : Fin cfg0.N) (i : Fin 512) (l : Fin 1024) :
    (iblk m c 0 t (ix2 i l) : EReal) = fa m c (512 * (t.val % 8) + i) l := by
  obtain ⟨h0, h1⟩ := idx_0 t
  show (((cfg0.win 0).blk t).view.read (Elt Ideal) (V m c main_arg0) (ix2 i l) : EReal) = _
  rw [V_main_arg0 m c, View.read_apply]
  refine entry_at (a := 4096) (b := 1024) (m ((c : Thread nD τ).loc main_arg0)) _ ?_ ?_
  · show win0_0.index t 0 * 512 + 1 * (i : ℕ) = _
    omega
  · show win0_0.index t 1 * 1024 + 1 * (l : ℕ) = _
    omega

theorem iblk_1 (t : Fin cfg0.N) (j : Fin 256) (l : Fin 1024) :
    (iblk m c 1 t (ix2 j l) : EReal) = fb m c (256 * (t.val / 8) + j) l := by
  obtain ⟨h0, h1⟩ := idx_1 t
  show (((cfg0.win 1).blk t).view.read (Elt Ideal) (V m c main_arg1) (ix2 j l) : EReal) = _
  rw [V_main_arg1 m c, View.read_apply]
  refine entry_at (a := 256) (b := 1024) (m ((c : Thread nD τ).loc main_arg1)) _ ?_ ?_
  · show win0_1.index t 0 * 256 + 1 * (j : ℕ) = _
    omega
  · show win0_1.index t 1 * 1024 + 1 * (l : ℕ) = _
    omega

/-- The product as an array. -/
def out : FVec Ideal S4096x256 .f32 := fun i => (∑ l : Fin 1024, fa m c (i 0) l * fb m c (i 1) l : EReal)

theorem flushed_2 (t : Fin cfg0.N) :
    (dats m 0 c).flushed 2 t = ((cfg0.win 2).blk t).view.read (Elt Ideal) (out m c) := by
  refine (Cert.Kernel22Ideal.Value.flushed2 m c t).trans ?_
  funext y
  obtain ⟨i, j, rfl⟩ : ∃ (i : Fin 512) (j : Fin 256), y = ix2 i j := ⟨y 0, y 1, eq_ix2 y⟩
  have e := pay (iblk m c 0 t) (iblk m c 1 t) i j
  simp only [iblk_0, iblk_1] at e
  have e1 : (out0_2 (iblk m c 0 t) (iblk m c 1 t) (ix2 i j) : EReal) = k0_pay1 (iblk m c 0 t) (iblk m c 1 t) (ix2 i j) := by
    frame_out
  refine (e1.trans e).trans ?_
  obtain ⟨h0, h1⟩ := idx_2 t
  rw [View.read_apply]
  show _ = ∑ l : Fin 1024, fa m c (win0_2.index t 0 * 512 + 1 * (i : ℕ)) l * fb m c (win0_2.index t 1 * 256 + 1 * (j : ℕ)) l
  rw [h0, h1, show t.val % 8 * 512 + 1 * (i : ℕ) = 512 * (t.val % 8) + i by omega, show t.val / 8 * 256 + 1 * (j : ℕ) = 256 * (t.val / 8) + j by omega]

theorem final : (dats m 0 c).arrAt 2 cfg0.N = out m c :=
  (dats m 0 c).arrAt_eq_of_cover 2 (out m c) (fun t _ => flushed_2 m c t) fun i => by
    have b0 : (i 0 : ℕ) < 4096 := (i 0).isLt
    have b1 : (i 1 : ℕ) < 256 := (i 1).isLt
    obtain ⟨t, ht⟩ : ∃ t : Fin cfg0.N, t.val = (i 1 : ℕ) / 256 * 8 + (i 0 : ℕ) / 512 := ⟨⟨(i 1 : ℕ) / 256 * 8 + (i 0 : ℕ) / 512, show _ < grid0.N by rw [N_0]; omega⟩, rfl⟩
    obtain ⟨h0, h1⟩ := idx_2 t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 512 ≤ (i 0 : ℕ) ∧ (i 0 : ℕ) < win0_2.index t 0 * 512 + 512
      omega
    | ⟨1, _⟩ =>
      show win0_2.index t 1 * 256 ≤ (i 1 : ℕ) ∧ (i 1 : ℕ) < win0_2.index t 1 * 256 + 256
      omega

/-- The reference's product of the same two factors. -/
theorem reference_eq (a : FVec Ideal Cert.Reference22Ideal.S4096x1024 .f32) (b : FVec Ideal Cert.Reference22Ideal.S256x1024 .bf16)
    (ha : a = m ((c : Thread nD τ).loc main_arg0)) (hb : b = m ((c : Thread nD τ).loc main_arg1)) :
    Host.dotGeneral Cert.Reference22Ideal.dot_S4096x1024_S256x1024_S4096x256_1_1_0_0_n_n none a (extf .f32 b Cert.Reference22Ideal.Gen.bitsLt_bf16_f32) = out m c := by
  funext y
  obtain ⟨i, j, rfl⟩ : ∃ (i : Fin 4096) (j : Fin 256), y = ix2 i j := ⟨y 0, y 1, eq_ix2 y⟩
  show _ = ∑ l : Fin 1024, fa m c i l * fb m c j l
  unfold fa fb
  rw [← ha, ← hb]
  pointwise
  refine Finset.sum_congr rfl fun l _ => ?_
  rw [entry_fin a, entry_fin b]

theorem frame_reference : Cert.quiescent_Reference22Ideal := fun m ρ _ =>
  (θ_run Cert.Reference22Ideal.defs _ _).mono (fun r h => ⟨fun c => (h c).2, sem_eq_zero_of_no_sems (by decide) r.2⟩)
    (Cert.Reference22Ideal.Value.run m ρ)

/-- The kernel's result is the reference's. -/
theorem algebraic : Cert.algebraic_Kernel22Ideal_Reference22Ideal := by
  intro m g m' g' _ hargs
  refine ⟨fun c => out m c, ?_, ?_⟩
  · refine (θ_run Cert.Kernel22Ideal.defs _ _).mono (fun r h c => ?_) (Cert.Kernel22Ideal.Value.run_blocks m g)
    exact ⟨(h c).1.trans (final m c), (h c).2⟩
  · refine (θ_run Cert.Reference22Ideal.defs _ _).mono (fun r h c => ?_) (Cert.Reference22Ideal.Value.run m' g')
    exact ⟨(h c).1.trans (reference_eq m c _ _ (hargs c).1 (hargs c).2), (h c).2⟩

end Cert.UkvDa

end
-- ==== Proof.UkvDb.lean ====
/- The gradient of the weights of the keys' and values' projection, four blocks of rows summed in the scratch. -/
module

public import proofs.«01_k».proof.Defs
public import proofs.«01_k».proof.Proof.Product
public import Idealize.ShloMosaic.Lib.Pipeline.ValueKit
public import proofs.«01_k».proof.Proof.Gen.Kernel23Ideal.Value
public import proofs.«01_k».proof.Proof.Gen.Reference23Ideal.Run

@[expose] public section

set_option maxRecDepth 16384

noncomputable section

namespace Cert.UkvDb

open Idealize.ShloMosaic Idealize.ShloMosaic.TcCoe Idealize.ShloMosaic.Tactic
open Cert.Kernel23Ideal Cert.Kernel23Ideal.Gen Cert.Product

theorem idx_0 : ∀ t : Fin cfg0.N, win0_0.index t 0 = t.val % 4 ∧ win0_0.index t 1 = t.val / 4 :=
  (by decide +kernel : ∀ t : Fin grid0.N, _)

theorem idx_1 : ∀ t : Fin cfg0.N, win0_1.index t 0 = t.val % 4 ∧ win0_1.index t 1 = 0 :=
  (by decide +kernel : ∀ t : Fin grid0.N, _)

theorem idx_2 : ∀ t : Fin cfg0.N, win0_2.index t 0 = t.val / 4 ∧ win0_2.index t 1 = 0 :=
  (by decide +kernel : ∀ t : Fin grid0.N, _)

/-- The product of two blocks: the first transposed. -/
theorem pay_first (x : FVec Ideal S1024x256 .f32) (y : FVec Ideal S1024x1024 .f32) (i : Fin 256) (j : Fin 1024) :
    (k0_pay2 (F := Ideal) x y (ix2 i j) : EReal) = ∑ l : Fin 1024, (x (ix2 l i) : EReal) * y (ix2 l j) := by
  unfold k0_pay2 k0_pay1
  pointwise

theorem pay_next (x : FVec Ideal S1024x256 .f32) (y : FVec Ideal S1024x1024 .f32) (z : FVec Ideal S256x1024 .f32) (i : Fin 256) (j : Fin 1024) :
    (k0_pay3 (F := Ideal) x y z (ix2 i j) : EReal) = z (ix2 i j) + ∑ l : Fin 1024, (x (ix2 l i) : EReal) * y (ix2 l j) := by
  unfold k0_pay3 k0_pay1
  pointwise

theorem pay_out (z : FVec Ideal S256x1024 .f32) (i : Fin 256) (j : Fin 1024) :
    (k0_pay4 (F := Ideal) z (ix2 i j) : EReal) = z (ix2 i j) := by
  unfold k0_pay4
  pointwise

variable (m : (ℓ : Loc nD τ sig) → ℓ.2.ty.Contents (Elt Ideal)) (c : Dev nD)

/-- The two factors' entries. -/
def fa : ℕ → ℕ → EReal := entry (a := 4096) (b := 256) (m ((c : Thread nD τ).loc main_arg0))
def fb : ℕ → ℕ → EReal := entry (a := 4096) (b := 1024) (m ((c : Thread nD τ).loc main_arg1))

theorem iblk_0 (t : Fin cfg0.N) (l : Fin 1024) (i : Fin 256) :
    (iblk m c 0 t (ix2 l i) : EReal) = fa m c (1024 * (t.val % 4) + l) (256 * (t.val / 4) + i) := by
  obtain ⟨h0, h1⟩ := idx_0 t
  show (((cfg0.win 0).blk t).view.read (Elt Ideal) (V m c main_arg0) (ix2 l i) : EReal) = _
  rw [V_main_arg0 m c, View.read_apply]
  refine entry_at (a := 4096) (b := 256) (m ((c : Thread nD τ).loc main_arg0)) _ ?_ ?_
  · show win0_0.index t 0 * 1024 + 1 * (l : ℕ) = _
    omega
  · show win0_0.index t 1 * 256 + 1 * (i : ℕ) = _
    omega

theorem iblk_1 (t : Fin cfg0.N) (l : Fin 1024) (j : Fin 1024) :
    (iblk m c 1 t (ix2 l j) : EReal) = fb m c (1024 * (t.val % 4) + l) j := by
  obtain ⟨h0, h1⟩ := idx_1 t
  show (((cfg0.win 1).blk t).view.read (Elt Ideal) (V m c main_arg1) (ix2 l j) : EReal) = _
  rw [V_main_arg1 m c, View.read_apply]
  refine entry_at (a := 4096) (b := 1024) (m ((c : Thread nD τ).loc main_arg1)) _ ?_ ?_
  · show win0_1.index t 0 * 1024 + 1 * (l : ℕ) = _
    omega
  · show win0_1.index t 1 * 1024 + 1 * (j : ℕ) = _
    omega

/-- What the scratch holds after a point: the sum over the rows read so far. -/
theorem sums (i : Fin 256) (j : Fin 1024) (n : ℕ) (hn : n < cfg0.N) : ((outsAt0 m c n hn).2 (ix2 i j) : EReal)
    = 0 + ∑ l ∈ Finset.range (1024 * (n % 4 + 1)), fa m c l (256 * (n / 4) + i) * fb m c l j := by
  refine runs 4 1024 (fun n hn => ((outsAt0 m c n hn).2 (ix2 i j) : EReal)) (fun _ => 0)
    (fun q l => fa m c l (256 * q + i) * fb m c l j) (fun t h0 => ?_) (fun t h0 => ?_) n hn
  · have hN : t.val < 4 := lt_of_lt_of_eq t.isLt N_0
    rw [outsAt0_A m c t h0 (by omega) (by omega)]
    dsimp only
    frame_out
    refine (pay_first _ _ i j).trans ?_
    rw [zero_add]
    simp only [iblk_0, iblk_1]
  · have e := pay_next (iblk m c 0 t) (iblk m c 1 t) (outsAt0 m c (t.val - 1) (Nat.lt_of_le_of_lt (Nat.sub_le _ _) t.isLt)).2 i j
    simp only [iblk_0, iblk_1] at e
    refine Eq.trans ?_ e
    by_cases h2 : t.val % 4 = 3
    · rw [outsAt0_C m c t h0 (by omega) h2]
      dsimp only
      frame_out
      rw [Memref.IsWhole.read_unread (Memref.isWhole_whole cc0_scratch0)]
    · rw [outsAt0_B m c t h0 (by omega) h2]
      dsimp only
      frame_out
      rw [Memref.IsWhole.read_unread (Memref.isWhole_whole cc0_scratch0)]

/-- The product as an array. -/
def out : FVec Ideal S256x1024 .bf16 := fun i => (∑ l ∈ Finset.range 4096, fa m c l (i 0) * fb m c l (i 1) : EReal)

/-- At the last point of a run the output is the sum the scratch holds. -/
theorem flushed_2 (t : Fin cfg0.N) (h2 : t.val % 4 = 3) :
    (dats m 0 c).flushed 2 t = ((cfg0.win 2).blk t).view.read (Elt Ideal) (out m c) := by
  refine (Cert.Kernel23Ideal.Value.flushed2 m c t).trans ?_
  funext y
  obtain ⟨i, j, rfl⟩ : ∃ (i : Fin 256) (j : Fin 1024), y = ix2 i j := ⟨y 0, y 1, eq_ix2 y⟩
  have e := sums m c i j t.val t.isLt
  rw [h2, zero_add] at e
  have e1 : ((outsAt0 m c t.val t.isLt).1 (ix2 i j) : EReal) = (outsAt0 m c t.val t.isLt).2 (ix2 i j) := by
    rw [outsAt0_C m c t (by omega) (by omega) h2]
    dsimp only
    frame_out
    exact pay_out _ i j
  refine (e1.trans e).trans ?_
  obtain ⟨h0, h1⟩ := idx_2 t
  rw [View.read_apply]
  show _ = ∑ l ∈ Finset.range 4096, fa m c l (win0_2.index t 0 * 256 + 1 * (i : ℕ)) * fb m c l (win0_2.index t 1 * 1024 + 1 * (j : ℕ))
  rw [h0, h1, show t.val / 4 * 256 + 1 * (i : ℕ) = 256 * (t.val / 4) + i by omega, show 0 * 1024 + 1 * (j : ℕ) = j by omega]

theorem final : (dats m 0 c).arrAt 2 cfg0.N = out m c :=
  (dats m 0 c).arrAt_eq_of_cover 2 (out m c) (fun t hf => flushed_2 m c t ((flush0_2 t).mp hf)) fun i =>
    (Cert.Kernel23Ideal.Value.covered_iff2 i).mpr ⟨Nat.zero_le _, (i 0).isLt, Nat.zero_le _, (i 1).isLt⟩

/-- The reference's product of the same two factors. -/
theorem reference_eq (a : FVec Ideal Cert.Reference23Ideal.S4096x256 .f32) (b : FVec Ideal Cert.Reference23Ideal.S4096x1024 .f32)
    (ha : a = m ((c : Thread nD τ).loc main_arg0)) (hb : b = m ((c : Thread nD τ).loc main_arg1)) :
    truncf .bf16 (transpose Cert.Reference23Ideal.S256x1024 [1, 0] (Host.dotGeneral Cert.Reference23Ideal.dot_S4096x1024_S4096x256_S1024x256_0_0_1_1_n_n none b a)
      Cert.Reference23Ideal.Gen.transposes_S1024x256_S256x1024_1_0) Cert.Reference23Ideal.Gen.bitsLt_bf16_f32 = out m c := by
  funext y
  obtain ⟨i, j, rfl⟩ : ∃ (i : Fin 256) (j : Fin 1024), y = ix2 i j := ⟨y 0, y 1, eq_ix2 y⟩
  show _ = ∑ l ∈ Finset.range 4096, fa m c l i * fb m c l j
  unfold fa fb
  rw [← ha, ← hb, Finset.sum_range]
  pointwise
  refine Finset.sum_congr rfl fun l _ => ?_
  rw [mul_comm, entry_fin b, entry_fin a]

theorem frame_reference : Cert.quiescent_Reference23Ideal := fun m ρ _ =>
  (θ_run Cert.Reference23Ideal.defs _ _).mono (fun r h => ⟨fun c => (h c).2, sem_eq_zero_of_no_sems (by decide) r.2⟩)
    (Cert.Reference23Ideal.Value.run m ρ)

/-- The kernel's result is the reference's. -/
theorem algebraic : Cert.algebraic_Kernel23Ideal_Reference23Ideal := by
  intro m g m' g' _ hargs
  refine ⟨fun c => out m c, ?_, ?_⟩
  · refine (θ_run Cert.Kernel23Ideal.defs _ _).mono (fun r h c => ?_) (Cert.Kernel23Ideal.Value.run_blocks m g)
    exact ⟨(h c).1.trans (final m c), (h c).2⟩
  · refine (θ_run Cert.Reference23Ideal.defs _ _).mono (fun r h c => ?_) (Cert.Reference23Ideal.Value.run m' g')
    exact ⟨(h c).1.trans (reference_eq m c _ _ (hargs c).1 (hargs c).2), (h c).2⟩

end Cert.UkvDb

end
-- ==== Proof.lean ====
/- The claim: the frames of the kernels and of their references, and their results equal at the exact instance: the
   attention's where the arguments' entries are real numbers, the products' of all arguments. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Finite
public import proofs.«01_k».proof.Proof.RefResults
public import proofs.«01_k».proof.Proof.KernelFinal
public import proofs.«01_k».proof.Proof.UpDb
public import proofs.«01_k».proof.Proof.UpDa2
public import proofs.«01_k».proof.Proof.UpDa1
public import proofs.«01_k».proof.Proof.DownDa
public import proofs.«01_k».proof.Proof.DownDb
public import proofs.«01_k».proof.Proof.UpFwd
public import proofs.«01_k».proof.Proof.DownFwd
public import proofs.«01_k».proof.Proof.InFwd
public import proofs.«01_k».proof.Proof.InDb
public import proofs.«01_k».proof.Proof.InDa
public import proofs.«01_k».proof.Proof.OutFwd
public import proofs.«01_k».proof.Proof.OutDa
public import proofs.«01_k».proof.Proof.OutDb
public import proofs.«01_k».proof.Proof.In2Fwd
public import proofs.«01_k».proof.Proof.In2Db
public import proofs.«01_k».proof.Proof.In2Da
public import proofs.«01_k».proof.Proof.UqFwd
public import proofs.«01_k».proof.Proof.UqDa
public import proofs.«01_k».proof.Proof.UqDb
public import proofs.«01_k».proof.Proof.UkvFwd
public import proofs.«01_k».proof.Proof.UkvDa
public import proofs.«01_k».proof.Proof.UkvDb
public import Idealize.ShloMosaic.Adequacy
public import Idealize.ShloMosaic.Init

@[expose] public section

set_option maxRecDepth 16384

noncomputable section

namespace Cert.Proof

open Idealize.ShloMosaic Idealize.ShloMosaic.TcCoe Idealize.ShloMosaic.StableHlo Idealize.SL.Sem Cert.AttnBwd

/-- The reference leaves its arguments as they are; it has no semaphore. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run m ρ)

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories' arguments are equal on the device. -/
structure Agree : Prop where
  q : (m' ((c.tc : Thread Cert.ReferenceIdeal.nD Cert.ReferenceIdeal.τ).loc Cert.ReferenceIdeal.main_arg0) : FVec Ideal Cert.KernelIdeal.S2x2048x768 .f32)
    = m ((c.tc : Thread Cert.KernelIdeal.nD Cert.KernelIdeal.τ).loc Cert.KernelIdeal.main_arg0)
  kv : (m' ((c.tc : Thread Cert.ReferenceIdeal.nD Cert.ReferenceIdeal.τ).loc Cert.ReferenceIdeal.main_arg1) : FVec Ideal Cert.KernelIdeal.S2x2048x1024 .f32)
    = m ((c.tc : Thread Cert.KernelIdeal.nD Cert.KernelIdeal.τ).loc Cert.KernelIdeal.main_arg1)
  kr : (m' ((c.tc : Thread Cert.ReferenceIdeal.nD Cert.ReferenceIdeal.τ).loc Cert.ReferenceIdeal.main_arg2) : FVec Ideal Cert.KernelIdeal.S2x2048x32 .f32)
    = m ((c.tc : Thread Cert.KernelIdeal.nD Cert.KernelIdeal.τ).loc Cert.KernelIdeal.main_arg2)
  dO : (m' ((c.tc : Thread Cert.ReferenceIdeal.nD Cert.ReferenceIdeal.τ).loc Cert.ReferenceIdeal.main_arg3) : FVec Ideal Cert.KernelIdeal.S2x2048x512 .f32)
    = m ((c.tc : Thread Cert.KernelIdeal.nD Cert.KernelIdeal.τ).loc Cert.KernelIdeal.main_arg3)

/-- The kernel's arguments as real numbers. -/
def args : Args where
  q := reals3 (m ((c.tc : Thread Cert.KernelIdeal.nD Cert.KernelIdeal.τ).loc Cert.KernelIdeal.main_arg0) : FVec Ideal Cert.KernelIdeal.S2x2048x768 .f32)
  kv := reals3 (m ((c.tc : Thread Cert.KernelIdeal.nD Cert.KernelIdeal.τ).loc Cert.KernelIdeal.main_arg1) : FVec Ideal Cert.KernelIdeal.S2x2048x1024 .f32)
  kr := reals3 (m ((c.tc : Thread Cert.KernelIdeal.nD Cert.KernelIdeal.τ).loc Cert.KernelIdeal.main_arg2) : FVec Ideal Cert.KernelIdeal.S2x2048x32 .f32)
  dO := reals3 (m ((c.tc : Thread Cert.KernelIdeal.nD Cert.KernelIdeal.τ).loc Cert.KernelIdeal.main_arg3) : FVec Ideal Cert.KernelIdeal.S2x2048x512 .f32)

variable (hp : Pre_KernelIdeal_finite m) (ha : Agree m m' c)
include hp ha

/-- The reference's arguments hold them. -/
theorem holds : Ref.Holds (launchContents m' c) (args m c) := by
  obtain ⟨h0, h1, h2, h3⟩ := Cert.Pre_finite.finite _ _ _ _ (hp c)
  exact ⟨fun b t j => (congrFun ha.q (ix3 b t j)).trans (reals3_apply h0 b t j),
    fun b t j => (congrFun ha.kv (ix3 b t j)).trans (reals3_apply h1 b t j),
    fun b t j => (congrFun ha.kr (ix3 b t j)).trans (reals3_apply h2 b t j),
    fun b t j => (congrFun ha.dO (ix3 b t j)).trans (reals3_apply h3 b t j)⟩

/-- The kernel's arguments hold them, and its forward scores are the real scores. -/
theorem holds_kernel : Ker.Args.At m c (args m c) := by
  obtain ⟨h0, h1, h2, h3⟩ := Cert.Pre_finite.finite _ _ _ _ (hp c)
  have e0 := Cert.KernelIdeal.Gen.V_main_arg0 (F := Ideal) m c
  have e1 := Cert.KernelIdeal.Gen.V_main_arg1 (F := Ideal) m c
  have e2 := Cert.KernelIdeal.Gen.V_main_arg2 (F := Ideal) m c
  have e3 := Cert.KernelIdeal.Gen.V_main_arg3 (F := Ideal) m c
  exact ⟨fun b t j => (congrFun e0 (ix3 b t j)).trans (reals3_apply h0 b t j),
    fun b t j => (congrFun e1 (ix3 b t j)).trans (reals3_apply h1 b t j),
    fun b t j => (congrFun e2 (ix3 b t j)).trans (reals3_apply h2 b t j),
    fun b t j => (congrFun e3 (ix3 b t j)).trans (reals3_apply h3 b t j),
    fun b h i k => (congrFun (Ker.V_scores m c (launchContents m' c) (ha.q.trans e0.symm) (ha.kv.trans e1.symm)
      (ha.kr.trans e2.symm)) (ix4 b h i k)).trans (Ref.r54 (holds m m' c hp ha) b h i k)⟩

theorem ref_dq : (Cert.ReferenceIdeal.Value.val3 (launchContents m' c) (Proc.devRef .tc Cert.ReferenceIdeal.main_v140)
    : FVec Ideal Cert.KernelIdeal.S2x2048x1024 .f32) = Ker.dqArr (args m c) := by
  funext i
  obtain ⟨b, t, j, rfl⟩ : ∃ (b : Fin 2) (t : Fin 2048) (j : Fin 1024), i = ix3 b t j := ⟨i 0, i 1, i 2, eq_ix3 i⟩
  exact Ref.dq (holds m m' c hp ha) b t j

theorem ref_dkv : (Cert.ReferenceIdeal.Value.val3 (launchContents m' c) (Proc.devRef .tc Cert.ReferenceIdeal.main_v124)
    : FVec Ideal Cert.KernelIdeal.S2x2048x1024 .f32) = Ker.dkvArr (args m c) := by
  funext i
  obtain ⟨b, t, j, rfl⟩ : ∃ (b : Fin 2) (t : Fin 2048) (j : Fin 1024), i = ix3 b t j := ⟨i 0, i 1, i 2, eq_ix3 i⟩
  exact Ref.dkv (holds m m' c hp ha) b t j

theorem ref_dkr : (Cert.ReferenceIdeal.Value.val3 (launchContents m' c) (Proc.devRef .tc Cert.ReferenceIdeal.main_v141)
    : FVec Ideal Cert.KernelIdeal.S2x2048x128 .f32) = Ker.dkrArr (args m c) := by
  funext i
  obtain ⟨b, t, j, rfl⟩ : ∃ (b : Fin 2) (t : Fin 2048) (j : Fin 128), i = ix3 b t j := ⟨i 0, i 1, i 2, eq_ix3 i⟩
  exact Ref.dkr (holds m m' c hp ha) b t j

end Values

/-- The kernel's results are the reference's. -/
theorem algebraic : Cert.algebraic_KernelIdeal_ReferenceIdeal_pre_finite := by
  intro m g m' g' hp hargs
  have ha : ∀ c, Agree m m' c := fun c => ⟨(hargs c).1, (hargs c).2.1, (hargs c).2.2.1, (hargs c).2.2.2⟩
  refine ⟨fun c => Ker.dqArr (args m c), fun c => Ker.dkvArr (args m c), fun c => Ker.dkrArr (args m c), ?_, ?_⟩
  · refine (θ_run Cert.KernelIdeal.defs _ _).mono (fun r h c => ?_) (Cert.KernelIdeal.Value.run_blocks m g)
    have H := holds_kernel m m' c hp (ha c)
    obtain ⟨h0, h1, h2, h3⟩ := h c
    exact ⟨h0.trans (Ker.final_9 m c H), h1.trans (Ker.final_10 m c H), h2.trans (Ker.final_11 m c H), h3⟩
  · refine (θ_run Cert.ReferenceIdeal.defs _ _).mono (fun r h c => ?_) (Cert.ReferenceIdeal.Value.run m' g')
    obtain ⟨h0, h1, h2, h3⟩ := h c
    exact ⟨(h0.trans (Cert.ReferenceIdeal.Value.val3_main_v140 (launchContents m' c)).symm).trans (ref_dq m m' c hp (ha c)),
      (h1.trans (Cert.ReferenceIdeal.Value.val3_main_v124 (launchContents m' c)).symm).trans (ref_dkv m m' c hp (ha c)),
      (h2.trans (Cert.ReferenceIdeal.Value.val3_main_v141 (launchContents m' c)).symm).trans (ref_dkr m m' c hp (ha c)), h3⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Pre_finite.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, Cert.UpDb.frame_reference,
    fun m ρ _ => Cert.Kernel3.Gen.frame m ρ, fun m ρ _ => Cert.Kernel3Ideal.Gen.frame m ρ, Cert.UpDa2.frame_reference,
    fun m ρ _ => Cert.Kernel4.Gen.frame m ρ, fun m ρ _ => Cert.Kernel4Ideal.Gen.frame m ρ, Cert.UpDa1.frame_reference,
    fun m ρ _ => Cert.Kernel5.Gen.frame m ρ, fun m ρ _ => Cert.Kernel5Ideal.Gen.frame m ρ, Cert.DownDa.frame_reference,
    fun m ρ _ => Cert.Kernel6.Gen.frame m ρ, fun m ρ _ => Cert.Kernel6Ideal.Gen.frame m ρ, Cert.DownDb.frame_reference,
    fun m ρ _ => Cert.Kernel7.Gen.frame m ρ, fun m ρ _ => Cert.Kernel7Ideal.Gen.frame m ρ, Cert.UpFwd.frame_reference,
    fun m ρ _ => Cert.Kernel8.Gen.frame m ρ, fun m ρ _ => Cert.Kernel8Ideal.Gen.frame m ρ, Cert.DownFwd.frame_reference,
    fun m ρ _ => Cert.Kernel9.Gen.frame m ρ, fun m ρ _ => Cert.Kernel9Ideal.Gen.frame m ρ, Cert.InFwd.frame_reference,
    fun m ρ _ => Cert.Kernel10.Gen.frame m ρ, fun m ρ _ => Cert.Kernel10Ideal.Gen.frame m ρ, Cert.InDb.frame_reference,
    fun m ρ _ => Cert.Kernel11.Gen.frame m ρ, fun m ρ _ => Cert.Kernel11Ideal.Gen.frame m ρ, Cert.InDa.frame_reference,
    fun m ρ _ => Cert.Kernel12.Gen.frame m ρ, fun m ρ _ => Cert.Kernel12Ideal.Gen.frame m ρ, Cert.OutFwd.frame_reference,
    fun m ρ _ => Cert.Kernel13.Gen.frame m ρ, fun m ρ _ => Cert.Kernel13Ideal.Gen.frame m ρ, Cert.OutDa.frame_reference,
    fun m ρ _ => Cert.Kernel14.Gen.frame m ρ, fun m ρ _ => Cert.Kernel14Ideal.Gen.frame m ρ, Cert.OutDb.frame_reference,
    fun m ρ _ => Cert.Kernel15.Gen.frame m ρ, fun m ρ _ => Cert.Kernel15Ideal.Gen.frame m ρ, Cert.In2Fwd.frame_reference,
    fun m ρ _ => Cert.Kernel16.Gen.frame m ρ, fun m ρ _ => Cert.Kernel16Ideal.Gen.frame m ρ, Cert.In2Db.frame_reference,
    fun m ρ _ => Cert.Kernel17.Gen.frame m ρ, fun m ρ _ => Cert.Kernel17Ideal.Gen.frame m ρ, Cert.In2Da.frame_reference,
    fun m ρ _ => Cert.Kernel18.Gen.frame m ρ, fun m ρ _ => Cert.Kernel18Ideal.Gen.frame m ρ, Cert.UqFwd.frame_reference,
    fun m ρ _ => Cert.Kernel19.Gen.frame m ρ, fun m ρ _ => Cert.Kernel19Ideal.Gen.frame m ρ, Cert.UqDa.frame_reference,
    fun m ρ _ => Cert.Kernel20.Gen.frame m ρ, fun m ρ _ => Cert.Kernel20Ideal.Gen.frame m ρ, Cert.UqDb.frame_reference,
    fun m ρ _ => Cert.Kernel21.Gen.frame m ρ, fun m ρ _ => Cert.Kernel21Ideal.Gen.frame m ρ, Cert.UkvFwd.frame_reference,
    fun m ρ _ => Cert.Kernel22.Gen.frame m ρ, fun m ρ _ => Cert.Kernel22Ideal.Gen.frame m ρ, Cert.UkvDa.frame_reference,
    fun m ρ _ => Cert.Kernel23.Gen.frame m ρ, fun m ρ _ => Cert.Kernel23Ideal.Gen.frame m ρ, Cert.UkvDb.frame_reference,
    trivial, algebraic, trivial, Cert.UpDb.algebraic, trivial, Cert.UpDa2.algebraic, trivial, Cert.UpDa1.algebraic, trivial, Cert.DownDa.algebraic, trivial, Cert.DownDb.algebraic, trivial, Cert.UpFwd.algebraic, trivial, Cert.DownFwd.algebraic, trivial, Cert.InFwd.algebraic, trivial, Cert.InDb.algebraic, trivial, Cert.InDa.algebraic, trivial, Cert.OutFwd.algebraic, trivial, Cert.OutDa.algebraic, trivial, Cert.OutDb.algebraic, trivial, Cert.In2Fwd.algebraic, trivial, Cert.In2Db.algebraic, trivial, Cert.In2Da.algebraic, trivial, Cert.UqFwd.algebraic, trivial, Cert.UqDa.algebraic, trivial, Cert.UqDb.algebraic, trivial, Cert.UkvFwd.algebraic, trivial, Cert.UkvDa.algebraic, trivial, Cert.UkvDb.algebraic⟩

end Cert.Proof

end
